-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) (main_arg4 : FVec F S1024x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S2048x1024 .f32 := (extf .f32 · bitsLt_bf16_f32) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  main_v16
-- ==== Pre_finite_ReferenceIdeal.lean ====
abbrev S2048x1024 : Shape := ⟨2, ![2048, 1024]⟩
abbrev S1024x1024 : Shape := ⟨2, ![1024, 1024]⟩
abbrev S8192x1024 : Shape := ⟨2, ![8192, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S2048x1024 .bf16) (main_arg1 : FVec F S1024x1024 .bf16) (main_arg2 : FVec F S8192x1024 .bf16) (main_arg3 : FVec F S8192x1024 .bf16) (main_arg4 : FVec F S1024x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  main_v16
-- ==== Kernel.lean ====
abbrev S2048x1024 : Shape := ⟨2, ![2048, 1024]⟩
abbrev S1024x1024 : Shape := ⟨2, ![1024, 1024]⟩
abbrev S2x160x1152 : Shape := ⟨3, ![2, 160, 1152]⟩
abbrev S160x1152 : Shape := ⟨2, ![160, 1152]⟩
abbrev S2 : Shape := ⟨1, ![2]⟩
abbrev S8 : Shape := ⟨1, ![8]⟩
abbrev S4 : Shape := ⟨1, ![4]⟩
abbrev S_ : Shape := ⟨0, ![]⟩
abbrev S128x1024 : Shape := ⟨2, ![128, 1024]⟩
abbrev S128x2048 : Shape := ⟨2, ![128, 2048]⟩
abbrev S128x128 : Shape := ⟨2, ![128, 128]⟩
abbrev S2048x128 : Shape := ⟨2, ![2048, 128]⟩
abbrev S128 : Shape := ⟨1, ![128]⟩
abbrev S128x1 : Shape := ⟨2, ![128, 1]⟩
abbrev S32x128 : Shape := ⟨2, ![32, 128]⟩
abbrev S1x32x128 : Shape := ⟨3, ![1, 32, 128]⟩
abbrev S128x120 : Shape := ⟨2, ![128, 120]⟩
abbrev S1x128x128 : Shape := ⟨3, ![1, 128, 128]⟩
abbrev S1x160x1152 : Shape := ⟨3, ![1, 160, 1152]⟩
abbrev S1 : Shape := ⟨1, ![1]⟩
abbrev S128x512 : Shape := ⟨2, ![128, 512]⟩
abbrev S128x384 : Shape := ⟨2, ![128, 384]⟩
abbrev S384x128 : Shape := ⟨2, ![384, 128]⟩
abbrev S512x128 : Shape := ⟨2, ![512, 128]⟩
abbrev S256x1024 : Shape := ⟨2, ![256, 1024]⟩
abbrev S160x128 : Shape := ⟨2, ![160, 128]⟩
abbrev S160x1 : Shape := ⟨2, ![160, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .bf16⟩
  | .local _ .vmem, ⟨7, _⟩ => ⟨S2x160x1152, .bf16⟩
  | .local _ .vmem, ⟨8, _⟩ => ⟨S160x1152, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 3 46 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v27 : BitVec 32 := Scalar.muli v13 c1_i32_14
  let v28 : BitVec 32 := Scalar.addi c0_i32_15 v27
  v28.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v29 : BitVec 32 := Scalar.muli v24 c1_i32_17
  let v30 : BitVec 32 := Scalar.addi c0_i32_18 v29
  v30.toNat
def k0_dev3 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_217 : BitVec 32 := 1#32
  let v378 : BitVec 32 := Scalar.muli v24 c1_i32_217
  let v379 : BitVec 32 := Scalar.addi c0_i32_218 v378
  v379.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_223 : BitVec 32 := 0#32
  let v388 : BitVec 1 := Scalar.cmpi .eq v2 c0_i32_223
  let v389 : BitVec 32 := Scalar.extui v388
  let c0_i32_224 : BitVec 32 := 0#32
  let v390 : BitVec 1 := Scalar.cmpi .ne v389 c0_i32_224
  v390

@[reducible] def k0_t1_loop : Scf.Loop 32 :=
  let c1_i32_363 : BitVec 32 := 1#32
  let c5_i32 : BitVec 32 := 5#32
  let v555 : BitVec 32 := Scalar.addi c1_i32_363 c5_i32
  let c1_i32_364 : BitVec 32 := 1#32
  ⟨c1_i32_363, v555, c1_i32_364⟩
def k0_off1 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v592 : Index := Scalar.indexCast v588
  let c0_403 : Index := 0#32
  ![v592.toNat, 0]
def k0_off2 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v629 : Index := Scalar.indexCast v591
  let c0_416 : Index := 0#32
  ![v629.toNat, 0]
def k0_off3 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v651 : Index := Scalar.indexCast v588
  let c0_424 : Index := 0#32
  ![v651.toNat, 0]
def k0_off4 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v657 : Index := Scalar.indexCast v591
  let c128_427 : Index := 128#32
  ![v657.toNat, 128]
def k0_off5 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v679 : Index := Scalar.indexCast v588
  let c128_435 : Index := 128#32
  ![v679.toNat, 128]
def k0_off6 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v685 : Index := Scalar.indexCast v591
  let c256_438 : Index := 256#32
  ![v685.toNat, 256]
def k0_off7 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v707 : Index := Scalar.indexCast v588
  let c256_446 : Index := 256#32
  ![v707.toNat, 256]
def k0_off8 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v713 : Index := Scalar.indexCast v591
  let c384_449 : Index := 384#32
  ![v713.toNat, 384]
def k0_off9 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v735 : Index := Scalar.indexCast v588
  let c384_457 : Index := 384#32
  ![v735.toNat, 384]
def k0_off10 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v741 : Index := Scalar.indexCast v591
  let c512_460 : Index := 512#32
  ![v741.toNat, 512]
def k0_off11 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v763 : Index := Scalar.indexCast v588
  let c512_468 : Index := 512#32
  ![v763.toNat, 512]
def k0_off12 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v769 : Index := Scalar.indexCast v591
  let c640_471 : Index := 640#32
  ![v769.toNat, 640]
def k0_off13 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v791 : Index := Scalar.indexCast v588
  let c640_479 : Index := 640#32
  ![v791.toNat, 640]
def k0_off14 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v797 : Index := Scalar.indexCast v591
  let c768_482 : Index := 768#32
  ![v797.toNat, 768]
def k0_off15 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v819 : Index := Scalar.indexCast v588
  let c768_490 : Index := 768#32
  ![v819.toNat, 768]
def k0_off16 (k0_t1 : Fin k0_t1_loop.trips) : Fin 2 → Nat :=
  let c128_i32_402 : BitVec 32 := 128#32
  let c1_i32_363 : BitVec 32 := 1#32
  let c1_i32_364 : BitVec 32 := 1#32
  let arg18 : BitVec 32 := Scf.iv c1_i32_363 c1_i32_364 k0_t1
  let c1_i32_401 : BitVec 32 := 1#32
  let v589 : BitVec 32 := Scalar.subi arg18 c1_i32_401
  let v590 : BitVec 32 := Scalar.muli c128_i32_402 v589
  let c1664_i32 : BitVec 32 := 1664#32
  let v591 : BitVec 32 := Scalar.minsi v590 c1664_i32
  let v825 : Index := Scalar.indexCast v591
  let c896_493 : Index := 896#32
  ![v825.toNat, 896]
def k0_off17 (k0_t1 : Fin k0_t1_loop.trips) : Fin 2 → Nat :=
  let c1_i32_363 : BitVec 32 := 1#32
  let c1_i32_364 : BitVec 32 := 1#32
  let arg18 : BitVec 32 := Scf.iv c1_i32_363 c1_i32_364 k0_t1
  let c128_i32_400 : BitVec 32 := 128#32
  let v588 : BitVec 32 := Scalar.muli arg18 c128_i32_400
  let v847 : Index := Scalar.indexCast v588
  let c896_501 : Index := 896#32
  ![v847.toNat, 896]
def k0_dev4 : Nat :=
  let c0_i32_370 : BitVec 32 := 0#32
  let c1_i32_368 : BitVec 32 := 1#32
  let c1_i32_369 : BitVec 32 := 1#32
  let v556 : BitVec 32 := Scalar.muli c1_i32_368 c1_i32_369
  let v557 : BitVec 32 := Scalar.addi c0_i32_370 v556
  v557.toNat
def k0_dev5 : Nat :=
  let c0_i32_378 : BitVec 32 := 0#32
  let c3_i32_376 : BitVec 32 := 3#32
  let c1_i32_377 : BitVec 32 := 1#32
  let v564 : BitVec 32 := Scalar.muli c3_i32_376 c1_i32_377
  let v565 : BitVec 32 := Scalar.addi c0_i32_378 v564
  v565.toNat
def k0_dev6 : Nat :=
  let c0_i32_387 : BitVec 32 := 0#32
  let c1_i32_385 : BitVec 32 := 1#32
  let c1_i32_386 : BitVec 32 := 1#32
  let v572 : BitVec 32 := Scalar.muli c1_i32_385 c1_i32_386
  let v573 : BitVec 32 := Scalar.addi c0_i32_387 v572
  v573.toNat
def k0_dev7 : Nat :=
  let c0_i32_395 : BitVec 32 := 0#32
  let c3_i32_393 : BitVec 32 := 3#32
  let c1_i32_394 : BitVec 32 := 1#32
  let v580 : BitVec 32 := Scalar.muli c3_i32_393 c1_i32_394
  let v581 : BitVec 32 := Scalar.addi c0_i32_395 v580
  v581.toNat
def k0_dev8 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_246 : BitVec 32 := 1#32
  let v407 : BitVec 32 := Scalar.muli v13 c1_i32_246
  let v408 : BitVec 32 := Scalar.addi c0_i32_247 v407
  v408.toNat
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_261 : BitVec 32 := 1#32
  let v419 : BitVec 32 := Scalar.muli v24 c1_i32_261
  let v420 : BitVec 32 := Scalar.addi c0_i32_262 v419
  v420.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_267 : BitVec 32 := 0#32
  let v429 : BitVec 1 := Scalar.cmpi .eq v2 c0_i32_267
  let v430 : BitVec 32 := Scalar.extui v429
  let c0_i32_268 : BitVec 32 := 0#32
  let v431 : BitVec 1 := Scalar.cmpi .ne v430 c0_i32_268
  v431

@[reducible] def k0_t2_loop : Scf.Loop 32 :=
  let c6_i32 : BitVec 32 := 6#32
  let c5_i32 : BitVec 32 := 5#32
  let v507 : BitVec 32 := Scalar.addi c6_i32 c5_i32
  let c1_i32_347 : BitVec 32 := 1#32
  ⟨c6_i32, v507, c1_i32_347⟩
def k0_off18 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v544 : Index := Scalar.indexCast v540
  let c0_386 : Index := 0#32
  ![v544.toNat, 0]
def k0_off19 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v581 : Index := Scalar.indexCast v543
  let c0_399 : Index := 0#32
  ![v581.toNat, 0]
def k0_off20 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v603 : Index := Scalar.indexCast v540
  let c0_407 : Index := 0#32
  ![v603.toNat, 0]
def k0_off21 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v609 : Index := Scalar.indexCast v543
  let c128_410 : Index := 128#32
  ![v609.toNat, 128]
def k0_off22 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v631 : Index := Scalar.indexCast v540
  let c128_418 : Index := 128#32
  ![v631.toNat, 128]
def k0_off23 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v637 : Index := Scalar.indexCast v543
  let c256_421 : Index := 256#32
  ![v637.toNat, 256]
def k0_off24 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v659 : Index := Scalar.indexCast v540
  let c256_429 : Index := 256#32
  ![v659.toNat, 256]
def k0_off25 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v665 : Index := Scalar.indexCast v543
  let c384_432 : Index := 384#32
  ![v665.toNat, 384]
def k0_off26 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v687 : Index := Scalar.indexCast v540
  let c384_440 : Index := 384#32
  ![v687.toNat, 384]
def k0_off27 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v693 : Index := Scalar.indexCast v543
  let c512_443 : Index := 512#32
  ![v693.toNat, 512]
def k0_off28 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v715 : Index := Scalar.indexCast v540
  let c512_451 : Index := 512#32
  ![v715.toNat, 512]
def k0_off29 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v721 : Index := Scalar.indexCast v543
  let c640_454 : Index := 640#32
  ![v721.toNat, 640]
def k0_off30 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v743 : Index := Scalar.indexCast v540
  let c640_462 : Index := 640#32
  ![v743.toNat, 640]
def k0_off31 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v749 : Index := Scalar.indexCast v543
  let c768_465 : Index := 768#32
  ![v749.toNat, 768]
def k0_off32 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v771 : Index := Scalar.indexCast v540
  let c768_473 : Index := 768#32
  ![v771.toNat, 768]
def k0_off33 (k0_t2 : Fin k0_t2_loop.trips) : Fin 2 → Nat :=
  let c128_i32_385 : BitVec 32 := 128#32
  let c6_i32 : BitVec 32 := 6#32
  let c1_i32_347 : BitVec 32 := 1#32
  let arg18 : BitVec 32 := Scf.iv c6_i32 c1_i32_347 k0_t2
  let c1_i32_384 : BitVec 32 := 1#32
  let v541 : BitVec 32 := Scalar.subi arg18 c1_i32_384
  let v542 : BitVec 32 := Scalar.muli c128_i32_385 v541
  let c1664_i32 : BitVec 32 := 1664#32
  let v543 : BitVec 32 := Scalar.minsi v542 c1664_i32
  let v777 : Index := Scalar.indexCast v543
  let c896_476 : Index := 896#32
  ![v777.toNat, 896]
def k0_off34 (k0_t2 : Fin k0_t2_loop.trips) : Fin 2 → Nat :=
  let c6_i32 : BitVec 32 := 6#32
  let c1_i32_347 : BitVec 32 := 1#32
  let arg18 : BitVec 32 := Scf.iv c6_i32 c1_i32_347 k0_t2
  let c128_i32_383 : BitVec 32 := 128#32
  let v540 : BitVec 32 := Scalar.muli arg18 c128_i32_383
  let v799 : Index := Scalar.indexCast v540
  let c896_484 : Index := 896#32
  ![v799.toNat, 896]
def k0_dev10 : Nat :=
  let c0_i32_353 : BitVec 32 := 0#32
  let c1_i32_351 : BitVec 32 := 1#32
  let c1_i32_352 : BitVec 32 := 1#32
  let v508 : BitVec 32 := Scalar.muli c1_i32_351 c1_i32_352
  let v509 : BitVec 32 := Scalar.addi c0_i32_353 v508
  v509.toNat
def k0_dev11 : Nat :=
  let c0_i32_361 : BitVec 32 := 0#32
  let c3_i32_359 : BitVec 32 := 3#32
  let c1_i32_360 : BitVec 32 := 1#32
  let v516 : BitVec 32 := Scalar.muli c3_i32_359 c1_i32_360
  let v517 : BitVec 32 := Scalar.addi c0_i32_361 v516
  v517.toNat
def k0_dev12 : Nat :=
  let c0_i32_370 : BitVec 32 := 0#32
  let c1_i32_368 : BitVec 32 := 1#32
  let c1_i32_369 : BitVec 32 := 1#32
  let v524 : BitVec 32 := Scalar.muli c1_i32_368 c1_i32_369
  let v525 : BitVec 32 := Scalar.addi c0_i32_370 v524
  v525.toNat
def k0_dev13 : Nat :=
  let c0_i32_378 : BitVec 32 := 0#32
  let c3_i32_376 : BitVec 32 := 3#32
  let c1_i32_377 : BitVec 32 := 1#32
  let v532 : BitVec 32 := Scalar.muli c3_i32_376 c1_i32_377
  let v533 : BitVec 32 := Scalar.addi c0_i32_378 v532
  v533.toNat
def k0_dev14 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_290 : BitVec 32 := 1#32
  let v448 : BitVec 32 := Scalar.muli v13 c1_i32_290
  let v449 : BitVec 32 := Scalar.addi c0_i32_291 v448
  v449.toNat
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_306 : BitVec 32 := 1#32
  let v460 : BitVec 32 := Scalar.muli v24 c1_i32_306
  let v461 : BitVec 32 := Scalar.addi c0_i32_307 v460
  v461.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_312 : BitVec 32 := 0#32
  let v470 : BitVec 1 := Scalar.cmpi .eq v2 c0_i32_312
  let v471 : BitVec 32 := Scalar.extui v470
  let c0_i32_313 : BitVec 32 := 0#32
  let v472 : BitVec 1 := Scalar.cmpi .ne v471 c0_i32_313
  v472

@[reducible] def k0_t3_loop : Scf.Loop 32 :=
  let c11_i32 : BitVec 32 := 11#32
  let c4_i32_347 : BitVec 32 := 4#32
  let v507 : BitVec 32 := Scalar.addi c11_i32 c4_i32_347
  let c1_i32_348 : BitVec 32 := 1#32
  ⟨c11_i32, v507, c1_i32_348⟩
def k0_off35 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v544 : Index := Scalar.indexCast v540
  let c0_385 : Index := 0#32
  ![v544.toNat, 0]
def k0_off36 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v581 : Index := Scalar.indexCast v543
  let c0_398 : Index := 0#32
  ![v581.toNat, 0]
def k0_off37 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v603 : Index := Scalar.indexCast v540
  let c0_406 : Index := 0#32
  ![v603.toNat, 0]
def k0_off38 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v609 : Index := Scalar.indexCast v543
  let c128_409 : Index := 128#32
  ![v609.toNat, 128]
def k0_off39 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v631 : Index := Scalar.indexCast v540
  let c128_417 : Index := 128#32
  ![v631.toNat, 128]
def k0_off40 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v637 : Index := Scalar.indexCast v543
  let c256_420 : Index := 256#32
  ![v637.toNat, 256]
def k0_off41 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v659 : Index := Scalar.indexCast v540
  let c256_428 : Index := 256#32
  ![v659.toNat, 256]
def k0_off42 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v665 : Index := Scalar.indexCast v543
  let c384_431 : Index := 384#32
  ![v665.toNat, 384]
def k0_off43 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v687 : Index := Scalar.indexCast v540
  let c384_439 : Index := 384#32
  ![v687.toNat, 384]
def k0_off44 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v693 : Index := Scalar.indexCast v543
  let c512_442 : Index := 512#32
  ![v693.toNat, 512]
def k0_off45 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v715 : Index := Scalar.indexCast v540
  let c512_450 : Index := 512#32
  ![v715.toNat, 512]
def k0_off46 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v721 : Index := Scalar.indexCast v543
  let c640_453 : Index := 640#32
  ![v721.toNat, 640]
def k0_off47 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v743 : Index := Scalar.indexCast v540
  let c640_461 : Index := 640#32
  ![v743.toNat, 640]
def k0_off48 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v749 : Index := Scalar.indexCast v543
  let c768_464 : Index := 768#32
  ![v749.toNat, 768]
def k0_off49 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v771 : Index := Scalar.indexCast v540
  let c768_472 : Index := 768#32
  ![v771.toNat, 768]
def k0_off50 (k0_t3 : Fin k0_t3_loop.trips) : Fin 2 → Nat :=
  let c128_i32_384 : BitVec 32 := 128#32
  let c11_i32 : BitVec 32 := 11#32
  let c1_i32_348 : BitVec 32 := 1#32
  let arg18 : BitVec 32 := Scf.iv c11_i32 c1_i32_348 k0_t3
  let c1_i32_383 : BitVec 32 := 1#32
  let v541 : BitVec 32 := Scalar.subi arg18 c1_i32_383
  let v542 : BitVec 32 := Scalar.muli c128_i32_384 v541
  let c1664_i32 : BitVec 32 := 1664#32
  let v543 : BitVec 32 := Scalar.minsi v542 c1664_i32
  let v777 : Index := Scalar.indexCast v543
  let c896_475 : Index := 896#32
  ![v777.toNat, 896]
def k0_off51 (k0_t3 : Fin k0_t3_loop.trips) : Fin 2 → Nat :=
  let c11_i32 : BitVec 32 := 11#32
  let c1_i32_348 : BitVec 32 := 1#32
  let arg18 : BitVec 32 := Scf.iv c11_i32 c1_i32_348 k0_t3
  let c128_i32_382 : BitVec 32 := 128#32
  let v540 : BitVec 32 := Scalar.muli arg18 c128_i32_382
  let v799 : Index := Scalar.indexCast v540
  let c896_483 : Index := 896#32
  ![v799.toNat, 896]
def k0_dev16 : Nat :=
  let c0_i32_353 : BitVec 32 := 0#32
  let c1_i32_351 : BitVec 32 := 1#32
  let c1_i32_352 : BitVec 32 := 1#32
  let v508 : BitVec 32 := Scalar.muli c1_i32_351 c1_i32_352
  let v509 : BitVec 32 := Scalar.addi c0_i32_353 v508
  v509.toNat
def k0_dev17 : Nat :=
  let c0_i32_361 : BitVec 32 := 0#32
  let c3_i32_359 : BitVec 32 := 3#32
  let c1_i32_360 : BitVec 32 := 1#32
  let v516 : BitVec 32 := Scalar.muli c3_i32_359 c1_i32_360
  let v517 : BitVec 32 := Scalar.addi c0_i32_361 v516
  v517.toNat
def k0_dev18 : Nat :=
  let c0_i32_369 : BitVec 32 := 0#32
  let c1_i32_367 : BitVec 32 := 1#32
  let c1_i32_368 : BitVec 32 := 1#32
  let v524 : BitVec 32 := Scalar.muli c1_i32_367 c1_i32_368
  let v525 : BitVec 32 := Scalar.addi c0_i32_369 v524
  v525.toNat
def k0_dev19 : Nat :=
  let c0_i32_377 : BitVec 32 := 0#32
  let c3_i32_375 : BitVec 32 := 3#32
  let c1_i32_376 : BitVec 32 := 1#32
  let v532 : BitVec 32 := Scalar.muli c3_i32_375 c1_i32_376
  let v533 : BitVec 32 := Scalar.addi c0_i32_377 v532
  v533.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_340 : BitVec 32 := 0#32
  let v495 : BitVec 1 := Scalar.cmpi .eq v2 c0_i32_340
  let v496 : BitVec 32 := Scalar.extui v495
  let c0_i32_341 : BitVec 32 := 0#32
  let v497 : BitVec 1 := Scalar.cmpi .ne v496 c0_i32_341
  v497

def k0_dev20 : Nat :=
  let c0_i32_408 : BitVec 32 := 0#32
  let c1_i32_406 : BitVec 32 := 1#32
  let c1_i32_407 : BitVec 32 := 1#32
  let v611 : BitVec 32 := Scalar.muli c1_i32_406 c1_i32_407
  let v612 : BitVec 32 := Scalar.addi c0_i32_408 v611
  v612.toNat
def k0_dev21 : Nat :=
  let c0_i32_416 : BitVec 32 := 0#32
  let c3_i32_414 : BitVec 32 := 3#32
  let c1_i32_415 : BitVec 32 := 1#32
  let v619 : BitVec 32 := Scalar.muli c3_i32_414 c1_i32_415
  let v620 : BitVec 32 := Scalar.addi c0_i32_416 v619
  v620.toNat
def k0_dev22 : Nat :=
  let c0_i32_424 : BitVec 32 := 0#32
  let c1_i32_422 : BitVec 32 := 1#32
  let c1_i32_423 : BitVec 32 := 1#32
  let v627 : BitVec 32 := Scalar.muli c1_i32_422 c1_i32_423
  let v628 : BitVec 32 := Scalar.addi c0_i32_424 v627
  v628.toNat
def k0_dev23 : Nat :=
  let c0_i32_433 : BitVec 32 := 0#32
  let c3_i32_431 : BitVec 32 := 3#32
  let c1_i32_432 : BitVec 32 := 1#32
  let v635 : BitVec 32 := Scalar.muli c3_i32_431 c1_i32_432
  let v636 : BitVec 32 := Scalar.addi c0_i32_433 v635
  v636.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_342 : BitVec 32 := 1#32
  let v498 : BitVec 1 := Scalar.cmpi .eq v2 c1_i32_342
  let v499 : BitVec 32 := Scalar.extui v498
  let c0_i32_343 : BitVec 32 := 0#32
  let v500 : BitVec 1 := Scalar.cmpi .ne v499 c0_i32_343
  v500

def k0_dev24 : Nat :=
  let c0_i32_359 : BitVec 32 := 0#32
  let c2_i32_357 : BitVec 32 := 2#32
  let c1_i32_358 : BitVec 32 := 1#32
  let v513 : BitVec 32 := Scalar.muli c2_i32_357 c1_i32_358
  let v514 : BitVec 32 := Scalar.addi c0_i32_359 v513
  v514.toNat
def k0_dev25 : Nat :=
  let c0_i32_383 : BitVec 32 := 0#32
  let c2_i32_381 : BitVec 32 := 2#32
  let c1_i32_382 : BitVec 32 := 1#32
  let v532 : BitVec 32 := Scalar.muli c2_i32_381 c1_i32_382
  let v533 : BitVec 32 := Scalar.addi c0_i32_383 v532
  v533.toNat
def k0_dev26 : Nat :=
  let c0_i32_407 : BitVec 32 := 0#32
  let c2_i32_405 : BitVec 32 := 2#32
  let c1_i32_406 : BitVec 32 := 1#32
  let v551 : BitVec 32 := Scalar.muli c2_i32_405 c1_i32_406
  let v552 : BitVec 32 := Scalar.addi c0_i32_407 v551
  v552.toNat
def k0_dev27 : Nat :=
  let c0_i32_473 : BitVec 32 := 0#32
  let c2_i32_471 : BitVec 32 := 2#32
  let c1_i32_472 : BitVec 32 := 1#32
  let v603 : BitVec 32 := Scalar.muli c2_i32_471 c1_i32_472
  let v604 : BitVec 32 := Scalar.addi c0_i32_473 v603
  v604.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v501 : BitVec 1 := Scalar.cmpi .eq v2 c3_i32
  let v502 : BitVec 32 := Scalar.extui v501
  let c0_i32_344 : BitVec 32 := 0#32
  let v503 : BitVec 1 := Scalar.cmpi .ne v502 c0_i32_344
  v503

def k0_dev28 : Nat :=
  let c0_i32_404 : BitVec 32 := 0#32
  let c2_i32_402 : BitVec 32 := 2#32
  let c1_i32_403 : BitVec 32 := 1#32
  let v546 : BitVec 32 := Scalar.muli c2_i32_402 c1_i32_403
  let v547 : BitVec 32 := Scalar.addi c0_i32_404 v546
  v547.toNat
def k0_dev29 : Nat :=
  let c0_i32_427 : BitVec 32 := 0#32
  let c2_i32_425 : BitVec 32 := 2#32
  let c1_i32_426 : BitVec 32 := 1#32
  let v565 : BitVec 32 := Scalar.muli c2_i32_425 c1_i32_426
  let v566 : BitVec 32 := Scalar.addi c0_i32_427 v565
  v566.toNat
def k0_dev30 : Nat :=
  let c0_i32_449 : BitVec 32 := 0#32
  let c2_i32_447 : BitVec 32 := 2#32
  let c1_i32_448 : BitVec 32 := 1#32
  let v584 : BitVec 32 := Scalar.muli c2_i32_447 c1_i32_448
  let v585 : BitVec 32 := Scalar.addi c0_i32_449 v584
  v585.toNat
def k0_dev31 : Nat :=
  let c0_i32_487 : BitVec 32 := 0#32
  let c2_i32_485 : BitVec 32 := 2#32
  let c1_i32_486 : BitVec 32 := 1#32
  let v614 : BitVec 32 := Scalar.muli c2_i32_485 c1_i32_486
  let v615 : BitVec 32 := Scalar.addi c0_i32_487 v614
  v615.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x1024 : Shape := ⟨2, ![2048, 1024]⟩
abbrev S1024x1024 : Shape := ⟨2, ![1024, 1024]⟩
abbrev S8192x1024 : Shape := ⟨2, ![8192, 1024]⟩
abbrev S2048x8x128 : Shape := ⟨3, ![2048, 8, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S8192x8x128 : Shape := ⟨3, ![8192, 8, 128]⟩
abbrev S8x2048x8192 : Shape := ⟨3, ![8, 2048, 8192]⟩
abbrev S1x2048x8192 : Shape := ⟨3, ![1, 2048, 8192]⟩
abbrev S8x2048 : Shape := ⟨2, ![8, 2048]⟩
abbrev S8x2048x1 : Shape := ⟨3, ![8, 2048, 1]⟩
abbrev S1x2048x1 : Shape := ⟨3, ![1, 2048, 1]⟩
abbrev S8x128x2048 : Shape := ⟨3, ![8, 128, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S2048x1024, .f32⟩
  | .hbm, ⟨6, _⟩ => ⟨S2048x1024, .bf16⟩
  | .hbm, ⟨7, _⟩ => ⟨S2048x8x128, .bf16⟩
  | .hbm, ⟨8, _⟩ => ⟨S2048, .i32⟩
  | .hbm, ⟨9, _⟩ => ⟨S2048x1, .i32⟩
  | .hbm, ⟨10, _⟩ => ⟨S8192, .i32⟩
  | .hbm, ⟨11, _⟩ => ⟨S1x8192, .i32⟩
  | .hbm, ⟨12, _⟩ => ⟨S2048x8192, .i32⟩
  | .hbm, ⟨13, _⟩ => ⟨S2048x8192, .i32⟩
  | .hbm, ⟨14, _⟩ => ⟨S2048x8192, .i32⟩
  | .hbm, ⟨15, _⟩ => ⟨S2048x8192, .i32⟩
  | .hbm, ⟨16, _⟩ => ⟨S_, .i32⟩
  | .hbm, ⟨17, _⟩ => ⟨S2048x8192, .i32⟩
  | .hbm, ⟨18, _⟩ => ⟨S2048x8192, .i1⟩
  | .hbm, ⟨19, _⟩ => ⟨S_, .i32⟩
  | .hbm, ⟨20, _⟩ => ⟨S1x8192, .i32⟩
  | .hbm, ⟨21, _⟩ => ⟨S1x8192, .i1⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S2048x8192, .i1⟩
  | .hbm, ⟨26, _⟩ => ⟨S2048x8192, .i1⟩
  | .hbm, ⟨27, _⟩ => ⟨S2048x8192, .i1⟩
  | .hbm, ⟨28, _⟩ => ⟨S2048x8192, .i1⟩
  | .hbm, ⟨29, _⟩ => ⟨S8192x8x128, .bf16⟩
  | .hbm, ⟨30, _⟩ => ⟨S8x2048x8192, .f32⟩
  | .hbm, ⟨31, _⟩ => ⟨S8x2048x8192, .bf16⟩
  | .hbm, ⟨32, _⟩ => ⟨S8x2048x8192, .f32⟩
  | .hbm, ⟨33, _⟩ => ⟨S_, .f32⟩
  | .hbm, ⟨34, _⟩ => ⟨S8x2048x8192, .f32⟩
  | .hbm, ⟨35, _⟩ => ⟨S8x2048x8192, .f32⟩
  | .hbm, ⟨36, _⟩ => ⟨S1x2048x8192, .i1⟩
  | .hbm, ⟨37, _⟩ => ⟨S_, .f32⟩
  | .hbm, ⟨38, _⟩ => ⟨S_, .f32⟩
  | .hbm, ⟨39, _⟩ => ⟨S8x2048x8192, .i1⟩
  | .hbm, ⟨40, _⟩ => ⟨S8x2048x8192, .f32⟩
  | .hbm, ⟨41, _⟩ => ⟨S8x2048x8192, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x8192, .f32⟩
  | .hbm, ⟨46, _⟩ => ⟨S8x2048x8192, .f32⟩
  | .hbm, ⟨47, _⟩ => ⟨S8x2048x8192, .f32⟩
  | .hbm, ⟨48, _⟩ => ⟨S_, .i1⟩
  | .hbm, ⟨49, _⟩ => ⟨S2048, .i1⟩
  | .hbm, ⟨50, _⟩ => ⟨S1x2048x1, .i1⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S_, .f32⟩
  | .hbm, ⟨56, _⟩ => ⟨S8x2048x1, .i1⟩
  | .hbm, ⟨57, _⟩ => ⟨S8x2048x1, .f32⟩
  | .hbm, ⟨58, _⟩ => ⟨S8x2048x1, .f32⟩
  | .hbm, ⟨59, _⟩ => ⟨S8x2048x8192, .f32⟩
  | .hbm, ⟨60, _⟩ => ⟨S8x2048x8192, .f32⟩
  | .hbm, ⟨61, _⟩ => ⟨S1x2048x1, .i1⟩
  | .hbm, ⟨62, _⟩ => ⟨S_, .f32⟩
  | .hbm, ⟨63, _⟩ => ⟨S_, .f32⟩
  | .hbm, ⟨64, _⟩ => ⟨S8x2048x8192, .i1⟩
  | .hbm, ⟨65, _⟩ => ⟨S8x2048x8192, .f32⟩
  | .hbm, ⟨66, _⟩ => ⟨S8x2048x8192, .f32⟩
  | .hbm, ⟨67, _⟩ => ⟨S8192x8x128, .bf16⟩
  | .hbm, ⟨68, _⟩ => ⟨S8192x8x128, .f32⟩
  | .hbm, ⟨69, _⟩ => ⟨S8x128x2048, .f32⟩
  | .hbm, ⟨70, _⟩ => ⟨S2048x8x128, .f32⟩
  | .hbm, ⟨71, _⟩ => ⟨S2048x1024, .f32⟩
  | .hbm, ⟨72, _⟩ => ⟨S1024x1024, .f32⟩
  | .hbm, ⟨73, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.Sched.lean ====
/-
The protocol between the four devices, as a schedule of rounds: one cell per semaphore, what each
landing hands over, what each device owes at launch and in which order it pays, and one rule per kind
of step (a signal, a wait, a remote copy) over a device's standing `St`.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## The ring of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev14_eq (c : Dev nD) : (⟨k0_dev14 c, k0_dev14_lt c⟩ : Dev nD) = prv c := by revert c; decide +kernel
theorem dev15_eq (c : Dev nD) : (⟨k0_dev15 c, k0_dev15_lt c⟩ : Dev nD) = nxt c := by revert c; decide +kernel

/-! ## The cells -/

/-- The protocol's 43 semaphores of a device: 0 and 1 the ring's credits, 2 the runtime's barrier, 3 and
    4 the ring's send semaphores, 5 and 6 its receive semaphores, 7.. and 15.. device 0's sends of
    the eight chunks to devices 1 and 3, 23.. their landings, 31.. the four forwarding sends, 35.. and 39.. the
    landings of the forwarded chunks on device 2 (from device 1, from device 3). -/
def ks (k : Fin 43) : SemLoc sig :=
  if h : k.val < 3 then .reg ⟨k.val, h⟩ else .dma ⟨k.val + 3, (by have := k.isLt; show k.val + 3 < 46; omega)⟩

/-- The number of a semaphore (100 for a staging semaphore, which is not the protocol's). -/
def num : SemLoc sig → ℕ
  | .reg n => n.val
  | .dma n => if n.val < 6 then 100 else n.val - 3

theorem num_ks (k : Fin 43) : num (ks k) = k.val := by revert k; decide

abbrev kcell (ck : Dev nD × Fin 43) : GSem nD τ sig := ((ck.1 : Thread nD τ), ks ck.2)

theorem kcell_injective : Function.Injective (kcell : Dev nD × Fin 43 → GSem nD τ sig) := by
  rintro ⟨c, k⟩ ⟨c', k'⟩ h
  have h1 : c = c' := congrArg (fun g : GSem nD τ sig => g.1.1) h
  have h2 : num (ks k) = num (ks k') := congrArg num (congrArg Prod.snd h)
  rw [num_ks, num_ks] at h2
  rw [h1, Fin.ext h2]

/-! ## The memory the copies move -/

abbrev bM : Memref sig .tc .vmem S2048x1024 .bf16 := Memref.whole cc0_scratch0
abbrev tM : Memref sig .tc .vmem S2x160x1152 .bf16 := Memref.whole cc0_scratch1
abbrev aM : Memref sig .tc .vmem S160x1152 .f32 := Memref.whole cc0_scratch2

abbrev slot0 : Memref sig .tc .vmem S160x1152 .bf16 :=
  (tM.slice (Rect.unit (s := S2x160x1152) ![0, 0, 0] S1x160x1152.size inb_S2x160x1152_S1x160x1152_0_0_0) (fun _ => rfl)).squeeze S160x1152 squeezes_S1x160x1152_S160x1152
abbrev slot1 : Memref sig .tc .vmem S160x1152 .bf16 :=
  (tM.slice (Rect.unit (s := S2x160x1152) ![1, 0, 0] S1x160x1152.size inb_S2x160x1152_S1x160x1152_1_0_0) (fun _ => rfl)).squeeze S160x1152 squeezes_S1x160x1152_S160x1152
abbrev slotM (s : Bool) : Memref sig .tc .vmem S160x1152 .bf16 := match s with | false => slot0 | true => slot1

theorem inb_chunk (k : Fin 8) : ∀ a, ![256 * k.val, 0] a + S256x1024.size a ≤ S2048x1024.size a := by revert k; decide
/-- Chunk `k` of the big buffer: rows `256 k` to `256 k + 255`. -/
abbrev chM (k : Fin 8) : Memref sig .tc .vmem S256x1024 .bf16 :=
  bM.slice (Rect.unit (s := S2048x1024) ![256 * k.val, 0] S256x1024.size (inb_chunk k)) (fun _ => rfl)

/-- What a landed ring copy, and a landed chunk, credit their semaphore by. -/
abbrev NT : ℕ := slot0.view.dmaCredit
abbrev NB : ℕ := (chM 0).view.dmaCredit
theorem NT_pos : 0 < NT := View.dmaCredit_pos _ (by decide)
theorem NB_pos : 0 < NB := View.dmaCredit_pos _ (by decide)
theorem NB_chM (k : Fin 8) : (chM k).view.dmaCredit = NB := rfl

abbrev TinyC (F : FTy → Type) : Type := (cc0_scratch1 : Ref sig .tc).ty.Contents (Elt F)
abbrev BigC (F : FTy → Type) : Type := (cc0_scratch0 : Ref sig .tc).ty.Contents (Elt F)

def slotPts (s : Bool) (c : Dev nD) (f : TinyC F) : sProp 𝕄 :=
  match s with
  | false => slot0.view.loc (c : Thread nD τ) ↦[slot0.view.set]{fullShare} f
  | true => slot1.view.loc (c : Thread nD τ) ↦[slot1.view.set]{fullShare} f
def slotAny (s : Bool) (c : Dev nD) : sProp 𝕄 := iprop(∃ f, slotPts s c f)
def chPts (k : Fin 8) (c : Dev nD) (q : PosShare TreeShare) (f : BigC F) : sProp 𝕄 :=
  (chM k).view.loc (c : Thread nD τ) ↦[(chM k).view.set]{q} f
def chAny (k : Fin 8) (c : Dev nD) : sProp 𝕄 := iprop(∃ f, chPts k c fullShare f)

instance slotPts_storable (s c) (f : TinyC F) : BI.Storable (upEmb : UEmb _ 𝕄) (slotPts s c f) := by unfold slotPts; split <;> infer_instance
instance slotAny_storable (s c) : BI.Storable (upEmb : UEmb _ 𝕄) (slotAny (F := F) s c) := by unfold slotAny; infer_instance
instance chPts_storable (k c q) (f : BigC F) : BI.Storable (upEmb : UEmb _ 𝕄) (chPts k c q f) := by unfold chPts; infer_instance
instance chAny_storable (k c) : BI.Storable (upEmb : UEmb _ 𝕄) (chAny (F := F) k c) := by unfold chAny; infer_instance

/-! ## The schedule -/

/-- How many rounds semaphore `k` of device `c` has. -/
def rounds (c : Dev nD) (k : ℕ) : ℕ :=
  if k < 3 then 1 else if k = 3 then 2 else if k < 6 then 1 else if k = 6 then 2
  else if k < 23 then (if c = 0 then 1 else 0)
  else if k < 35 then (if c = 1 ∨ c = 3 then 1 else 0)
  else if k < 43 then (if c = 2 then 1 else 0) else 0

variable (T : Dev nD → TinyC F) (B : BigC F)

/-- What the neighbour after `c` hands `c` at the entrance: its slot 1, and where `c` sends chunks to it, the chunks. -/
def barT (c : Dev nD) : sProp 𝕄 :=
  iprop(slotAny true (nxt c) ∗ (if c = 0 then bigSep Finset.univ fun k : Fin 8 => chAny k 1
    else if c = 1 then bigSep Finset.univ fun k : Fin 4 => chAny ⟨k.val, by omega⟩ 2 else iprop(emp)))
/-- What the neighbour before `c` hands it: the chunks `c` sends there. -/
def barF (c : Dev nD) : sProp 𝕄 :=
  iprop(if c = 0 then bigSep Finset.univ fun k : Fin 8 => chAny k 3
    else if c = 3 then bigSep Finset.univ fun k : Fin 4 => chAny ⟨k.val + 4, by omega⟩ 2 else iprop(emp))

theorem ite_storable {p : Prop} [Decidable p] {P P' : sProp 𝕄} (h : BI.Storable (upEmb : UEmb _ 𝕄) P) (h' : BI.Storable (upEmb : UEmb _ 𝕄) P') :
    BI.Storable (upEmb : UEmb _ 𝕄) (if p then P else P') := by split <;> assumption

instance barT_storable (c) : BI.Storable (upEmb : UEmb _ 𝕄) (barT (F := F) c) := by unfold barT; (repeat' split) <;> infer_instance
instance barF_storable (c) : BI.Storable (upEmb : UEmb _ 𝕄) (barF (F := F) c) := by unfold barF; (repeat' split) <;> infer_instance

/-- What the landing of duty `d` of round `r` of semaphore `k` of device `c` hands its waiter. -/
def pay (c : Dev nD) (k r : ℕ) (d : Bool) : sProp 𝕄 :=
  if k = 0 then slotAny false (nxt c)
  else if k = 1 then iprop(slotAny true (nxt c) ∗ reached ER (kcell (nxt c, 6)) 1)
  else if k = 2 then (if d then barT c else barF c)
  else if k = 3 then slotAny false c
  else if k = 4 then slotAny true c
  else if k = 5 then slotPts false c (T (prv (prv c)))
  else if k = 6 then (if r = 0 then slotPts true c (T (prv c)) else slotPts true c (T (prv (prv (prv c)))))
  else if k < 15 then chPts (Fin.ofNat 8 (k - 7)) c fullShare.left B
  else if k < 23 then chPts (Fin.ofNat 8 (k - 15)) c fullShare.right B
  else if k < 31 then chPts (Fin.ofNat 8 (k - 23)) c fullShare B
  else if k < 35 then chPts (Fin.ofNat 8 (if c = 1 then k - 31 else k - 27)) c fullShare.left B
  else if k < 39 then chPts (Fin.ofNat 8 (k - 35)) c fullShare B
  else if k < 43 then chPts (Fin.ofNat 8 (k - 35)) c fullShare B
  else iprop(emp)

instance pay_storable (c k r d) : BI.Storable (upEmb : UEmb _ 𝕄) (pay T B c k r d) := by
  unfold pay; repeat' (first | infer_instance | apply ite_storable)

def am (k : ℕ) : ℕ := if k < 3 then 1 else if k < 7 then NT else NB
theorem am_pos (k : ℕ) : 0 < am k := by
  unfold am; split
  · exact Nat.one_pos
  · split
    · exact NT_pos
    · exact NB_pos

def dts (c : Dev nD) (k r : ℕ) : Finset Bool := if r < rounds c k then (if k = 2 then Finset.univ else {false}) else ∅

def Rd : Rounds.Schedule (GSem nD τ sig) Bool 𝕄 where
  duties g r := dts g.1.1 (num g.2) r
  unitless _ := False
  amount g _ _ := am (num g.2)
  payload g r d := pay T B g.1.1 (num g.2) r d
  amount_pos g _ _ _ := am_pos _

instance Rd_payload_storable (g : GSem nD τ sig) (r : ℕ) (d : Bool) :
    BI.Storable (upEmb : UEmb _ 𝕄) ((Rd T B).payload g r d) := by
  show BI.Storable upEmb (pay T B g.1.1 (num g.2) r d); infer_instance

theorem duties_eq (c : Dev nD) (k : Fin 43) (r : ℕ) : (Rd T B).duties (kcell (c, k)) r = dts c k r := by
  show dts c (num (ks k)) r = _; rw [num_ks]
theorem amount_eq (c : Dev nD) (k : Fin 43) (r : ℕ) (d : Bool) : (Rd T B).amount (kcell (c, k)) r d = am k := by
  show am (num (ks k)) = _; rw [num_ks]
theorem payload_eq (c : Dev nD) (k : Fin 43) (r : ℕ) (d : Bool) : (Rd T B).payload (kcell (c, k)) r d = pay T B c k r d := by
  show pay T B c (num (ks k)) r d = _; rw [num_ks]
theorem duties_later (c : Dev nD) (k : Fin 43) (r : ℕ) (h : rounds c k ≤ r) : (Rd T B).duties (kcell (c, k)) r = ∅ := by
  rw [duties_eq]; exact if_neg (by omega)
theorem expect_eq (c : Dev nD) (k : Fin 43) (r : ℕ) : (Rd T B).expect (kcell (c, k)) r = (dts c k r).card * am k := by
  unfold Schedule.expect Schedule.amountOf
  rw [Finset.sum_congr rfl fun d _ => amount_eq T B c k r d, Finset.sum_const, duties_eq, smul_eq_mul]

/-! ## Debts, in the order they are paid -/

/-- A payment: the device and semaphore it goes to, and the index it is booked under. -/
abbrev Ent : Type := Dev nD × Fin 43 × ℕ
abbrev tly (e : Ent) : CellTallies nD τ sig ℕ := tallyAt (kcell (e.1, e.2.1)) e.2.2 (am e.2.1)
def dl (l : List Ent) : CellTallies nD τ sig ℕ := (l.map tly).sum

theorem dl_cons (e : Ent) (l : List Ent) : dl (e :: l) = dl l + tly e := by
  unfold dl; rw [List.map_cons, List.sum_cons, add_comm]
theorem dl_nil : dl [] = 0 := rfl
theorem dl_append (l l' : List Ent) : dl (l ++ l') = dl l + dl l' := by
  unfold dl; rw [List.map_append, List.sum_append]
theorem dl_perm {l l' : List Ent} (h : l.Perm l') : dl l = dl l' := (h.map _).sum_eq

theorem dl_pos {l : List Ent} {g : GSem nD τ sig} {i : ℕ} (h : 0 < dl l g i) : ∃ e ∈ l, g = kcell (e.1, e.2.1) ∧ i = e.2.2 := by
  induction l with
  | nil => exact absurd h (by rw [dl_nil]; exact Nat.lt_irrefl 0)
  | cons e l ih =>
    rw [dl_cons] at h
    rcases Pipeline.add_pos_cases h with h | h
    · obtain ⟨e', he', h'⟩ := ih h; exact ⟨e', List.mem_cons_of_mem _ he', h'⟩
    · exact ⟨e, List.mem_cons_self .., Pipeline.tallyAt_pos h⟩

/-- Device 0's chunks sent while the ring turns, hop by hop, and last. -/
def X1 (c : Dev nD) : List Ent := if c = 0 then [(1, 24, 0), (3, 24, 0), (1, 25, 0), (3, 25, 0)] else []
def X2 (c : Dev nD) : List Ent := if c = 0 then [(1, 26, 0), (3, 26, 0), (1, 27, 0), (3, 27, 0)] else []
def X3 (c : Dev nD) : List Ent := if c = 0 then [(1, 28, 0), (3, 28, 0), (1, 29, 0), (3, 29, 0)] else []
def XT (c : Dev nD) : List Ent :=
  if c = 0 then [(1, 23, 0), (3, 30, 0), (1, 30, 0), (3, 23, 0)]
  else if c = 1 then [(2, 36, 0), (2, 37, 0), (2, 38, 0), (2, 35, 0)]
  else if c = 3 then [(2, 39, 0), (2, 40, 0), (2, 41, 0), (2, 42, 0)] else []
def D6 (c : Dev nD) : List Ent := X3 c ++ XT c
def D5 (c : Dev nD) : List Ent := (nxt c, 6, 1) :: D6 c
def D4 (c : Dev nD) : List Ent := (prv c, 1, 0) :: D5 c
def D3 (c : Dev nD) : List Ent := X2 c ++ D4 c
def D2' (c : Dev nD) : List Ent := (nxt c, 5, 0) :: D3 c
def D2 (c : Dev nD) : List Ent := (prv c, 0, 0) :: D2' c
def D1' (c : Dev nD) : List Ent := X1 c ++ D2 c
def D1 (c : Dev nD) : List Ent := (nxt c, 6, 0) :: D1' c
def D0 (c : Dev nD) : List Ent := (prv c, 2, 0) :: (nxt c, 2, 0) :: D1 c

/-! ## Levels -/

def lvl (k ι : ℕ) : ℕ :=
  if k = 0 then 3 else if k = 1 then 5 else if k = 2 then 1 else if k < 5 then 0 else if k = 5 then 4
  else if k = 6 then (if ι = 0 then 2 else 6) else if k < 23 then 0 else if k < 31 then 7 else if k < 35 then 0
  else if k < 43 then 8 else 0

def L (g : GSem nD τ sig) : Finset ℕ := if g.1.2 = .tc then {0, 1} else ∅
def lv (g : GSem nD τ sig) (ι : ℕ) : ℕ := lvl (num g.2) ι
theorem L_of_ne (g : GSem nD τ sig) (h : g.1.2 ≠ .tc) : L g = ∅ := if_neg h
theorem L_tc (c : Dev nD) (sm : SemLoc sig) : L ((c : Thread nD τ), sm) = {0, 1} := if_pos rfl

/-- Every debt of the list is booked under 0 or 1 and lies above level `n`. -/
def above (n : ℕ) (l : List Ent) : Bool := l.all fun e => decide (e.2.2 < 2) && decide (n < lvl e.2.1 e.2.2)

theorem mayWait_list (c : Dev nD) (sm : SemLoc sig) (ι : ℕ) (hι : ι < 2) (l : List Ent) (h : above (lvl (num sm) ι) l = true) :
    (levAts L lv : sProp 𝕄) ⊢ MayWait (c : Thread nD τ) sm ι (dl l) := by
  refine Pipeline.mayWait_of_levAts (by rw [L_tc]; rcases (by omega : ι = 0 ∨ ι = 1) with h | h <;> rw [h] <;> decide) fun g i hg => ?_
  obtain ⟨e, he, rfl, rfl⟩ := dl_pos hg
  have := List.all_eq_true.mp h e he
  rw [Bool.and_eq_true, decide_eq_true_eq, decide_eq_true_eq] at this
  refine ⟨?_, ?_⟩
  · rw [L_tc]; have h2 := this.1; generalize e.2.2 = x at h2; rcases (by omega : x = 0 ∨ x = 1) with h | h <;> rw [h] <;> decide
  · show lvl (num sm) ι < lvl (num (ks e.2.1)) e.2.2
    rw [num_ks]; exact this.2

/-! ## Resources of a list -/

/-- `Φ` of every element of a list, separately. -/
def lsep {I : Type} (l : List I) (Φ : I → sProp 𝕄) : sProp 𝕄 := l.foldr (fun i P => iprop(Φ i ∗ P)) iprop(emp)

theorem lsep_cons {I : Type} (i : I) (l : List I) (Φ : I → sProp 𝕄) : lsep (i :: l) Φ = iprop(Φ i ∗ lsep l Φ) := rfl
theorem lsep_append {I : Type} (l l' : List I) (Φ : I → sProp 𝕄) : lsep (l ++ l') Φ = iprop(lsep l Φ ∗ lsep l' Φ) := by
  induction l with
  | nil => exact (equiv_iff.mp BI.emp_sep).symm
  | cons i l ih => rw [List.cons_append, lsep_cons, lsep_cons, ih]; exact Entails.antisymm BI.sep_assoc' BI.sep_assoc
theorem lsep_perm {I : Type} {l l' : List I} (h : l.Perm l') (Φ : I → sProp 𝕄) : lsep l Φ = lsep l' Φ := by
  induction h with
  | nil => rfl
  | cons x _ ih => rw [lsep_cons, lsep_cons, ih]
  | swap x y l =>
    rw [lsep_cons, lsep_cons, lsep_cons, lsep_cons]
    have h (P P' R : sProp 𝕄) : iprop(P ∗ P' ∗ R) ⊢ iprop(P' ∗ P ∗ R) := by
      iintro ⟨H1, H2, H3⟩
      isplitl [H2]; · iexact H2
      isplitl [H1]; · iexact H1
      iexact H3
    exact Entails.antisymm (h _ _ _) (h _ _ _)
  | trans _ _ ih₁ ih₂ => exact ih₁.trans ih₂

/-! ## A device's standing -/

abbrev Tok : Type := Dev nD × Fin 43 × ℕ × Bool
abbrev tk (t : Tok) : sProp 𝕄 := dutyTok ER (kcell (t.1, t.2.1)) t.2.2.1 t.2.2.2

/-- What every device may read throughout: the cells' invariants, each at round 0 at least, the levels. -/
def recs (K : Dev nD × Fin 43 → ℕ) : sProp 𝕄 :=
  iprop((bigSep Finset.univ fun ck : Dev nD × Fin 43 => cellInv ER (Rd T B) (K ck) (kcell ck))
    ∗ (bigSep Finset.univ fun ck : Dev nD × Fin 43 => reached ER (kcell ck) 0) ∗ levAts L lv)

instance recs_persistent (K : Dev nD × Fin 43 → ℕ) : BI.Persistent (recs T B K) := by unfold recs; infer_instance

/-- The positions on a device's own cells, after waits on the semaphores of the list. -/
def pos (c : Dev nD) (w : List (Fin 43)) : sProp 𝕄 := bigSep Finset.univ fun k : Fin 43 => atPos ER (kcell (c, k)) (w.count k) ∅ 0

/-- A device's standing: the debts left, the waits done, the duty tokens left, the credit left. -/
def St (c : Dev nD) (w : List (Fin 43)) (Tk : List Tok) (D C : List Ent) : sProp 𝕄 :=
  iprop(∃ W, owes (c : Thread nD τ) (dl D) W ∗ pos c w ∗ lsep Tk tk ∗ cred (dl C))

variable {T B}

theorem bigSep_out {I : Type} [DecidableEq I] {s : Finset I} {i : I} (h : i ∈ s) (Φ : I → sProp 𝕄) : (bigSep s Φ : sProp 𝕄) ⊢ Φ i := bigSep_elim h
theorem bigSep_split {I : Type} [DecidableEq I] {s : Finset I} {i : I} (h : i ∈ s) (Φ : I → sProp 𝕄) : bigSep s Φ = iprop(Φ i ∗ bigSep (s.erase i) Φ) := bigSep_erase h

theorem inv_at (K : Dev nD × Fin 43 → ℕ) (ck : Dev nD × Fin 43) : recs T B K ⊢ cellInv ER (Rd T B) (K ck) (kcell ck) := by
  unfold recs; iintro ⟨H, -⟩
  iapply (bigSep_out (Finset.mem_univ ck) fun ck : Dev nD × Fin 43 => (cellInv ER (Rd T B) (K ck) (kcell ck) : sProp 𝕄)); iexact H
theorem reached_at (K : Dev nD × Fin 43 → ℕ) (ck : Dev nD × Fin 43) : recs T B K ⊢ reached ER (kcell ck) 0 := by
  unfold recs; iintro ⟨-, H, -⟩
  iapply (bigSep_out (Finset.mem_univ ck) fun ck : Dev nD × Fin 43 => (reached ER (kcell ck) 0 : sProp 𝕄)); iexact H
theorem lev_at (K : Dev nD × Fin 43 → ℕ) : recs T B K ⊢ levAts L lv := by
  unfold recs; iintro ⟨-, -, H⟩; iexact H

theorem pos_pick (c : Dev nD) (w : List (Fin 43)) (k : Fin 43) (r : ℕ) (hr : w.count k = r) :
    pos (F := F) c w ⊢ iprop(atPos ER (kcell (c, k)) r ∅ 0 ∗ (atPos ER (kcell (c, k)) (r + 1) ∅ 0 -∗ pos c (k :: w))) := by
  subst hr
  unfold pos
  rw [bigSep_split (Finset.mem_univ k), bigSep_split (Finset.mem_univ k) (fun j : Fin 43 => (atPos ER (kcell (c, j)) ((k :: w).count j) ∅ 0 : sProp 𝕄))]
  iintro ⟨H, HR⟩
  isplitl [H]; · iexact H
  iintro H
  isplitl [H]; · rw [List.count_cons_self]; iexact H
  iapply (Entails.of_eq (bigSep_congr (s := Finset.univ.erase k) (Φ := fun j : Fin 43 => (atPos ER (kcell (c, j)) (w.count j) ∅ 0 : sProp 𝕄)) fun j hj => by
    rw [List.count_cons_of_ne (Finset.ne_of_mem_erase hj).symm]))
  iexact HR

/-! ## One rule per kind of step -/

section Steps

variable (K : Dev nD × Fin 43 → ℕ) (c : Dev nD)
variable {α : Type} {w : List (Fin 43)} {Tk : List Tok} {D C : List Ent}

/-- A signal to device `n`'s semaphore `k`, paying the first token and the first debt. -/
theorem step_signal (n : Dev nD) (k : Fin 43) (r ι : ℕ) (d : Bool) {n' : Dev nD} {sem : Sem sig} {a : ℕ}
    {Q : α → sProp (MT nD τ sig ℕ (Elt F) ℕ UU ℕ)} {kk : PUnit → Prog (TpuEff nD τ sig (Elt F) Λ₀ .tc) α}
    (hn : n' = n) (hs : (.reg sem : SemLoc sig) = ks k) (ha : a = am k) (hd : d ∈ dts n k r) :
    iprop(recs T B K ∗ reached ER (kcell (n, k)) r ∗ pay T B n k r d ∗ St c w ((n, k, r, d) :: Tk) ((n, k, ι) :: D) C)
      ⊢ iprop((St c w Tk D C -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n' : Thread nD τ) sem a) kk) Q) := by
  subst hn
  unfold St
  iintro ⟨#HR, #Hr, Hp, %W, HO, Hpos, HT, HC⟩ Hk
  have hg : ((n' : Thread nD τ), SemLoc.reg sem) = kcell (n', k) := by rw [hs]
  ihave HT' := (Entails.of_eq (lsep_cons _ _ _)) $$ HT
  icases HT' with ⟨Ht, HT⟩
  iapply (Rounds.wp_signal 𝒱₀ ER (Rd T B) (c : Thread nD τ) none (dst := (n' : Thread nD τ)) (κ := K (n', k)) (r := r) (d := d)
      (by rw [hg, duties_eq]; exact hd) (by rw [hg, amount_eq, ha]) ι (O₀ := dl ((n', k, ι) :: D)) (dl D) (by rw [dl_cons, hg, ha]))
    $$ [HO Ht Hp]
  · rw [hg, payload_eq]
    isplitr; · iapply (inv_at K (n', k)); iexact HR
    isplitl [HO]; · iexact HO
    isplitl [Ht]; · iexact Ht
    isplitl [Hp]; · iexact Hp
    iexact Hr
  iintro HO
  iapply Hk
  iexists W
  isplitl [HO]; · iexact HO
  isplitl [Hpos]; · iexact Hpos
  isplitl [HT]; · iexact HT
  iexact HC

/-- A wait for all of the open round of the device's own semaphore `k`, spending credit `e`. -/
theorem step_wait (k : Fin 43) (r ι a : ℕ) {op : TpuEff nD τ sig (Elt F) Λ₀ .tc PUnit} {sm : SemLoc sig}
    {Q : α → sProp (MT nD τ sig ℕ (Elt F) ℕ UU ℕ)} {kk : PUnit → Prog (TpuEff nD τ sig (Elt F) Λ₀ .tc) α} (C' : List Ent)
    (hw : ∀ K : PUnit → sProp 𝕄, wpE' (defs₀ (F := F)) 𝒱₀ (c : Thread nD τ) none .empty Set.univ op K = waitSpec (c : Thread nD τ) Set.univ sm a K)
    (hs : sm = ks k) (hr : w.count k = r) (hι : ι < 2) (ha : a = (dts c k r).card * am k) (hC : dl C = dl C' + tallyAt (kcell (c, k)) ι a)
    (hD : above (lvl k ι) D = true) :
    iprop(recs T B K ∗ St c w Tk D C)
      ⊢ iprop((iprop(St c (k :: w) Tk D C' ∗ reached ER (kcell (c, k)) (r + 1) ∗ bigSep (dts c k r) fun d => pay T B c k r d)
            -∗ wp frame (wpE (defs₀ (F := F)) 𝒱₀ (c : Thread nD τ) none) Set.univ (kk ⟨⟩) Q)
          -∗ wp frame (wpE (defs₀ (F := F)) 𝒱₀ (c : Thread nD τ) none) Set.univ (.op op kk) Q) := by
  subst hs
  unfold St
  iintro ⟨#HR, %W, HO, Hpos, HT, HC⟩ Hk
  rw [hC]
  ihave HC' := (cred_add (dl C') (tallyAt (kcell (c, k)) ι a)).1 $$ HC
  icases HC' with ⟨HC', Hc⟩
  ihave Hpp := (pos_pick (F := F) c w k r hr) $$ Hpos
  icases Hpp with ⟨Hat, Hback⟩
  iapply (Rounds.wp_wait_rest_token 𝒱₀ ER (Rd T B) (c : Thread nD τ) none (κ := K (c, k)) hw (Set.mem_univ _) ι (O := dl D) (W := W) (R := r) (m := 0) (T := ∅)
      (by rw [expect_eq, Nat.zero_add, ha])) $$ [Hc HO Hat]
  · isplitr; · iapply (inv_at K (c, k)); iexact HR
    isplitl [Hc]; · iexact Hc
    isplitl [HO]; · iexact HO
    isplitr
    · iapply (mayWait_list c (ks k) ι hι D (by rw [num_ks]; exact hD)); iapply (lev_at K); iexact HR
    iexact Hat
  iintro ⟨HO, Hat, #Hre, Hpay⟩
  ispecialize Hback $$ Hat
  iapply Hk
  isplitr [Hpay]
  · iexists _
    isplitl [HO]; · iexact HO
    isplitl [Hback]; · iexact Hback
    isplitl [HT]; · iexact HT
    iexact HC'
  isplitr; · iexact Hre
  iapply (Entails.of_eq (show (bigSep ((Rd T B).duties (kcell (c, k)) r \ ∅) fun d => (Rd T B).payload (kcell (c, k)) r d : sProp 𝕄)
      = bigSep (dts c k r) fun d => pay T B c k r d from by
    rw [Finset.sdiff_empty, duties_eq]; exact bigSep_congr fun d _ => payload_eq T B c k r d))
  iexact Hpay

/-- A remote copy from the view `src` to device `n`'s view `dst`, signalling the own semaphore `k₁` and
    `n`'s semaphore `k₂`: the first two tokens and the first debt are paid, and the send is waited for on credit. -/
theorem step_send (n : Dev nD) (k₁ k₂ : Fin 43) (r₁ r₂ ι : ℕ) {s : Shape} {src dst : Memref sig .tc .vmem s .bf16} {n' : Dev nD} {sS sem : SemLoc sig}
    {hsc : (dst : Memref sig (Dev.tc n' : Thread nD τ).2.kind .vmem s .bf16).view.ref.isScScratch = false} {hsrc : src.view.WordExact} {hdst : (dst : Memref sig (Dev.tc n' : Thread nD τ).2.kind .vmem s .bf16).view.WordExact}
    {hsem : DmaTarget.Typed .vmem sem (.remote (Dev.tc n' : Thread nD τ) dst sS hsc)}
    {Q : α → sProp (MT nD τ sig ℕ (Elt F) ℕ UU ℕ)} {kk : PUnit → Prog (TpuEff nD τ sig (Elt F) Λ₀ .tc) α} {q : PosShare TreeShare}
    {fs : Buf (Elt F) (src.view.loc (c : Thread nD τ))} {fd : Buf (Elt F) (dst.view.loc (n : Thread nD τ))}
    (hn : n' = n) (hs₁ : sS = ks k₁) (hs₂ : sem = ks k₂) (hd₁ : false ∈ dts c k₁ r₁) (hd₂ : false ∈ dts n k₂ r₂)
    (hN : dst.view.amount (ks k₂) = am k₂) (hN₁ : am k₁ = am k₂)
    (hpay₁ : (src.view.loc (c : Thread nD τ) ↦[src.view.set]{q} fs) ⊢ pay T B c k₁ r₁ false)
    (hpay₂ : (dst.view.loc (n : Thread nD τ) ↦[dst.view.set]{fullShare} (dst.view.write (Elt F) fd (src.view.read (Elt F) fs) Finset.univ))
      ⊢ pay T B n k₂ r₂ false) :
    iprop(recs T B K ∗ reached ER (kcell (c, k₁)) r₁ ∗ reached ER (kcell (n, k₂)) r₂
        ∗ (src.view.loc (c : Thread nD τ) ↦[src.view.set]{q} fs) ∗ (dst.view.loc (n : Thread nD τ) ↦[dst.view.set]{fullShare} fd)
        ∗ St c w ((c, k₁, r₁, false) :: (n, k₂, r₂, false) :: Tk) ((n, k₂, ι) :: D) C)
      ⊢ iprop((St c w Tk D ((c, k₁, 0) :: C) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n' : Thread nD τ) dst sS hsc) sem hsrc hdst hsem) kk) Q) := by
  subst hn hs₁ hs₂
  unfold St
  iintro ⟨#HR, #Hr₁, #Hr₂, Hs, Hd, %W, HO, Hpos, HT, HC⟩ Hk
  ihave HT' := (Entails.of_eq ((lsep_cons _ _ _).trans (congrArg _ (lsep_cons _ _ _)))) $$ HT
  icases HT' with ⟨Ht₁, Ht₂, HT⟩
  iapply (Rounds.wp_send_pointsTo 𝒱₀ ER (Rd T B) (c : Thread nD τ) none (κ₁ := K (c, k₁)) (κ₂ := K (n', k₂))
    (r₁ := r₁) (r₂ := r₂) (d₁ := false) (d₂ := false) (fd := fd) (fs := fs) (q := q)
    (by rw [duties_eq]; exact hd₁) (by rw [duties_eq]; exact hd₂)
    ι 0 (am k₂) hN (by rw [amount_eq, hN₁]) (by rw [amount_eq]) (O₀ := dl ((n', k₂, ι) :: D)) (dl D) (by rw [dl_cons]) (W := W)
    (by rw [payload_eq]; exact hpay₁) (by rw [payload_eq]; exact hpay₂)) $$ [HO Ht₁ Ht₂ Hs Hd]
  · isplitr; · iapply (inv_at K (c, k₁)); iexact HR
    isplitr; · iapply (inv_at K (n', k₂)); iexact HR
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  iexists W
  isplitl [HO]; · iexact HO
  isplitl [Hpos]; · iexact Hpos
  isplitl [HT]; · iexact HT
  rw [dl_cons]
  iapply (cred_add (dl C) (tly (c, k₁, 0))).2
  isplitl [HC]; · iexact HC
  unfold tly; rw [← hN₁]; iexact Hc

end Steps

end Cert.Ring

end
-- ==== Proof.Val.lean ====
/-
What the kernel's body computes, head by head and row block by row block, over any float interpretation: the projected
queries, the masked weights of a whole row block and of a band, the packed tile a device sends around the ring, the
accumulator after each hop, and the context rows device 0 leaves for everyone.
-/
module

public import proofs.«01_k».proof.Proof.Sched
public import proofs.«01_k».proof.Proof.Gen.KernelIdeal.Skeleton
public import proofs.«01_k».proof.Proof.Gen.KernelIdeal.Loops

@[expose] public section

noncomputable section

namespace Cert.Ring

open Cert.KernelIdeal Cert.KernelIdeal.Gen
open Idealize.ShloMosaic
open Idealize.ShloMosaic.TcCoe

variable {F : FTy → Type} [FloatOps F]

abbrev XC (F : FTy → Type) : Type := (cc0_stg0_0 : Ref sig .tc).ty.Contents (Elt F)
abbrev WC (F : FTy → Type) : Type := (cc0_stg1_0 : Ref sig .tc).ty.Contents (Elt F)
abbrev KC (F : FTy → Type) : Type := (cc0_stg2_0 : Ref sig .tc).ty.Contents (Elt F)
abbrev VC (F : FTy → Type) : Type := (cc0_stg3_0 : Ref sig .tc).ty.Contents (Elt F)
abbrev OC (F : FTy → Type) : Type := (cc0_stg4_0 : Ref sig .tc).ty.Contents (Elt F)

abbrev xM : Memref sig .tc .vmem S2048x1024 .bf16 := Memref.whole cc0_stg0_0
abbrev qM : Memref sig .tc .vmem S1024x1024 .bf16 := Memref.whole cc0_stg1_0
abbrev kM : Memref sig .tc .vmem S2048x1024 .bf16 := Memref.whole cc0_stg2_0
abbrev vM : Memref sig .tc .vmem S2048x1024 .bf16 := Memref.whole cc0_stg3_0
abbrev wM : Memref sig .tc .vmem S1024x1024 .bf16 := Memref.whole cc0_stg4_0
abbrev oM : Memref sig .tc .vmem S2048x1024 .f32 := Memref.whole cc0_stg5_0

/-! ## The rows and columns the body reads -/

theorem inb_rows (b : Fin 16) : ∀ a, ![128 * b.val, 0] a + S128x1024.size a ≤ S2048x1024.size a := by revert b; decide
theorem inb_cols (h : Fin 8) : ∀ a, ![0, 128 * h.val] a + S2048x128.size a ≤ S2048x1024.size a := by revert h; decide
theorem inb_head (h : Fin 8) : ∀ a, ![0, 128 * h.val] a + S128x128.size a ≤ S2048x1024.size a := by revert h; decide
theorem inb_slab (b : Fin 14) (h : Fin 8) : ∀ a, ![128 * b.val, 128 * h.val] a + S384x128.size a ≤ S2048x1024.size a := by revert b h; decide
theorem inb_tile (b : Fin 16) (h : Fin 8) : ∀ a, ![128 * b.val, 128 * h.val] a + S128x128.size a ≤ S2048x1024.size a := by revert b h; decide
theorem slices_head (h : Fin 8) : S128x1024.Slices ![0, 128 * h.val] S128x128 := by
  have : ∀ h : Fin 8, S128x1024.Slices ![0, 128 * h.val] S128x128 := by decide
  exact this h

/-- Row block `b` of the tokens. -/
def xRows (X : XC F) (b : Fin 16) : Vec F S128x1024 .bf16 :=
  xM.view.readAt (Elt F) (Rect.unit (s := S2048x1024) ![128 * b.val, 0] S128x1024.size (inb_rows b)).toLoadRect X
/-- The query weights. -/
def wAll (W : WC F) : Vec F S1024x1024 .bf16 :=
  qM.view.readAt (Elt F) (Rect.unit (s := S1024x1024) ![0, 0] S1024x1024.size inb_S1024x1024_S1024x1024_0_0).toLoadRect W
/-- Head `h` of a device's keys, and of its values. -/
def kCols (K : KC F) (h : Fin 8) : Vec F S2048x128 .bf16 :=
  kM.view.readAt (Elt F) (Rect.unit (s := S2048x1024) ![0, 128 * h.val] S2048x128.size (inb_cols h)).toLoadRect K
def vCols (V : VC F) (h : Fin 8) : Vec F S2048x128 .bf16 :=
  vM.view.readAt (Elt F) (Rect.unit (s := S2048x1024) ![0, 128 * h.val] S2048x128.size (inb_cols h)).toLoadRect V
/-- Head `h` of the first 128 keys (values), and of the 384 from row `128 b`. -/
def kHead (K : KC F) (h : Fin 8) : Vec F S128x128 .bf16 :=
  kM.view.readAt (Elt F) (Rect.unit (s := S2048x1024) ![0, 128 * h.val] S128x128.size (inb_head h)).toLoadRect K
def vHead (V : VC F) (h : Fin 8) : Vec F S128x128 .bf16 :=
  vM.view.readAt (Elt F) (Rect.unit (s := S2048x1024) ![0, 128 * h.val] S128x128.size (inb_head h)).toLoadRect V
def kSlab (K : KC F) (b : Fin 14) (h : Fin 8) : Vec F S384x128 .bf16 :=
  kM.view.readAt (Elt F) (Rect.unit (s := S2048x1024) ![128 * b.val, 128 * h.val] S384x128.size (inb_slab b h)).toLoadRect K
def vSlab (V : VC F) (b : Fin 14) (h : Fin 8) : Vec F S384x128 .bf16 :=
  vM.view.readAt (Elt F) (Rect.unit (s := S2048x1024) ![128 * b.val, 128 * h.val] S384x128.size (inb_slab b h)).toLoadRect V

/-! ## A whole row block: queries, weights, numerators, denominators -/

/-- Head `h` of projected queries. -/
def qHead (q : FVec F S128x1024 .bf16) (h : Fin 8) : FVec F S128x128 .bf16 :=
  extractStridedSlice S128x128 ![0, 128 * h.val] q (slices_head h)

/-- Which keys (a device's, from the word `koff`) the queries from row `qs` keep. -/
def fullMask (qs koff : BitVec 32) : IVec S128x2048 1 :=
  ori (ori (cmpi .sle (absi (subi (addi (broadcast S128x2048 qs) (iota .tc S128x2048 32 [0] iota_S128x2048_d0_w32))
        (addi (broadcast S128x2048 koff) (iota .tc S128x2048 32 [1] iota_S128x2048_d1_w32)))) (broadcast S128x2048 128#32))
      (cmpi .slt (addi (broadcast S128x2048 koff) (iota .tc S128x2048 32 [1] iota_S128x2048_d1_w32)) (broadcast S128x2048 32#32)))
    (cmpi .slt (addi (broadcast S128x2048 qs) (iota .tc S128x2048 32 [0] iota_S128x2048_d0_w32)) (broadcast S128x2048 32#32))

def fullW (m : IVec S128x2048 1) (q : FVec F S128x128 .bf16) (k : Vec F S2048x128 .bf16) : FVec F S128x2048 .f32 :=
  select m (exp (matmul dot_S128x128_S2048x128_S128x2048_1_1_0_0_n_n none q
      (shapeCast S2048x128 k shapeCasts_S2048x128_S2048x128 : FVec F S2048x128 .bf16) (constant S128x2048 .f32 0x00000000#32)))
    (broadcast S128x2048 (Scalar.ofBits .f32 0x00000000#32 : F .f32))
def fullNum (w : FVec F S128x2048 .f32) (v : Vec F S2048x128 .bf16) : FVec F S128x128 .f32 :=
  matmul dot_S128x2048_S2048x128_S128x128_1_0_0_1_n_n none (truncf .bf16 w bitsLt_bf16_f32)
    (shapeCast S2048x128 v shapeCasts_S2048x128_S2048x128 : FVec F S2048x128 .bf16) (constant S128x128 .f32 0x00000000#32)
def fullSum (w : FVec F S128x2048 .f32) : FVec F S128x1 .f32 :=
  shapeCast S128x1 (multiReduction .add [1] S128 w 0x00000000#32 reduces_S128x2048_S128 (.inl rfl) rfl) shapeCasts_S128_S128x1

section Device

variable (X : XC F) (W : WC F) (K : KC F) (V : VC F) (koff : BitVec 32)

/-- The projected queries of row block `b`, scaled. -/
def qBlk (b : Fin 16) : FVec F S128x1024 .bf16 := k0_pay118 (xRows X b) (wAll W)

/-- The weights of the first and the last row block against a device's keys. -/
def w0 (h : Fin 8) : FVec F S128x2048 .f32 := fullW (fullMask 0#32 koff) (qHead (qBlk X W 0) h) (kCols K h)
def w15 (h : Fin 8) : FVec F S128x2048 .f32 := fullW (fullMask 1920#32 koff) (qHead (qBlk X W 15) h) (kCols K h)
def num0 (h : Fin 8) : FVec F S128x128 .f32 := fullNum (w0 X W K koff h) (vCols V h)
def num15 (h : Fin 8) : FVec F S128x128 .f32 := fullNum (w15 X W K koff h) (vCols V h)
def sum0 (h : Fin 8) : FVec F S128x1 .f32 := fullSum (w0 X W K koff h)
def sum15 (h : Fin 8) : FVec F S128x1 .f32 := fullSum (w15 X W K koff h)

/-- Eight columns of denominators, and 120 columns of zeros. -/
def packS (s : Fin 8 → FVec F S128x1 .f32) : FVec F S128x128 .f32 :=
  concatenate S128x128 1 [⟨S128x1, s 0⟩, ⟨S128x1, s 1⟩, ⟨S128x1, s 2⟩, ⟨S128x1, s 3⟩, ⟨S128x1, s 4⟩, ⟨S128x1, s 5⟩, ⟨S128x1, s 6⟩, ⟨S128x1, s 7⟩,
    ⟨S128x120, (broadcast S128x120 (Scalar.ofBits .f32 0x00000000#32 : F .f32) : FVec F S128x120 .f32)⟩]
    concatenates_S128x1_S128x1_S128x1_S128x1_S128x1_S128x1_S128x1_S128x1_S128x120_S128x128_d1

/-- The tiles of 128 columns of what a device packs: its eight numerators, then its denominators. -/
def tile0 (h : ℕ) : FVec F S128x128 .bf16 :=
  truncf .bf16 (if h' : h < 8 then num0 X W K V koff ⟨h, h'⟩ else packS (sum0 X W K koff)) bitsLt_bf16_f32
def tile15 (h : ℕ) : FVec F S128x128 .bf16 :=
  truncf .bf16 (if h' : h < 8 then num15 X W K V koff ⟨h, h'⟩ else packS (sum15 X W K koff)) bitsLt_bf16_f32

/-- An index of a 128 by 128 tile. -/
def ix (r j : ℕ) : S128x128.Idx := ix2 (⟨r % 128, Nat.mod_lt _ (by decide)⟩ : Fin 128) (⟨j % 128, Nat.mod_lt _ (by decide)⟩ : Fin 128)
where
  ix2 (a b : Fin 128) : S128x128.Idx := fun | 0 => a | 1 => b

/-- The packed tile of a device: rows 0–31 of the first row block, then the last row block. -/
def packed : TinyC F := fun y =>
  if (y 1).val < 32 then tile0 X W K V koff ((y 2).val / 128) (ix (y 1).val (y 2).val)
  else tile15 X W K V koff ((y 2).val / 128) (ix ((y 1).val - 32) (y 2).val)

end Device

/-! ## The band: row blocks 1 to 14 on device 0 -/

/-- Which of the 128 first keys and the 384 keys before, at and after row block `b` its queries keep. -/
def bandMask (b : BitVec 32) : IVec S128x512 1 :=
  let v591 : BitVec 32 := Scalar.minsi (Scalar.muli 128#32 (Scalar.subi b 1#32)) 1664#32
  let qi : IVec S128x512 32 := addi (broadcast S128x512 (Scalar.muli b 128#32)) (iota .tc S128x512 32 [0] iota_S128x512_d0_w32)
  let kj : IVec S128x512 32 := concatenate S128x512 1 [⟨S128x128, iota .tc S128x128 32 [1] iota_S128x128_d1_w32⟩,
    ⟨S128x384, (addi (broadcast S128x384 v591) (iota .tc S128x384 32 [1] iota_S128x384_d1_w32) : IVec S128x384 32)⟩] concatenates_S128x128_S128x384_S128x512_d1
  andi (ori (ori (cmpi .sle (absi (subi qi kj)) (broadcast S128x512 128#32)) (cmpi .slt kj (broadcast S128x512 32#32))) (cmpi .slt qi (broadcast S128x512 32#32)))
    (xori (andi (cmpi .slt (iota .tc S128x512 32 [1] iota_S128x512_d1_w32) (broadcast S128x512 128#32)) (broadcast S128x512 (Scalar.cmpi .eq v591 0#32)))
      (constantI S128x512 1 1#1))

def cat (a : Vec F S128x128 .bf16) (b : Vec F S384x128 .bf16) : FVec F S512x128 .bf16 :=
  concatenate S512x128 0 [⟨S128x128, (shapeCast S128x128 a shapeCasts_S128x128_S128x128 : FVec F S128x128 .bf16)⟩,
    ⟨S384x128, (shapeCast S384x128 b shapeCasts_S384x128_S384x128 : FVec F S384x128 .bf16)⟩] concatenates_S128x128_S384x128_S512x128_d0

def bandW (m : IVec S128x512 1) (q : FVec F S128x128 .bf16) (k : FVec F S512x128 .bf16) : FVec F S128x512 .f32 :=
  select m (exp (matmul dot_S128x128_S512x128_S128x512_1_1_0_0_n_n none q k (constant S128x512 .f32 0x00000000#32)))
    (broadcast S128x512 (Scalar.ofBits .f32 0x00000000#32 : F .f32))
/-- The band's context rows of one head. -/
def bandOut (w : FVec F S128x512 .f32) (v : FVec F S512x128 .bf16) : FVec F S128x128 .bf16 :=
  shapeCast S128x128 (truncf .bf16 (divf
    (matmul dot_S128x512_S512x128_S128x128_1_0_0_1_n_n none (truncf .bf16 w bitsLt_bf16_f32) v (constant S128x128 .f32 0x00000000#32))
    (broadcastTo S128x128 (shapeCast S128x1 (multiReduction .add [1] S128 w 0x00000000#32 reduces_S128x512_S128 (.inl rfl) rfl) shapeCasts_S128_S128x1 : FVec F S128x1 .f32)
      broadcasts_S128x1_S128x128)) bitsLt_bf16_f32 : FVec F S128x128 .bf16) shapeCasts_S128x128_S128x128

section Zero

variable (X : XC F) (W : WC F) (K : KC F) (V : VC F)

/-- Row block `b + 1`, head `h`, of the context: the band of keys from row `128 b`. -/
def band (b : Fin 14) (h : Fin 8) : FVec F S128x128 .bf16 :=
  bandOut (bandW (bandMask (BitVec.ofNat 32 (b.val + 1))) (qHead (qBlk X W ⟨b.val + 1, by omega⟩) h) (cat (kHead K h) (kSlab K b h)))
    (cat (vHead V h) (vSlab V b h))

/-- Row block 0 of the context from device 0's keys alone (right on rows 32 to 127). -/
def top (h : Fin 8) : FVec F S128x128 .bf16 := k0_pay21 (num0 X W K V 0#32 h) (sum0 X W K 0#32 h)

end Zero

/-! ## The accumulator, hop by hop -/

abbrev AC (F : FTy → Type) : Type := (cc0_scratch2 : Ref sig .tc).ty.Contents (Elt F)

/-- A slot as the body loads it. -/
def slotV (s : Bool) (t : TinyC F) : Vec F S1x160x1152 .bf16 :=
  match s with
  | false => tM.view.readAt (Elt F) (Rect.unit (s := S2x160x1152) ![0, 0, 0] S1x160x1152.size inb_S2x160x1152_S1x160x1152_0_0_0).toLoadRect t
  | true => tM.view.readAt (Elt F) (Rect.unit (s := S2x160x1152) ![1, 0, 0] S1x160x1152.size inb_S2x160x1152_S1x160x1152_1_0_0).toLoadRect t

variable (T : Dev nD → TinyC F)
/-- The accumulator of device `c` after its own tile and after each hop. -/
def acc0 (c : Dev nD) : FVec F S160x1152 .f32 := k0_pay197 (slotV false (T c))
def acc1 (c : Dev nD) : FVec F S160x1152 .f32 := k0_pay199 (k0_pay198 (acc0 T c) (slotV true (T (prv c))))
def acc2 (c : Dev nD) : FVec F S160x1152 .f32 := k0_pay200 (acc1 T c) (slotV false (T (prv (prv c))))
def acc3 (c : Dev nD) : FVec F S160x1152 .f32 := k0_pay201 (acc2 T c) (slotV true (T (prv (prv (prv c)))))

theorem inb_accN (h : Fin 8) : ∀ a, ![0, 128 * h.val] a + S160x128.size a ≤ S160x1152.size a := by revert h; decide
theorem inb_accL (h : Fin 8) : ∀ a, ![0, 1024 + h.val] a + S160x1.size a ≤ S160x1152.size a := by revert h; decide

/-- The rows divided at the end, head `h`: the summed numerators over the summed denominators. -/
def tail (A : AC F) (h : Fin 8) : FVec F S160x128 .bf16 :=
  k0_pay69 (aM.view.readAt (Elt F) (Rect.unit (s := S160x1152) ![0, 128 * h.val] S160x128.size (inb_accN h)).toLoadRect A)
    (aM.view.readAt (Elt F) (Rect.unit (s := S160x1152) ![0, 1024 + h.val] S160x1.size (inb_accL h)).toLoadRect A)

/-- An index of the 160 by 128 rows divided at the end. -/
def ixT (r j : ℕ) : S160x128.Idx := fun
  | 0 => (⟨r % 160, Nat.mod_lt _ (by decide)⟩ : Fin 160) | 1 => (⟨j % 128, Nat.mod_lt _ (by decide)⟩ : Fin 128)

def hd (j : ℕ) : Fin 8 := ⟨(j / 128) % 8, Nat.mod_lt _ (by decide)⟩

/-- What device 0's row blocks hold before the last rows are divided. -/
def mid (X : XC F) (W : WC F) (K : KC F) (V : VC F) : BigC F := fun y =>
  if (y 0).val < 128 then top X W K V (hd (y 1).val) (ix (y 0).val (y 1).val)
  else band X W K V ⟨((y 0).val / 128 - 1) % 14, Nat.mod_lt _ (by decide)⟩ (hd (y 1).val) (ix (y 0).val (y 1).val)

/-- The context rows: what device 0 leaves in the big buffer and every device ends up holding. -/
def ctx (A : AC F) (X : XC F) (W : WC F) (K : KC F) (V : VC F) : BigC F := fun y =>
  if (y 0).val < 32 then tail A (hd (y 1).val) (ixT (y 0).val (y 1).val)
  else if 1920 ≤ (y 0).val then tail A (hd (y 1).val) (ixT ((y 0).val - 1888) (y 1).val)
  else mid X W K V y

/-! ## The result -/

abbrev RC (F : FTy → Type) : Type := (cc0_stg5_0 : Ref sig .tc).ty.Contents (Elt F)

def woAll (O : OC F) : Vec F S1024x1024 .bf16 :=
  wM.view.readAt (Elt F) (Rect.unit (s := S1024x1024) ![0, 0] S1024x1024.size inb_S1024x1024_S1024x1024_0_0).toLoadRect O
theorem inb_rows256 (k : Fin 8) : ∀ a, ![256 * k.val, 0] a + S256x1024.size a ≤ S2048x1024.size a := inb_chunk k
def bChunk (B : BigC F) (k : Fin 8) : Vec F S256x1024 .bf16 :=
  bM.view.readAt (Elt F) (Rect.unit (s := S2048x1024) ![256 * k.val, 0] S256x1024.size (inb_rows256 k)).toLoadRect B

def ix256 (r j : ℕ) : S256x1024.Idx := fun
  | 0 => (⟨r % 256, Nat.mod_lt _ (by decide)⟩ : Fin 256) | 1 => (⟨j % 1024, Nat.mod_lt _ (by decide)⟩ : Fin 1024)

/-- The output block: device 0 multiplies all rows at once, the others chunk by chunk. -/
def outWhole (O : OC F) (B : BigC F) : RC F :=
  k0_pay95 (bM.view.readAt (Elt F) (Rect.unit (s := S2048x1024) ![0, 0] S2048x1024.size inb_S2048x1024_S2048x1024_0_0).toLoadRect B) (woAll O)
def outChunks (O : OC F) (B : BigC F) : RC F := fun y =>
  k0_pay96 (bChunk B ⟨((y 0).val / 256) % 8, Nat.mod_lt _ (by decide)⟩) (woAll O) (ix256 (y 0).val (y 1).val)
def outOf (c : Dev nD) (O : OC F) (B : BigC F) : RC F := if c = 0 then outWhole O B else outChunks O B

/-! ## The printed payloads are these -/

section Printed

variable (q : FVec F S128x1024 .bf16) (mm : IVec S128x2048 1) (bm : IVec S128x512 1) (k v : Vec F S2048x128 .bf16)
  (k1 v1 : Vec F S128x128 .bf16) (k2 v2 : Vec F S384x128 .bf16)

theorem pay119_eq (w) : k0_pay119 w = fullMask 0#32 w := rfl
theorem pay159_eq (w) : k0_pay159 w = fullMask 1920#32 w := rfl
theorem pay4_eq (a b) (t) : k0_pay4 a b t = bandMask (Scf.iv a b t) := rfl
theorem pay32_eq (a b) (t) : k0_pay32 a b t = bandMask (Scf.iv a b t) := rfl
theorem pay6_eq : k0_pay6 q bm (k0_pay5 k1) k2 v1 v2 = bandOut (bandW bm (qHead q 0) (cat k1 k2)) (cat v1 v2) := rfl
theorem pay9_eq : k0_pay9 (k0_pay7 v1 v2) (k0_pay8 q bm k1 k2) = bandOut (bandW bm (qHead q 1) (cat k1 k2)) (cat v1 v2) := rfl
theorem pay10_eq : k0_pay10 q bm k1 k2 v1 v2 = bandOut (bandW bm (qHead q 2) (cat k1 k2)) (cat v1 v2) := rfl
theorem pay30_eq : k0_pay30 (k0_pay19 v1 v2) (k0_pay20 q bm k1 k2) = bandOut (bandW bm (qHead q 7) (cat k1 k2)) (cat v1 v2) := rfl
theorem pay121_eq (w) (x) (wq) : k0_pay121 w x wq k v = fullNum (fullW (fullMask 0#32 w) (qHead (k0_pay118 x wq) 0) k) v := rfl
theorem pay139_eq : k0_pay139 q mm k v = fullNum (fullW mm (qHead q 5) k) v := rfl
theorem pay157_eq (s : Fin 8 → FVec F S128x1 .f32) : k0_pay157 (s 0) (s 1) (s 2) (s 3) (s 4) (s 5) (s 6) (s 7)
    = shapeCast S1x32x128 (truncf .bf16 (extractStridedSlice S32x128 ![0, 0] (packS s) slices_S128x128_o0_0_S32x128) bitsLt_bf16_f32 : FVec F S32x128 .bf16) shapeCasts_S32x128_S1x32x128 := rfl

end Printed

end Cert.Ring

end
-- ==== Proof.Start.lean ====
module

public import proofs.«01_k».proof.Proof.Val

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The order of a device's payments, waits and credits -/

/-- The tokens of device 0's chunk sends, in order. -/
def tkA (k : Fin 8) : List Tok := [(0, ⟨7 + k.val, by omega⟩, 0, false), (1, ⟨23 + k.val, by omega⟩, 0, false)]
def tkB (k : Fin 8) : List Tok := [(0, ⟨15 + k.val, by omega⟩, 0, false), (3, ⟨23 + k.val, by omega⟩, 0, false)]
def TX1 (c : Dev nD) : List Tok := if c = 0 then tkA 1 ++ tkB 1 ++ tkA 2 ++ tkB 2 else []
def TX2 (c : Dev nD) : List Tok := if c = 0 then tkA 3 ++ tkB 3 ++ tkA 4 ++ tkB 4 else []
def TX3 (c : Dev nD) : List Tok := if c = 0 then tkA 5 ++ tkB 5 ++ tkA 6 ++ tkB 6 else []
def TXT (c : Dev nD) : List Tok :=
  if c = 0 then tkA 0 ++ tkB 7 ++ tkA 7 ++ tkB 0
  else if c = 1 then [(1, 32, 0, false), (2, 36, 0, false), (1, 33, 0, false), (2, 37, 0, false), (1, 34, 0, false), (2, 38, 0, false), (1, 31, 0, false), (2, 35, 0, false)]
  else if c = 3 then [(3, 31, 0, false), (2, 39, 0, false), (3, 32, 0, false), (2, 40, 0, false), (3, 33, 0, false), (2, 41, 0, false), (3, 34, 0, false), (2, 42, 0, false)]
  else []
def Tk6 (c : Dev nD) : List Tok := TX3 c ++ TXT c
def Tk5 (c : Dev nD) : List Tok := (c, 3, 1, false) :: (nxt c, 6, 1, false) :: Tk6 c
def Tk4 (c : Dev nD) : List Tok := (prv c, 1, 0, false) :: Tk5 c
def Tk3 (c : Dev nD) : List Tok := TX2 c ++ Tk4 c
def Tk2' (c : Dev nD) : List Tok := (c, 4, 0, false) :: (nxt c, 5, 0, false) :: Tk3 c
def Tk2 (c : Dev nD) : List Tok := (prv c, 0, 0, false) :: Tk2' c
def Tk1' (c : Dev nD) : List Tok := TX1 c ++ Tk2 c
def Tk1 (c : Dev nD) : List Tok := (c, 3, 0, false) :: (nxt c, 6, 0, false) :: Tk1' c
def Tk0 (c : Dev nD) : List Tok := (prv c, 2, 0, true) :: (nxt c, 2, 0, false) :: Tk1 c

/-- The credit a device starts with: what the others owe its semaphores. -/
def CT (c : Dev nD) : List Ent :=
  if c = 1 ∨ c = 3 then [(c, 24, 0), (c, 25, 0), (c, 26, 0), (c, 27, 0), (c, 28, 0), (c, 29, 0), (c, 23, 0), (c, 30, 0)]
  else if c = 2 then [(2, 36, 0), (2, 37, 0), (2, 38, 0), (2, 39, 0), (2, 40, 0), (2, 41, 0), (2, 35, 0), (2, 42, 0)] else []
def C5 (c : Dev nD) : List Ent := (c, 6, 1) :: CT c
def C4 (c : Dev nD) : List Ent := (c, 1, 0) :: C5 c
def C3 (c : Dev nD) : List Ent := (c, 5, 0) :: C4 c
def C2 (c : Dev nD) : List Ent := (c, 0, 0) :: C3 c
def C1 (c : Dev nD) : List Ent := (c, 6, 0) :: C2 c
def C0 (c : Dev nD) : List Ent := (c, 2, 0) :: (c, 2, 0) :: C1 c

/-- The credit device 0's chunk sends leave it, latest first. -/
def Y1 (c : Dev nD) : List Ent := if c = 0 then [(0, 17, 0), (0, 9, 0), (0, 16, 0), (0, 8, 0)] else []
def Y2 (c : Dev nD) : List Ent := if c = 0 then [(0, 19, 0), (0, 11, 0), (0, 18, 0), (0, 10, 0)] else []
def Y3 (c : Dev nD) : List Ent := if c = 0 then [(0, 21, 0), (0, 13, 0), (0, 20, 0), (0, 12, 0)] else []

theorem dl_pull (l : List Ent) (e : Ent) (l' : List Ent) : dl (l ++ e :: l') = dl (l ++ l') + tly e := by
  rw [dl_append, dl_append, dl_cons, add_assoc]

/-! ## The entrance: two signals and the wait for the neighbours' -/

/-- A device's rank as the body computes it, and the offset of its keys. -/
abbrev rank (c : Dev nD) : BitVec 32 := Scalar.remsi (Scalar.divsi (Dev.word c) 1#32) 4#32
abbrev koffOf (c : Dev nD) : BitVec 32 := Scalar.muli (rank c) 2048#32

set_option maxHeartbeats 1000000 in
theorem part46_run (T : Dev nD → TinyC F) (B : BigC F) (N : Dev nD × Fin 43 → ℕ) (c : Dev nD)
    (Q : (Σ' (d0 : Dev nD) (v2 : BitVec 32) (v13 : BitVec 32) (v24 : BitVec 32), BitVec 32) → sProp (MT nD τ sig ℕ (Elt F) ℕ UU ℕ)) :
    iprop(recs T B N ∗ St c [] (Tk0 c) (D0 c) (C0 c) ∗ barT (F := F) (prv c) ∗ barF (F := F) (nxt c))
      ⊢ iprop((∀ v13 v24, iprop(St c [2] (Tk1 c) (D1 c) (C1 c) ∗ barT (F := F) c ∗ barF (F := F) c) -∗ Q ⟨c, rank c, v13, v24, koffOf c⟩)
        -∗ wp frame (wpE (defs₀ (F := F)) 𝒱₀ (c : Thread nD τ) none) Set.univ (k0_part46 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) Q) := by
  simp only [k0_part46_eq_skeleton]; unfold k0_part46_skel
  simp only [semSignalWord, semWaitWord, Prog.lift, Prog.bind_op, Prog.bind_ret, Prog.pure_eq_ret, wp_deviceId]
  iintro ⟨#HR, HS, HbT, HbF⟩ Hk
  iapply (step_signal (T := T) (B := B) N c (prv c) 2 0 0 true (Tk := (nxt c, 2, 0, false) :: Tk1 c) (D := (nxt c, 2, 0) :: D1 c) (dev1_eq c) (by decide) (by decide)
    (by revert c; decide)) $$ [HS HbT]
  · isplitr; · iexact HR
    isplitr; · iapply (reached_at N (prv c, 2)); iexact HR
    isplitl [HbT]; · iapply (Entails.of_eq (show barT (F := F) (prv c) = pay T B (prv c) ((2 : Fin 43) : ℕ) 0 true from rfl)); iexact HbT
    iexact HS
  iintro HS
  iapply (step_signal (T := T) (B := B) N c (nxt c) 2 0 0 false (Tk := Tk1 c) (D := D1 c) (dev2_eq c) (by decide) (by decide)
    (by revert c; decide)) $$ [HS HbF]
  · isplitr; · iexact HR
    isplitr; · iapply (reached_at N (nxt c, 2)); iexact HR
    isplitl [HbF]; · iapply (Entails.of_eq (show barF (F := F) (nxt c) = pay T B (nxt c) ((2 : Fin 43) : ℕ) 0 false from rfl)); iexact HbF
    iexact HS
  iintro HS
  iapply (step_wait (T := T) (B := B) N c 2 0 0 2 (w := []) (Tk := Tk1 c) (D := D1 c) (C := C0 c) (C1 c) (wpE_semWait_eq 𝒱₀ (c : Thread nD τ) none Set.univ) (by decide) (by decide) (by decide)
    (by revert c; decide) (by unfold C0; rw [dl_cons, dl_cons, add_assoc, tallyAt_add]; rfl) (by revert c; decide)) $$ [HS]
  · isplitr; · iexact HR
    iexact HS
  iintro ⟨HS, -, Hp⟩
  rw [wp_ret]; imodintro
  iapply Hk
  isplitl [HS]; · iexact HS
  have hd : (bigSep (dts c ((2 : Fin 43) : ℕ) 0) fun d => pay T B c ((2 : Fin 43) : ℕ) 0 d : sProp 𝕄) = iprop(barT (F := F) c ∗ barF (F := F) c) := by
    have h : dts c 2 0 = ({true, false} : Finset Bool) := by revert c; decide
    have h' : dts c ((2 : Fin 43) : ℕ) 0 = ({true, false} : Finset Bool) := h
    rw [h', show ({true, false} : Finset Bool) = insert true {false} from rfl, bigSep_erase (i := true) (by decide), show (insert true {false} : Finset Bool).erase true = {false} from by decide, bigSep_singleton]; rfl
  iapply (Entails.of_eq hd); iexact Hp

end Cert.Ring
end
-- ==== Proof.Loop.lean ====
module

public import proofs.«01_k».proof.Proof.Start
public import Idealize.ShloMosaic.Lib.Pipeline.Value
public import Idealize.ShloMosaic.Lib.WritesUnit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Rows of the big buffer -/

theorem inbR (lo n : ℕ) (h : lo + n ≤ 2048) : ∀ a, ![lo, 0] a + ![n, 1024] a ≤ S2048x1024.size a := by
  intro a
  match a with
  | 0 => exact h
  | 1 => exact Nat.le_refl 1024

/-- Rows `lo` to `lo + n - 1` of the big buffer. -/
abbrev rows (lo n : ℕ) (h : lo + n ≤ 2048 := by decide) : Finset S2048x1024.Idx :=
  bM.view.setOn (Rect.unit (s := S2048x1024) ![lo, 0] ![n, 1024] (inbR lo n h)).set

theorem mem_rows {lo n : ℕ} (h : lo + n ≤ 2048) (y : S2048x1024.Idx) : y ∈ rows lo n h ↔ lo ≤ (y 0).val ∧ (y 0).val < lo + n := by
  have h1 : (y 1).val < 1024 := (y 1).isLt
  have e : y ∈ rows lo n h ↔ y ∈ (Rect.unit (s := S2048x1024) ![lo, 0] ![n, 1024] (inbR lo n h)).set := by
    unfold rows View.setOn
    rw [Finset.mem_map]
    exact ⟨fun ⟨x, hx, he⟩ => by have : x = y := he; rwa [← this], fun hy => ⟨y, hy, rfl⟩⟩
  rw [e, Rect.mem_set_unit]
  constructor
  · intro ha; exact ha 0
  · intro ha a
    match a with
    | 0 => exact ha
    | 1 => exact ⟨Nat.zero_le _, by show (y 1).val < 0 + 1024; omega⟩

theorem rows_disj {a m b n : ℕ} (h : a + m ≤ 2048) (h' : b + n ≤ 2048) (hd : a + m ≤ b ∨ b + n ≤ a) : Disjoint (rows a m h) (rows b n h') := by
  rw [Finset.disjoint_left]; intro y hy hy'
  rw [mem_rows] at hy hy'; omega

theorem rows_union (a m n : ℕ) (h : a + m + n ≤ 2048) :
    rows a (m + n) (by omega) = rows a m (by omega) ∪ rows (a + m) n h := by
  ext y; rw [Finset.mem_union, mem_rows, mem_rows, mem_rows]; omega

/-- The big buffer's rows on device `c`, with contents known on the rows before `k`. -/
abbrev bigR (c : Dev nD) (q : PosShare TreeShare) (lo n : ℕ) (f : BigC F) (h : lo + n ≤ 2048 := by decide) : sProp 𝕄 :=
  bM.view.loc (c : Thread nD τ) ↦[rows lo n h]{q} f

theorem bigR_split (c : Dev nD) (q : PosShare TreeShare) (a m n : ℕ) (f : BigC F) (h : a + m + n ≤ 2048) :
    bigR c q a (m + n) f (by omega) = iprop(bigR c q a m f (by omega) ∗ bigR c q (a + m) n f h) := by
  unfold bigR
  rw [rows_union a m n h]
  have hd : Disjoint (rows a m (by omega)) (rows (a + m) n h) := rows_disj (by omega) h (Or.inl (Nat.le_refl _))
  have e := pointsTo_union (sig := sig) (Ix := ℕ) (Val := Elt F) (Name := ℕ) (U := UU) (Lvl := ℕ) (ℓ := bM.view.loc (c : Thread nD τ)) (q := q) (f := f) (I := rows a m (by omega)) (J := rows (a + m) n h) hd
  exact Entails.antisymm e.1 e.2

theorem bigR_congr (c : Dev nD) (q : PosShare TreeShare) (lo n : ℕ) (f g : BigC F) (h : lo + n ≤ 2048)
    (hfg : ∀ y : S2048x1024.Idx, lo ≤ (y 0).val → (y 0).val < lo + n → f y = g y) : bigR c q lo n f h = bigR c q lo n g h :=
  pointsTo_congr fun y hy => by
    have := (mem_rows h y).mp hy
    exact hfg y this.1 this.2

theorem chPts_rows (k : Fin 8) (c : Dev nD) (q : PosShare TreeShare) (f : BigC F) :
    chPts k c q f = bigR c q (256 * k.val) 256 f (by omega) := by
  unfold chPts bigR rows
  rw [show (chM k).view.set = bM.view.setOn (Rect.unit (s := S2048x1024) ![256 * k.val, 0] S256x1024.size (inb_chunk k)).set from View.set_slice _ _]

/-! ## A row block written head by head -/

section
variable (X : XC F) (W : WC F) (K : KC F) (V : VC F)

/-- Head `h` of row block `b` stored. -/
def tileP (b : Fin 16) (h : Fin 8) (w : FVec F S128x128 .bf16) : View.Piece (Elt F) S2048x1024 .bf16 :=
  ⟨Rect.unit (s := S2048x1024) ![128 * b.val, 128 * h.val] S128x128.size (inb_tile b h), w⟩

theorem piece_eq {o : Fin 2 → ℕ} (b : Fin 16) (h : Fin 8) (inb : ∀ a, o a + S128x128.size a ≤ S2048x1024.size a) (w w' : FVec F S128x128 .bf16)
    (ho : o = ![128 * b.val, 128 * h.val]) (hw : w = w') :
    (⟨Rect.unit (s := S2048x1024) o S128x128.size inb, w⟩ : View.Piece (Elt F) S2048x1024 .bf16) = tileP b h w' := by
  subst ho hw; rfl

theorem read_bM (f : BigC F) (y : S2048x1024.Idx) : bM.view.read (Elt F) f y = f y := rfl

/-- The eight heads of row block `b` written, latest first. -/
def blkP (b : Fin 16) (w : Fin 8 → FVec F S128x128 .bf16) : List (View.Piece (Elt F) S2048x1024 .bf16) :=
  [tileP b 7 (w 7), tileP b 6 (w 6), tileP b 5 (w 5), tileP b 4 (w 4), tileP b 3 (w 3), tileP b 2 (w 2), tileP b 1 (w 1), tileP b 0 (w 0)]

theorem blkP_eq (b : Fin 16) (w : Fin 8 → FVec F S128x128 .bf16) :
    blkP b w = ([7, 6, 5, 4, 3, 2, 1, 0] : List (Fin 8)).map fun h => tileP b h (w h) := rfl

theorem blkP_in (b : Fin 16) (w : Fin 8 → FVec F S128x128 .bf16) (f : BigC F) (y : S2048x1024.Idx) (hy : (y 0).val / 128 = b.val) :
    bM.view.writes (Elt F) f (blkP b w) y = w (hd (y 1).val) (ix (y 0).val (y 1).val) := by
  have h1 : (y 1).val < 1024 := (y 1).isLt
  have hall : ∀ j : Fin 8, j ∈ ([7, 6, 5, 4, 3, 2, 1, 0] : List (Fin 8)) := by decide
  have h := View.read_writes_apply_of_pieces (Val := Elt F) bM.view f
    (fun y => (w (hd (y 1).val) (ix (y 0).val (y 1).val) : F .bf16)) (blkP b w) ?_ y ?_
  · exact (read_bM _ y).symm.trans h
  · intro p hp x
    rw [blkP_eq, List.mem_map] at hp
    obtain ⟨j, -, rfl⟩ := hp
    have h0 : (x 0).val < 128 := (x 0).isLt
    have h2 : (x 1).val < 128 := (x 1).isLt
    have e0 : ((tileP b j (w j)).1.emb x 0).val = 128 * b.val + (x 0).val := by
      show 128 * b.val + 1 * (x 0).val = _; omega
    have e1 : ((tileP b j (w j)).1.emb x 1).val = 128 * j.val + (x 1).val := by
      show 128 * j.val + 1 * (x 1).val = _; omega
    show w j x = w (hd ((tileP b j (w j)).1.emb x 1).val) (ix ((tileP b j (w j)).1.emb x 0).val ((tileP b j (w j)).1.emb x 1).val)
    rw [e0, e1]
    have ej : hd (128 * j.val + (x 1).val) = j := Fin.ext (by show (128 * j.val + (x 1).val) / 128 % 8 = j.val; omega)
    rw [ej]
    congr 1
    funext a
    apply Fin.ext
    match a with
    | 0 => show (x 0).val = (128 * b.val + (x 0).val) % 128; omega
    | 1 => show (x 1).val = (128 * j.val + (x 1).val) % 128; omega
  · rw [blkP_eq]
    refine ⟨_, List.mem_map_of_mem (hall (hd (y 1).val)), ?_⟩
    rw [tileP, Rect.mem_set_unit]
    intro a
    match a with
    | 0 => show 128 * b.val ≤ (y 0).val ∧ (y 0).val < 128 * b.val + 128; omega
    | 1 => show 128 * ((y 1).val / 128 % 8) ≤ (y 1).val ∧ (y 1).val < 128 * ((y 1).val / 128 % 8) + 128; omega

theorem tileP_out (b : Fin 16) (h : Fin 8) (w : FVec F S128x128 .bf16) (L : List (View.Piece (Elt F) S2048x1024 .bf16)) (f : BigC F) (y : S2048x1024.Idx)
    (hy : (y 0).val / 128 ≠ b.val) : bM.view.writes (Elt F) f (tileP b h w :: L) y = bM.view.writes (Elt F) f L y := by
  have e := View.read_writes_cons_unit_of_not_mem (Val := Elt F) bM.view f (inb_tile b h) w L y rfl 0
    (by show (y 0).val < 128 * b.val ∨ 128 * b.val + 128 ≤ (y 0).val; omega)
  exact (read_bM _ y).symm.trans (e.trans (read_bM _ y))

theorem blkP_out (b : Fin 16) (w : Fin 8 → FVec F S128x128 .bf16) (f : BigC F) (y : S2048x1024.Idx) (hy : (y 0).val / 128 ≠ b.val) :
    bM.view.writes (Elt F) f (blkP b w) y = f y := by
  unfold blkP
  rw [tileP_out _ _ _ _ _ _ hy, tileP_out _ _ _ _ _ _ hy, tileP_out _ _ _ _ _ _ hy, tileP_out _ _ _ _ _ _ hy,
    tileP_out _ _ _ _ _ _ hy, tileP_out _ _ _ _ _ _ hy, tileP_out _ _ _ _ _ _ hy, tileP_out _ _ _ _ _ _ hy]
  rfl

/-- Rows `lo` to `hi - 1` hold what they should. -/
def Good (lo hi : ℕ) (f : BigC F) : Prop := ∀ y : S2048x1024.Idx, lo ≤ (y 0).val → (y 0).val < hi → f y = mid X W K V y

/-- One more row block written. -/
theorem good_band (lo : ℕ) (b : Fin 14) (f : BigC F) (hf : Good X W K V lo (128 * (b.val + 1)) f) :
    Good X W K V lo (128 * (b.val + 1) + 128) (bM.view.writes (Elt F) f (blkP ⟨b.val + 1, by omega⟩ (band X W K V b))) := by
  intro y hlo hy
  by_cases hb : (y 0).val / 128 = b.val + 1
  · rw [blkP_in _ _ _ _ hb]
    unfold mid
    rw [if_neg (by omega)]
    have : (⟨((y 0).val / 128 - 1) % 14, Nat.mod_lt _ (by decide)⟩ : Fin 14) = b := Fin.ext (by show ((y 0).val / 128 - 1) % 14 = b.val; omega)
    rw [this]
  · rw [blkP_out _ _ _ _ hb]
    exact hf y hlo (by omega)

theorem good_top (f : BigC F) : Good X W K V 0 128 (bM.view.writes (Elt F) f (blkP 0 (top X W K V))) := by
  intro y hlo hy
  rw [blkP_in _ _ _ _ (show (y 0).val / 128 = 0 by omega)]
  unfold mid
  rw [if_pos hy]

theorem rd_eq {s : Shape} {e : EltTy} (m : Memref sig .tc .vmem s e) (f : m.view.ty.Contents (Elt F)) {o o' : Fin s.rank → ℕ} (sz : Fin s.rank → ℕ)
    (i : ∀ a, o a + sz a ≤ s.size a) (i' : ∀ a, o' a + sz a ≤ s.size a) (h : o = o') :
    m.view.readAt (Elt F) (Rect.unit (s := s) o sz i).toLoadRect f = m.view.readAt (Elt F) (Rect.unit (s := s) o' sz i').toLoadRect f := by
  subst h; rfl

theorem band_of (b : Fin 14) (h : Fin 8) (m : IVec S128x512 1) (q : FVec F S128x1024 .bf16) (k1 v1 : Vec F S128x128 .bf16) (k2 v2 : Vec F S384x128 .bf16)
    (hm : m = bandMask (BitVec.ofNat 32 (b.val + 1))) (hq : q = qBlk X W ⟨b.val + 1, by omega⟩) (hk1 : k1 = kHead K h) (hv1 : v1 = vHead V h)
    (hk2 : k2 = kSlab K b h) (hv2 : v2 = vSlab V b h) :
    bandOut (bandW m (qHead q h) (cat k1 k2)) (cat v1 v2) = band X W K V b h := by
  subst hm hq hk1 hv1 hk2 hv2; rfl

end

/-! ## The trips of the three loops -/

section
variable (X : XC F) (W : WC F) (K : KC F) (V : VC F)

theorem good_step (lo : ℕ) (b : Fin 14) (f : BigC F) (n n' : ℕ) (L : List (View.Piece (Elt F) S2048x1024 .bf16)) (hn : n = 128 * (b.val + 1)) (hn' : n' = n + 128)
    (hf : Good X W K V lo n f) (hL : L = blkP ⟨b.val + 1, by omega⟩ (band X W K V b)) : Good X W K V lo n' (bM.view.writes (Elt F) f L) := by
  subst hn hn' hL; exact good_band X W K V lo b f hf

theorem list8 {α : Type} {a0 a1 a2 a3 a4 a5 a6 a7 b0 b1 b2 b3 b4 b5 b6 b7 : α} (h7 : a7 = b7) (h6 : a6 = b6) (h5 : a5 = b5) (h4 : a4 = b4) (h3 : a3 = b3) (h2 : a2 = b2)
    (h1 : a1 = b1) (h0 : a0 = b0) : [a7, a6, a5, a4, a3, a2, a1, a0] = [b7, b6, b5, b4, b3, b2, b1, b0] := by
  subst h0 h1 h2 h3 h4 h5 h6 h7; rfl

theorem q1_eq (x) (w) : k0_pay3 (F := F) x w = k0_pay118 x w := rfl
theorem q2_eq (x) (w) : k0_pay31 (F := F) x w = k0_pay118 x w := rfl
theorem q3_eq (x) (w) : k0_pay50 (F := F) x w = k0_pay118 x w := rfl
theorem pay51_eq (a b) (t) : k0_pay51 a b t = bandMask (Scf.iv a b t) := rfl

variable (b : Fin 14) (m : IVec S128x512 1) (q : FVec F S128x1024 .bf16) (k1 v1 : Vec F S128x128 .bf16) (k2 v2 : Vec F S384x128 .bf16)
theorem band1_0 (hm : m = bandMask (BitVec.ofNat 32 (b.val + 1))) (hq : q = qBlk X W ⟨b.val + 1, by omega⟩) (hk1 : k1 = kHead K 0) (hv1 : v1 = vHead V 0)
    (hk2 : k2 = kSlab K b 0) (hv2 : v2 = vSlab V b 0) : k0_pay6 q m (k0_pay5 k1) k2 v1 v2 = band X W K V b 0 :=
  (show k0_pay6 q m (k0_pay5 k1) k2 v1 v2 = bandOut (bandW m (qHead q 0) (cat k1 k2)) (cat v1 v2) from rfl).trans (band_of X W K V b 0 m q k1 v1 k2 v2 hm hq hk1 hv1 hk2 hv2)
theorem band1_1 (hm : m = bandMask (BitVec.ofNat 32 (b.val + 1))) (hq : q = qBlk X W ⟨b.val + 1, by omega⟩) (hk1 : k1 = kHead K 1) (hv1 : v1 = vHead V 1)
    (hk2 : k2 = kSlab K b 1) (hv2 : v2 = vSlab V b 1) : k0_pay9 (k0_pay7 v1 v2) (k0_pay8 q m k1 k2) = band X W K V b 1 :=
  (show k0_pay9 (k0_pay7 v1 v2) (k0_pay8 q m k1 k2) = bandOut (bandW m (qHead q 1) (cat k1 k2)) (cat v1 v2) from rfl).trans (band_of X W K V b 1 m q k1 v1 k2 v2 hm hq hk1 hv1 hk2 hv2)
theorem band1_2 (hm : m = bandMask (BitVec.ofNat 32 (b.val + 1))) (hq : q = qBlk X W ⟨b.val + 1, by omega⟩) (hk1 : k1 = kHead K 2) (hv1 : v1 = vHead V 2)
    (hk2 : k2 = kSlab K b 2) (hv2 : v2 = vSlab V b 2) : k0_pay10 q m k1 k2 v1 v2 = band X W K V b 2 :=
  (show k0_pay10 q m k1 k2 v1 v2 = bandOut (bandW m (qHead q 2) (cat k1 k2)) (cat v1 v2) from rfl).trans (band_of X W K V b 2 m q k1 v1 k2 v2 hm hq hk1 hv1 hk2 hv2)
theorem band1_3 (hm : m = bandMask (BitVec.ofNat 32 (b.val + 1))) (hq : q = qBlk X W ⟨b.val + 1, by omega⟩) (hk1 : k1 = kHead K 3) (hv1 : v1 = vHead V 3)
    (hk2 : k2 = kSlab K b 3) (hv2 : v2 = vSlab V b 3) : k0_pay12 q m (k0_pay11 k1) k2 v1 v2 = band X W K V b 3 :=
  (show k0_pay12 q m (k0_pay11 k1) k2 v1 v2 = bandOut (bandW m (qHead q 3) (cat k1 k2)) (cat v1 v2) from rfl).trans (band_of X W K V b 3 m q k1 v1 k2 v2 hm hq hk1 hv1 hk2 hv2)
theorem band1_4 (hm : m = bandMask (BitVec.ofNat 32 (b.val + 1))) (hq : q = qBlk X W ⟨b.val + 1, by omega⟩) (hk1 : k1 = kHead K 4) (hv1 : v1 = vHead V 4)
    (hk2 : k2 = kSlab K b 4) (hv2 : v2 = vSlab V b 4) : k0_pay15 (k0_pay13 v1 v2) (k0_pay14 q m k1 k2) = band X W K V b 4 :=
  (show k0_pay15 (k0_pay13 v1 v2) (k0_pay14 q m k1 k2) = bandOut (bandW m (qHead q 4) (cat k1 k2)) (cat v1 v2) from rfl).trans (band_of X W K V b 4 m q k1 v1 k2 v2 hm hq hk1 hv1 hk2 hv2)
theorem band1_5 (hm : m = bandMask (BitVec.ofNat 32 (b.val + 1))) (hq : q = qBlk X W ⟨b.val + 1, by omega⟩) (hk1 : k1 = kHead K 5) (hv1 : v1 = vHead V 5)
    (hk2 : k2 = kSlab K b 5) (hv2 : v2 = vSlab V b 5) : k0_pay16 q m k1 k2 v1 v2 = band X W K V b 5 :=
  (show k0_pay16 q m k1 k2 v1 v2 = bandOut (bandW m (qHead q 5) (cat k1 k2)) (cat v1 v2) from rfl).trans (band_of X W K V b 5 m q k1 v1 k2 v2 hm hq hk1 hv1 hk2 hv2)
theorem band1_6 (hm : m = bandMask (BitVec.ofNat 32 (b.val + 1))) (hq : q = qBlk X W ⟨b.val + 1, by omega⟩) (hk1 : k1 = kHead K 6) (hv1 : v1 = vHead V 6)
    (hk2 : k2 = kSlab K b 6) (hv2 : v2 = vSlab V b 6) : k0_pay18 q m (k0_pay17 k1) k2 v1 v2 = band X W K V b 6 :=
  (show k0_pay18 q m (k0_pay17 k1) k2 v1 v2 = bandOut (bandW m (qHead q 6) (cat k1 k2)) (cat v1 v2) from rfl).trans (band_of X W K V b 6 m q k1 v1 k2 v2 hm hq hk1 hv1 hk2 hv2)
theorem band1_7 (hm : m = bandMask (BitVec.ofNat 32 (b.val + 1))) (hq : q = qBlk X W ⟨b.val + 1, by omega⟩) (hk1 : k1 = kHead K 7) (hv1 : v1 = vHead V 7)
    (hk2 : k2 = kSlab K b 7) (hv2 : v2 = vSlab V b 7) : k0_pay30 (k0_pay19 v1 v2) (k0_pay20 q m k1 k2) = band X W K V b 7 :=
  (show k0_pay30 (k0_pay19 v1 v2) (k0_pay20 q m k1 k2) = bandOut (bandW m (qHead q 7) (cat k1 k2)) (cat v1 v2) from rfl).trans (band_of X W K V b 7 m q k1 v1 k2 v2 hm hq hk1 hv1 hk2 hv2)
theorem band2_0 (hm : m = bandMask (BitVec.ofNat 32 (b.val + 1))) (hq : q = qBlk X W ⟨b.val + 1, by omega⟩) (hk1 : k1 = kHead K 0) (hv1 : v1 = vHead V 0)
    (hk2 : k2 = kSlab K b 0) (hv2 : v2 = vSlab V b 0) : k0_pay34 q m (k0_pay33 k1) k2 v1 v2 = band X W K V b 0 :=
  (show k0_pay34 q m (k0_pay33 k1) k2 v1 v2 = bandOut (bandW m (qHead q 0) (cat k1 k2)) (cat v1 v2) from rfl).trans (band_of X W K V b 0 m q k1 v1 k2 v2 hm hq hk1 hv1 hk2 hv2)
theorem band2_1 (hm : m = bandMask (BitVec.ofNat 32 (b.val + 1))) (hq : q = qBlk X W ⟨b.val + 1, by omega⟩) (hk1 : k1 = kHead K 1) (hv1 : v1 = vHead V 1)
    (hk2 : k2 = kSlab K b 1) (hv2 : v2 = vSlab V b 1) : k0_pay37 (k0_pay35 v1 v2) (k0_pay36 q m k1 k2) = band X W K V b 1 :=
  (show k0_pay37 (k0_pay35 v1 v2) (k0_pay36 q m k1 k2) = bandOut (bandW m (qHead q 1) (cat k1 k2)) (cat v1 v2) from rfl).trans (band_of X W K V b 1 m q k1 v1 k2 v2 hm hq hk1 hv1 hk2 hv2)
theorem band2_2 (hm : m = bandMask (BitVec.ofNat 32 (b.val + 1))) (hq : q = qBlk X W ⟨b.val + 1, by omega⟩) (hk1 : k1 = kHead K 2) (hv1 : v1 = vHead V 2)
    (hk2 : k2 = kSlab K b 2) (hv2 : v2 = vSlab V b 2) : k0_pay38 q m k1 k2 v1 v2 = band X W K V b 2 :=
  (show k0_pay38 q m k1 k2 v1 v2 = bandOut (bandW m (qHead q 2) (cat k1 k2)) (cat v1 v2) from rfl).trans (band_of X W K V b 2 m q k1 v1 k2 v2 hm hq hk1 hv1 hk2 hv2)
theorem band2_3 (hm : m = bandMask (BitVec.ofNat 32 (b.val + 1))) (hq : q = qBlk X W ⟨b.val + 1, by omega⟩) (hk1 : k1 = kHead K 3) (hv1 : v1 = vHead V 3)
    (hk2 : k2 = kSlab K b 3) (hv2 : v2 = vSlab V b 3) : k0_pay40 q m (k0_pay39 k1) k2 v1 v2 = band X W K V b 3 :=
  (show k0_pay40 q m (k0_pay39 k1) k2 v1 v2 = bandOut (bandW m (qHead q 3) (cat k1 k2)) (cat v1 v2) from rfl).trans (band_of X W K V b 3 m q k1 v1 k2 v2 hm hq hk1 hv1 hk2 hv2)
theorem band2_4 (hm : m = bandMask (BitVec.ofNat 32 (b.val + 1))) (hq : q = qBlk X W ⟨b.val + 1, by omega⟩) (hk1 : k1 = kHead K 4) (hv1 : v1 = vHead V 4)
    (hk2 : k2 = kSlab K b 4) (hv2 : v2 = vSlab V b 4) : k0_pay43 (k0_pay41 v1 v2) (k0_pay42 q m k1 k2) = band X W K V b 4 :=
  (show k0_pay43 (k0_pay41 v1 v2) (k0_pay42 q m k1 k2) = bandOut (bandW m (qHead q 4) (cat k1 k2)) (cat v1 v2) from rfl).trans (band_of X W K V b 4 m q k1 v1 k2 v2 hm hq hk1 hv1 hk2 hv2)
theorem band2_5 (hm : m = bandMask (BitVec.ofNat 32 (b.val + 1))) (hq : q = qBlk X W ⟨b.val + 1, by omega⟩) (hk1 : k1 = kHead K 5) (hv1 : v1 = vHead V 5)
    (hk2 : k2 = kSlab K b 5) (hv2 : v2 = vSlab V b 5) : k0_pay44 q m k1 k2 v1 v2 = band X W K V b 5 :=
  (show k0_pay44 q m k1 k2 v1 v2 = bandOut (bandW m (qHead q 5) (cat k1 k2)) (cat v1 v2) from rfl).trans (band_of X W K V b 5 m q k1 v1 k2 v2 hm hq hk1 hv1 hk2 hv2)
theorem band2_6 (hm : m = bandMask (BitVec.ofNat 32 (b.val + 1))) (hq : q = qBlk X W ⟨b.val + 1, by omega⟩) (hk1 : k1 = kHead K 6) (hv1 : v1 = vHead V 6)
    (hk2 : k2 = kSlab K b 6) (hv2 : v2 = vSlab V b 6) : k0_pay46 q m (k0_pay45 k1) k2 v1 v2 = band X W K V b 6 :=
  (show k0_pay46 q m (k0_pay45 k1) k2 v1 v2 = bandOut (bandW m (qHead q 6) (cat k1 k2)) (cat v1 v2) from rfl).trans (band_of X W K V b 6 m q k1 v1 k2 v2 hm hq hk1 hv1 hk2 hv2)
theorem band2_7 (hm : m = bandMask (BitVec.ofNat 32 (b.val + 1))) (hq : q = qBlk X W ⟨b.val + 1, by omega⟩) (hk1 : k1 = kHead K 7) (hv1 : v1 = vHead V 7)
    (hk2 : k2 = kSlab K b 7) (hv2 : v2 = vSlab V b 7) : k0_pay49 (k0_pay47 v1 v2) (k0_pay48 q m k1 k2) = band X W K V b 7 :=
  (show k0_pay49 (k0_pay47 v1 v2) (k0_pay48 q m k1 k2) = bandOut (bandW m (qHead q 7) (cat k1 k2)) (cat v1 v2) from rfl).trans (band_of X W K V b 7 m q k1 v1 k2 v2 hm hq hk1 hv1 hk2 hv2)
theorem band3_0 (hm : m = bandMask (BitVec.ofNat 32 (b.val + 1))) (hq : q = qBlk X W ⟨b.val + 1, by omega⟩) (hk1 : k1 = kHead K 0) (hv1 : v1 = vHead V 0)
    (hk2 : k2 = kSlab K b 0) (hv2 : v2 = vSlab V b 0) : k0_pay53 q m (k0_pay52 k1) k2 v1 v2 = band X W K V b 0 :=
  (show k0_pay53 q m (k0_pay52 k1) k2 v1 v2 = bandOut (bandW m (qHead q 0) (cat k1 k2)) (cat v1 v2) from rfl).trans (band_of X W K V b 0 m q k1 v1 k2 v2 hm hq hk1 hv1 hk2 hv2)
theorem band3_1 (hm : m = bandMask (BitVec.ofNat 32 (b.val + 1))) (hq : q = qBlk X W ⟨b.val + 1, by omega⟩) (hk1 : k1 = kHead K 1) (hv1 : v1 = vHead V 1)
    (hk2 : k2 = kSlab K b 1) (hv2 : v2 = vSlab V b 1) : k0_pay56 (k0_pay54 v1 v2) (k0_pay55 q m k1 k2) = band X W K V b 1 :=
  (show k0_pay56 (k0_pay54 v1 v2) (k0_pay55 q m k1 k2) = bandOut (bandW m (qHead q 1) (cat k1 k2)) (cat v1 v2) from rfl).trans (band_of X W K V b 1 m q k1 v1 k2 v2 hm hq hk1 hv1 hk2 hv2)
theorem band3_2 (hm : m = bandMask (BitVec.ofNat 32 (b.val + 1))) (hq : q = qBlk X W ⟨b.val + 1, by omega⟩) (hk1 : k1 = kHead K 2) (hv1 : v1 = vHead V 2)
    (hk2 : k2 = kSlab K b 2) (hv2 : v2 = vSlab V b 2) : k0_pay57 q m k1 k2 v1 v2 = band X W K V b 2 :=
  (show k0_pay57 q m k1 k2 v1 v2 = bandOut (bandW m (qHead q 2) (cat k1 k2)) (cat v1 v2) from rfl).trans (band_of X W K V b 2 m q k1 v1 k2 v2 hm hq hk1 hv1 hk2 hv2)
theorem band3_3 (hm : m = bandMask (BitVec.ofNat 32 (b.val + 1))) (hq : q = qBlk X W ⟨b.val + 1, by omega⟩) (hk1 : k1 = kHead K 3) (hv1 : v1 = vHead V 3)
    (hk2 : k2 = kSlab K b 3) (hv2 : v2 = vSlab V b 3) : k0_pay59 q m (k0_pay58 k1) k2 v1 v2 = band X W K V b 3 :=
  (show k0_pay59 q m (k0_pay58 k1) k2 v1 v2 = bandOut (bandW m (qHead q 3) (cat k1 k2)) (cat v1 v2) from rfl).trans (band_of X W K V b 3 m q k1 v1 k2 v2 hm hq hk1 hv1 hk2 hv2)
theorem band3_4 (hm : m = bandMask (BitVec.ofNat 32 (b.val + 1))) (hq : q = qBlk X W ⟨b.val + 1, by omega⟩) (hk1 : k1 = kHead K 4) (hv1 : v1 = vHead V 4)
    (hk2 : k2 = kSlab K b 4) (hv2 : v2 = vSlab V b 4) : k0_pay62 (k0_pay60 v1 v2) (k0_pay61 q m k1 k2) = band X W K V b 4 :=
  (show k0_pay62 (k0_pay60 v1 v2) (k0_pay61 q m k1 k2) = bandOut (bandW m (qHead q 4) (cat k1 k2)) (cat v1 v2) from rfl).trans (band_of X W K V b 4 m q k1 v1 k2 v2 hm hq hk1 hv1 hk2 hv2)
theorem band3_5 (hm : m = bandMask (BitVec.ofNat 32 (b.val + 1))) (hq : q = qBlk X W ⟨b.val + 1, by omega⟩) (hk1 : k1 = kHead K 5) (hv1 : v1 = vHead V 5)
    (hk2 : k2 = kSlab K b 5) (hv2 : v2 = vSlab V b 5) : k0_pay63 q m k1 k2 v1 v2 = band X W K V b 5 :=
  (show k0_pay63 q m k1 k2 v1 v2 = bandOut (bandW m (qHead q 5) (cat k1 k2)) (cat v1 v2) from rfl).trans (band_of X W K V b 5 m q k1 v1 k2 v2 hm hq hk1 hv1 hk2 hv2)
theorem band3_6 (hm : m = bandMask (BitVec.ofNat 32 (b.val + 1))) (hq : q = qBlk X W ⟨b.val + 1, by omega⟩) (hk1 : k1 = kHead K 6) (hv1 : v1 = vHead V 6)
    (hk2 : k2 = kSlab K b 6) (hv2 : v2 = vSlab V b 6) : k0_pay65 q m (k0_pay64 k1) k2 v1 v2 = band X W K V b 6 :=
  (show k0_pay65 q m (k0_pay64 k1) k2 v1 v2 = bandOut (bandW m (qHead q 6) (cat k1 k2)) (cat v1 v2) from rfl).trans (band_of X W K V b 6 m q k1 v1 k2 v2 hm hq hk1 hv1 hk2 hv2)
theorem band3_7 (hm : m = bandMask (BitVec.ofNat 32 (b.val + 1))) (hq : q = qBlk X W ⟨b.val + 1, by omega⟩) (hk1 : k1 = kHead K 7) (hv1 : v1 = vHead V 7)
    (hk2 : k2 = kSlab K b 7) (hv2 : v2 = vSlab V b 7) : k0_pay68 (k0_pay66 v1 v2) (k0_pay67 q m k1 k2) = band X W K V b 7 :=
  (show k0_pay68 (k0_pay66 v1 v2) (k0_pay67 q m k1 k2) = bandOut (bandW m (qHead q 7) (cat k1 k2)) (cat v1 v2) from rfl).trans (band_of X W K V b 7 m q k1 v1 k2 v2 hm hq hk1 hv1 hk2 hv2)

end

set_option maxHeartbeats 400000 in
theorem trip1 (c : Dev nD) (h1 : k0_cond1 c = 1#1) (v156 v158 v545 v546) (X : XC F) (W : WC F) (K : KC F) (V : VC F) (f : BigC F) (k : Fin k0_t1_loop.trips)
    (hf : Good X W K V 0 (128 * (k.val + 0 + 1)) f) :
    iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ bigR c fullShare 0 768 f)
    ⊢ wp frame (wpE (defs₀ (F := F)) 𝒱₀ (c : Thread nD τ) none) Set.univ (k0_t1_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v156 v158 h1 v545 v546 k PUnit.unit)
      (fun _ => (iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ ∃ g, bigR c fullShare 0 768 g ∗ ⌜Good X W K V 0 (128 * (k.val + 1 + 0 + 1)) g⌝) : sProp (MT nD τ sig ℕ (Elt F) ℕ UU ℕ))) := by
  have hk : k.val < 5 := Nat.lt_of_lt_of_le k.isLt k0_t1_abs.2.1
  have hm : k0_pay4 1#32 1#32 k = bandMask (BitVec.ofNat 32 (k.val + 0 + 1)) :=
    (pay4_eq _ _ _).trans (congrArg bandMask (show Scf.iv 1#32 1#32 k = _ by
      have : ∀ k : Fin k0_t1_loop.trips, Scf.iv 1#32 1#32 k = BitVec.ofNat 32 (k.val + 0 + 1) := by decide +kernel
      exact this k))
  have hq : k0_pay3 (xM.view.readAt (Elt F) (Rect.unit (s := S2048x1024) (k0_off1 k) S128x1024.size (k0_off1_inb c k h1)).toLoadRect X) (wAll W)
      = qBlk X W ⟨k.val + 0 + 1, by omega⟩ :=
    (q1_eq _ _).trans (congrArg (fun x => k0_pay118 x (wAll W)) (rd_eq xM X S128x1024.size _ (inb_rows ⟨k.val + 0 + 1, by omega⟩)
      ((k0_off1_eq k).trans (by show ![128 * k.val + 128, 0] = ![128 * (k.val + 0 + 1), 0]; rw [show 128 * (k.val + 0 + 1) = 128 * k.val + 128 by omega]))))
  have hs (o : Fin 2 → ℕ) (h : Fin 8) (ho : o = ![128 * k.val + 0, 128 * h.val]) : o = ![128 * (k.val + 0), 128 * h.val] := by
    rw [ho, show 128 * (k.val + 0) = 128 * k.val + 0 by omega]
  have ht (o : Fin 2 → ℕ) (h : Fin 8) (ho : o = ![128 * k.val + 128, 128 * h.val]) : o = ![128 * (k.val + 0 + 1), 128 * h.val] := by
    rw [ho, show 128 * (k.val + 0 + 1) = 128 * k.val + 128 by omega]
  unfold k0_t1_body bigR rows
  iintro ⟨HX, HW, HK, HV, Hb⟩
  sl_exec
  sl_step
  isplitl [HX]; · iexact HX
  isplitl [HW]; · iexact HW
  isplitl [HK]; · iexact HK
  isplitl [HV]; · iexact HV
  iexists _
  isplitl [Hb]; · iexact Hb
  ipureintro
  refine good_step X W K V 0 ⟨k.val + 0, by omega⟩ f _ _ _ rfl (by show 128 * (k.val + 1 + 0 + 1) = 128 * (k.val + 0 + 1) + 128; omega) hf (list8 ?_ ?_ ?_ ?_ ?_ ?_ ?_ ?_)
  · exact piece_eq ⟨k.val + 0 + 1, by omega⟩ 7 _ _ _ (ht _ 7 (k0_off17_eq k)) (band1_7 X W K V ⟨k.val + 0, by omega⟩ _ _ _ _ _ _ hm hq rfl rfl (rd_eq kM K S384x128.size _ _ (hs _ 7 (k0_off16_eq k))) (rd_eq vM V S384x128.size _ _ (hs _ 7 (k0_off16_eq k))))
  · exact piece_eq ⟨k.val + 0 + 1, by omega⟩ 6 _ _ _ (ht _ 6 (k0_off15_eq k)) (band1_6 X W K V ⟨k.val + 0, by omega⟩ _ _ _ _ _ _ hm hq rfl rfl (rd_eq kM K S384x128.size _ _ (hs _ 6 (k0_off14_eq k))) (rd_eq vM V S384x128.size _ _ (hs _ 6 (k0_off14_eq k))))
  · exact piece_eq ⟨k.val + 0 + 1, by omega⟩ 5 _ _ _ (ht _ 5 (k0_off13_eq k)) (band1_5 X W K V ⟨k.val + 0, by omega⟩ _ _ _ _ _ _ hm hq rfl rfl (rd_eq kM K S384x128.size _ _ (hs _ 5 (k0_off12_eq k))) (rd_eq vM V S384x128.size _ _ (hs _ 5 (k0_off12_eq k))))
  · exact piece_eq ⟨k.val + 0 + 1, by omega⟩ 4 _ _ _ (ht _ 4 (k0_off11_eq k)) (band1_4 X W K V ⟨k.val + 0, by omega⟩ _ _ _ _ _ _ hm hq rfl rfl (rd_eq kM K S384x128.size _ _ (hs _ 4 (k0_off10_eq k))) (rd_eq vM V S384x128.size _ _ (hs _ 4 (k0_off10_eq k))))
  · exact piece_eq ⟨k.val + 0 + 1, by omega⟩ 3 _ _ _ (ht _ 3 (k0_off9_eq k)) (band1_3 X W K V ⟨k.val + 0, by omega⟩ _ _ _ _ _ _ hm hq rfl rfl (rd_eq kM K S384x128.size _ _ (hs _ 3 (k0_off8_eq k))) (rd_eq vM V S384x128.size _ _ (hs _ 3 (k0_off8_eq k))))
  · exact piece_eq ⟨k.val + 0 + 1, by omega⟩ 2 _ _ _ (ht _ 2 (k0_off7_eq k)) (band1_2 X W K V ⟨k.val + 0, by omega⟩ _ _ _ _ _ _ hm hq rfl rfl (rd_eq kM K S384x128.size _ _ (hs _ 2 (k0_off6_eq k))) (rd_eq vM V S384x128.size _ _ (hs _ 2 (k0_off6_eq k))))
  · exact piece_eq ⟨k.val + 0 + 1, by omega⟩ 1 _ _ _ (ht _ 1 (k0_off5_eq k)) (band1_1 X W K V ⟨k.val + 0, by omega⟩ _ _ _ _ _ _ hm hq rfl rfl (rd_eq kM K S384x128.size _ _ (hs _ 1 (k0_off4_eq k))) (rd_eq vM V S384x128.size _ _ (hs _ 1 (k0_off4_eq k))))
  · exact piece_eq ⟨k.val + 0 + 1, by omega⟩ 0 _ _ _ (ht _ 0 (k0_off3_eq k)) (band1_0 X W K V ⟨k.val + 0, by omega⟩ _ _ _ _ _ _ hm hq rfl rfl (rd_eq kM K S384x128.size _ _ (hs _ 0 (k0_off2_eq k))) (rd_eq vM V S384x128.size _ _ (hs _ 0 (k0_off2_eq k))))

set_option maxHeartbeats 400000 in
theorem trip2 (c : Dev nD) (h1 : k0_cond2 c = 1#1)  (X : XC F) (W : WC F) (K : KC F) (V : VC F) (f : BigC F) (k : Fin k0_t2_loop.trips)
    (hf : Good X W K V 768 (128 * (k.val + 5 + 1)) f) :
    iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ bigR c fullShare 768 640 f)
    ⊢ wp frame (wpE (defs₀ (F := F)) 𝒱₀ (c : Thread nD τ) none) Set.univ (k0_t2_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1 k PUnit.unit)
      (fun _ => (iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ ∃ g, bigR c fullShare 768 640 g ∗ ⌜Good X W K V 768 (128 * (k.val + 1 + 5 + 1)) g⌝) : sProp (MT nD τ sig ℕ (Elt F) ℕ UU ℕ))) := by
  have hk : k.val < 5 := Nat.lt_of_lt_of_le k.isLt k0_t2_abs.2.1
  have hm : k0_pay32 6#32 1#32 k = bandMask (BitVec.ofNat 32 (k.val + 5 + 1)) :=
    (pay32_eq _ _ _).trans (congrArg bandMask (show Scf.iv 6#32 1#32 k = _ by
      have : ∀ k : Fin k0_t2_loop.trips, Scf.iv 6#32 1#32 k = BitVec.ofNat 32 (k.val + 5 + 1) := by decide +kernel
      exact this k))
  have hq : k0_pay31 (xM.view.readAt (Elt F) (Rect.unit (s := S2048x1024) (k0_off18 k) S128x1024.size (k0_off18_inb c k h1)).toLoadRect X) (wAll W)
      = qBlk X W ⟨k.val + 5 + 1, by omega⟩ :=
    (q2_eq _ _).trans (congrArg (fun x => k0_pay118 x (wAll W)) (rd_eq xM X S128x1024.size _ (inb_rows ⟨k.val + 5 + 1, by omega⟩)
      ((k0_off18_eq k).trans (by show ![128 * k.val + 768, 0] = ![128 * (k.val + 5 + 1), 0]; rw [show 128 * (k.val + 5 + 1) = 128 * k.val + 768 by omega]))))
  have hs (o : Fin 2 → ℕ) (h : Fin 8) (ho : o = ![128 * k.val + 640, 128 * h.val]) : o = ![128 * (k.val + 5), 128 * h.val] := by
    rw [ho, show 128 * (k.val + 5) = 128 * k.val + 640 by omega]
  have ht (o : Fin 2 → ℕ) (h : Fin 8) (ho : o = ![128 * k.val + 768, 128 * h.val]) : o = ![128 * (k.val + 5 + 1), 128 * h.val] := by
    rw [ho, show 128 * (k.val + 5 + 1) = 128 * k.val + 768 by omega]
  unfold k0_t2_body bigR rows
  iintro ⟨HX, HW, HK, HV, Hb⟩
  sl_exec
  sl_step
  isplitl [HX]; · iexact HX
  isplitl [HW]; · iexact HW
  isplitl [HK]; · iexact HK
  isplitl [HV]; · iexact HV
  iexists _
  isplitl [Hb]; · iexact Hb
  ipureintro
  refine good_step X W K V 768 ⟨k.val + 5, by omega⟩ f _ _ _ rfl (by show 128 * (k.val + 1 + 5 + 1) = 128 * (k.val + 5 + 1) + 128; omega) hf (list8 ?_ ?_ ?_ ?_ ?_ ?_ ?_ ?_)
  · exact piece_eq ⟨k.val + 5 + 1, by omega⟩ 7 _ _ _ (ht _ 7 (k0_off34_eq k)) (band2_7 X W K V ⟨k.val + 5, by omega⟩ _ _ _ _ _ _ hm hq rfl rfl (rd_eq kM K S384x128.size _ _ (hs _ 7 (k0_off33_eq k))) (rd_eq vM V S384x128.size _ _ (hs _ 7 (k0_off33_eq k))))
  · exact piece_eq ⟨k.val + 5 + 1, by omega⟩ 6 _ _ _ (ht _ 6 (k0_off32_eq k)) (band2_6 X W K V ⟨k.val + 5, by omega⟩ _ _ _ _ _ _ hm hq rfl rfl (rd_eq kM K S384x128.size _ _ (hs _ 6 (k0_off31_eq k))) (rd_eq vM V S384x128.size _ _ (hs _ 6 (k0_off31_eq k))))
  · exact piece_eq ⟨k.val + 5 + 1, by omega⟩ 5 _ _ _ (ht _ 5 (k0_off30_eq k)) (band2_5 X W K V ⟨k.val + 5, by omega⟩ _ _ _ _ _ _ hm hq rfl rfl (rd_eq kM K S384x128.size _ _ (hs _ 5 (k0_off29_eq k))) (rd_eq vM V S384x128.size _ _ (hs _ 5 (k0_off29_eq k))))
  · exact piece_eq ⟨k.val + 5 + 1, by omega⟩ 4 _ _ _ (ht _ 4 (k0_off28_eq k)) (band2_4 X W K V ⟨k.val + 5, by omega⟩ _ _ _ _ _ _ hm hq rfl rfl (rd_eq kM K S384x128.size _ _ (hs _ 4 (k0_off27_eq k))) (rd_eq vM V S384x128.size _ _ (hs _ 4 (k0_off27_eq k))))
  · exact piece_eq ⟨k.val + 5 + 1, by omega⟩ 3 _ _ _ (ht _ 3 (k0_off26_eq k)) (band2_3 X W K V ⟨k.val + 5, by omega⟩ _ _ _ _ _ _ hm hq rfl rfl (rd_eq kM K S384x128.size _ _ (hs _ 3 (k0_off25_eq k))) (rd_eq vM V S384x128.size _ _ (hs _ 3 (k0_off25_eq k))))
  · exact piece_eq ⟨k.val + 5 + 1, by omega⟩ 2 _ _ _ (ht _ 2 (k0_off24_eq k)) (band2_2 X W K V ⟨k.val + 5, by omega⟩ _ _ _ _ _ _ hm hq rfl rfl (rd_eq kM K S384x128.size _ _ (hs _ 2 (k0_off23_eq k))) (rd_eq vM V S384x128.size _ _ (hs _ 2 (k0_off23_eq k))))
  · exact piece_eq ⟨k.val + 5 + 1, by omega⟩ 1 _ _ _ (ht _ 1 (k0_off22_eq k)) (band2_1 X W K V ⟨k.val + 5, by omega⟩ _ _ _ _ _ _ hm hq rfl rfl (rd_eq kM K S384x128.size _ _ (hs _ 1 (k0_off21_eq k))) (rd_eq vM V S384x128.size _ _ (hs _ 1 (k0_off21_eq k))))
  · exact piece_eq ⟨k.val + 5 + 1, by omega⟩ 0 _ _ _ (ht _ 0 (k0_off20_eq k)) (band2_0 X W K V ⟨k.val + 5, by omega⟩ _ _ _ _ _ _ hm hq rfl rfl (rd_eq kM K S384x128.size _ _ (hs _ 0 (k0_off19_eq k))) (rd_eq vM V S384x128.size _ _ (hs _ 0 (k0_off19_eq k))))

set_option maxHeartbeats 400000 in
theorem trip3 (c : Dev nD) (h1 : k0_cond3 c = 1#1)  (X : XC F) (W : WC F) (K : KC F) (V : VC F) (f : BigC F) (k : Fin k0_t3_loop.trips)
    (hf : Good X W K V 1408 (128 * (k.val + 10 + 1)) f) :
    iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ bigR c fullShare 1408 512 f)
    ⊢ wp frame (wpE (defs₀ (F := F)) 𝒱₀ (c : Thread nD τ) none) Set.univ (k0_t3_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1 k PUnit.unit)
      (fun _ => (iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V) ∗ ∃ g, bigR c fullShare 1408 512 g ∗ ⌜Good X W K V 1408 (128 * (k.val + 1 + 10 + 1)) g⌝) : sProp (MT nD τ sig ℕ (Elt F) ℕ UU ℕ))) := by
  have hk : k.val < 4 := Nat.lt_of_lt_of_le k.isLt k0_t3_abs.2.1
  have hm : k0_pay51 11#32 1#32 k = bandMask (BitVec.ofNat 32 (k.val + 10 + 1)) :=
    (pay51_eq _ _ _).trans (congrArg bandMask (show Scf.iv 11#32 1#32 k = _ by
      have : ∀ k : Fin k0_t3_loop.trips, Scf.iv 11#32 1#32 k = BitVec.ofNat 32 (k.val + 10 + 1) := by decide +kernel
      exact this k))
  have hq : k0_pay50 (xM.view.readAt (Elt F) (Rect.unit (s := S2048x1024) (k0_off35 k) S128x1024.size (k0_off35_inb c k h1)).toLoadRect X) (wAll W)
      = qBlk X W ⟨k.val + 10 + 1, by omega⟩ :=
    (q3_eq _ _).trans (congrArg (fun x => k0_pay118 x (wAll W)) (rd_eq xM X S128x1024.size _ (inb_rows ⟨k.val + 10 + 1, by omega⟩)
      ((k0_off35_eq k).trans (by show ![128 * k.val + 1408, 0] = ![128 * (k.val + 10 + 1), 0]; rw [show 128 * (k.val + 10 + 1) = 128 * k.val + 1408 by omega]))))
  have hs (o : Fin 2 → ℕ) (h : Fin 8) (ho : o = ![128 * k.val + 1280, 128 * h.val]) : o = ![128 * (k.val + 10), 128 * h.val] := by
    rw [ho, show 128 * (k.val + 10) = 128 * k.val + 1280 by omega]
  have ht (o : Fin 2 → ℕ) (h : Fin 8) (ho : o = ![128 * k.val + 1408, 128 * h.val]) : o = ![128 * (k.val + 10 + 1), 128 * h.val] := by
    rw [ho, show 128 * (k.val + 10 + 1) = 128 * k.val + 1408 by omega]
  unfold k0_t3_body bigR rows
  iintro ⟨HX, HW, HK, HV, Hb⟩
  sl_exec
  sl_step
  isplitl [HX]; · iexact HX
  isplitl [HW]; · iexact HW
  isplitl [HK]; · iexact HK
  isplitl [HV]; · iexact HV
  iexists _
  isplitl [Hb]; · iexact Hb
  ipureintro
  refine good_step X W K V 1408 ⟨k.val + 10, by omega⟩ f _ _ _ rfl (by show 128 * (k.val + 1 + 10 + 1) = 128 * (k.val + 10 + 1) + 128; omega) hf (list8 ?_ ?_ ?_ ?_ ?_ ?_ ?_ ?_)
  · exact piece_eq ⟨k.val + 10 + 1, by omega⟩ 7 _ _ _ (ht _ 7 (k0_off51_eq k)) (band3_7 X W K V ⟨k.val + 10, by omega⟩ _ _ _ _ _ _ hm hq rfl rfl (rd_eq kM K S384x128.size _ _ (hs _ 7 (k0_off50_eq k))) (rd_eq vM V S384x128.size _ _ (hs _ 7 (k0_off50_eq k))))
  · exact piece_eq ⟨k.val + 10 + 1, by omega⟩ 6 _ _ _ (ht _ 6 (k0_off49_eq k)) (band3_6 X W K V ⟨k.val + 10, by omega⟩ _ _ _ _ _ _ hm hq rfl rfl (rd_eq kM K S384x128.size _ _ (hs _ 6 (k0_off48_eq k))) (rd_eq vM V S384x128.size _ _ (hs _ 6 (k0_off48_eq k))))
  · exact piece_eq ⟨k.val + 10 + 1, by omega⟩ 5 _ _ _ (ht _ 5 (k0_off47_eq k)) (band3_5 X W K V ⟨k.val + 10, by omega⟩ _ _ _ _ _ _ hm hq rfl rfl (rd_eq kM K S384x128.size _ _ (hs _ 5 (k0_off46_eq k))) (rd_eq vM V S384x128.size _ _ (hs _ 5 (k0_off46_eq k))))
  · exact piece_eq ⟨k.val + 10 + 1, by omega⟩ 4 _ _ _ (ht _ 4 (k0_off45_eq k)) (band3_4 X W K V ⟨k.val + 10, by omega⟩ _ _ _ _ _ _ hm hq rfl rfl (rd_eq kM K S384x128.size _ _ (hs _ 4 (k0_off44_eq k))) (rd_eq vM V S384x128.size _ _ (hs _ 4 (k0_off44_eq k))))
  · exact piece_eq ⟨k.val + 10 + 1, by omega⟩ 3 _ _ _ (ht _ 3 (k0_off43_eq k)) (band3_3 X W K V ⟨k.val + 10, by omega⟩ _ _ _ _ _ _ hm hq rfl rfl (rd_eq kM K S384x128.size _ _ (hs _ 3 (k0_off42_eq k))) (rd_eq vM V S384x128.size _ _ (hs _ 3 (k0_off42_eq k))))
  · exact piece_eq ⟨k.val + 10 + 1, by omega⟩ 2 _ _ _ (ht _ 2 (k0_off41_eq k)) (band3_2 X W K V ⟨k.val + 10, by omega⟩ _ _ _ _ _ _ hm hq rfl rfl (rd_eq kM K S384x128.size _ _ (hs _ 2 (k0_off40_eq k))) (rd_eq vM V S384x128.size _ _ (hs _ 2 (k0_off40_eq k))))
  · exact piece_eq ⟨k.val + 10 + 1, by omega⟩ 1 _ _ _ (ht _ 1 (k0_off39_eq k)) (band3_1 X W K V ⟨k.val + 10, by omega⟩ _ _ _ _ _ _ hm hq rfl rfl (rd_eq kM K S384x128.size _ _ (hs _ 1 (k0_off38_eq k))) (rd_eq vM V S384x128.size _ _ (hs _ 1 (k0_off38_eq k))))
  · exact piece_eq ⟨k.val + 10 + 1, by omega⟩ 0 _ _ _ (ht _ 0 (k0_off37_eq k)) (band3_0 X W K V ⟨k.val + 10, by omega⟩ _ _ _ _ _ _ hm hq rfl rfl (rd_eq kM K S384x128.size _ _ (hs _ 0 (k0_off36_eq k))) (rd_eq vM V S384x128.size _ _ (hs _ 0 (k0_off36_eq k))))

end Cert.Ring
end
-- ==== Proof.Pack.lean ====
module

public import proofs.«01_k».proof.Proof.Start
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What the first stretch leaves in slot 0 -/

theorem inb_lo (j : Fin 9) : ∀ a, ![0, 0, 128 * j.val] a + S1x32x128.size a ≤ S2x160x1152.size a := by revert j; decide
theorem inb_hi (j : Fin 9) : ∀ a, ![0, 32, 128 * j.val] a + S1x128x128.size a ≤ S2x160x1152.size a := by revert j; decide

/-- The first 32 rows of a tile, and a whole tile, as the pieces the body stores. -/
def loP (j : Fin 9) (v : FVec F S128x128 .bf16) : View.Piece (Elt F) S2x160x1152 .bf16 :=
  ⟨Rect.unit (s := S2x160x1152) ![0, 0, 128 * j.val] S1x32x128.size (inb_lo j),
    shapeCast S1x32x128 (extractStridedSlice S32x128 ![0, 0] v slices_S128x128_o0_0_S32x128) shapeCasts_S32x128_S1x32x128⟩
def hiP (j : Fin 9) (v : FVec F S128x128 .bf16) : View.Piece (Elt F) S2x160x1152 .bf16 :=
  ⟨Rect.unit (s := S2x160x1152) ![0, 32, 128 * j.val] S1x128x128.size (inb_hi j),
    shapeCast S1x128x128 v shapeCasts_S128x128_S1x128x128⟩

section
variable (X : XC F) (W : WC F) (K : KC F) (V : VC F) (koff : BitVec 32)

def tilesP : List (View.Piece (Elt F) S2x160x1152 .bf16) :=
  [hiP 8 (tile15 X W K V koff 8), hiP 7 (tile15 X W K V koff 7), hiP 6 (tile15 X W K V koff 6), hiP 5 (tile15 X W K V koff 5), hiP 4 (tile15 X W K V koff 4),
   hiP 3 (tile15 X W K V koff 3), hiP 2 (tile15 X W K V koff 2), hiP 1 (tile15 X W K V koff 1), hiP 0 (tile15 X W K V koff 0),
   loP 8 (tile0 X W K V koff 8), loP 7 (tile0 X W K V koff 7), loP 6 (tile0 X W K V koff 6), loP 5 (tile0 X W K V koff 5), loP 4 (tile0 X W K V koff 4),
   loP 3 (tile0 X W K V koff 3), loP 2 (tile0 X W K V koff 2), loP 1 (tile0 X W K V koff 1), loP 0 (tile0 X W K V koff 0)]

theorem loP_agrees (j : Fin 9) (x : (loP j (tile0 X W K V koff j.val)).1.shape.Idx) :
    (loP j (tile0 X W K V koff j.val)).2 x = packed X W K V koff ((loP j (tile0 X W K V koff j.val)).1.emb x) := by
  have h1 : (x 1).val < 32 := (x 1).isLt
  have h2 : (x 2).val < 128 := (x 2).isLt
  have e1 : ((loP j (tile0 X W K V koff j.val)).1.emb x 1).val = (x 1).val := by
    show 0 + 1 * (x 1).val = _; omega
  have e2 : ((loP j (tile0 X W K V koff j.val)).1.emb x 2).val = 128 * j.val + (x 2).val := by
    show 128 * j.val + 1 * (x 2).val = _; omega
  unfold packed
  rw [e1, e2, if_pos h1, show (128 * j.val + (x 2).val) / 128 = j.val by omega]
  refine (shapeCast_addUnit_apply (n := 2) ![32, 128] (extractStridedSlice S32x128 ![0, 0] (tile0 X W K V koff j.val) slices_S128x128_o0_0_S32x128) shapeCasts_S32x128_S1x32x128 x).trans ?_
  unfold extractStridedSlice
  congr 1
  funext a
  apply Fin.ext
  match a with
  | 0 => show 0 + (x 1).val = (x 1).val % 128; omega
  | 1 => show 0 + (x 2).val = (128 * j.val + (x 2).val) % 128; omega

theorem hiP_agrees (j : Fin 9) (x : (hiP j (tile15 X W K V koff j.val)).1.shape.Idx) :
    (hiP j (tile15 X W K V koff j.val)).2 x = packed X W K V koff ((hiP j (tile15 X W K V koff j.val)).1.emb x) := by
  have h1 : (x 1).val < 128 := (x 1).isLt
  have h2 : (x 2).val < 128 := (x 2).isLt
  have e1 : ((hiP j (tile15 X W K V koff j.val)).1.emb x 1).val = 32 + (x 1).val := by
    show 32 + 1 * (x 1).val = _; omega
  have e2 : ((hiP j (tile15 X W K V koff j.val)).1.emb x 2).val = 128 * j.val + (x 2).val := by
    show 128 * j.val + 1 * (x 2).val = _; omega
  unfold packed
  rw [e1, e2, if_neg (by omega), show (128 * j.val + (x 2).val) / 128 = j.val by omega]
  refine (shapeCast_addUnit_apply (n := 2) ![128, 128] (tile15 X W K V koff j.val) shapeCasts_S128x128_S1x128x128 x).trans ?_
  congr 1
  funext a
  apply Fin.ext
  match a with
  | 0 => show (x 1).val = (32 + (x 1).val - 32) % 128; omega
  | 1 => show (x 2).val = (128 * j.val + (x 2).val) % 128; omega

theorem lo_mem (j : Fin 9) (v : FVec F S128x128 .bf16) (y : S2x160x1152.Idx) (h0 : (y 0).val = 0) (h1 : (y 1).val < 32) (h2 : (y 2).val / 128 = j.val) : y ∈ (loP j v).1.set := by
  have h2' : (y 2).val < 1152 := (y 2).isLt
  rw [loP, Rect.mem_set_unit]
  intro a
  match a with
  | 0 => show 0 ≤ (y 0).val ∧ (y 0).val < 0 + 1; omega
  | 1 => show 0 ≤ (y 1).val ∧ (y 1).val < 0 + 32; omega
  | 2 => show 128 * j.val ≤ (y 2).val ∧ (y 2).val < 128 * j.val + 128; omega
theorem hi_mem (j : Fin 9) (v : FVec F S128x128 .bf16) (y : S2x160x1152.Idx) (h0 : (y 0).val = 0) (h1 : 32 ≤ (y 1).val) (h2 : (y 2).val / 128 = j.val) : y ∈ (hiP j v).1.set := by
  have h1' : (y 1).val < 160 := (y 1).isLt
  rw [hiP, Rect.mem_set_unit]
  intro a
  match a with
  | 0 => show 0 ≤ (y 0).val ∧ (y 0).val < 0 + 1; omega
  | 1 => show 32 ≤ (y 1).val ∧ (y 1).val < 32 + 128; omega
  | 2 => show 128 * j.val ≤ (y 2).val ∧ (y 2).val < 128 * j.val + 128; omega

theorem tilesP_eq : tilesP X W K V koff
    = ([8, 7, 6, 5, 4, 3, 2, 1, 0] : List (Fin 9)).map (fun j => hiP j (tile15 X W K V koff j.val))
      ++ ([8, 7, 6, 5, 4, 3, 2, 1, 0] : List (Fin 9)).map (fun j => loP j (tile0 X W K V koff j.val)) := rfl

theorem read_tM (f : TinyC F) (y : S2x160x1152.Idx) : tM.view.read (Elt F) f y = f y := rfl

/-- Slot 0 after the eighteen stores holds the packed tile, whatever it held before. -/
theorem tiles_read (t : TinyC F) (y : S2x160x1152.Idx) (h0 : (y 0).val = 0) :
    tM.view.writes (Elt F) t (tilesP X W K V koff) y = packed X W K V koff y := by
  have hall : ∀ j : Fin 9, j ∈ ([8, 7, 6, 5, 4, 3, 2, 1, 0] : List (Fin 9)) := by decide
  have h2' : (y 2).val < 1152 := (y 2).isLt
  have h := View.read_writes_apply_of_pieces (Val := Elt F) tM.view t (packed X W K V koff) (tilesP X W K V koff) ?_ y ?_
  · exact (read_tM _ y).symm.trans h
  · intro p hp x
    rw [tilesP_eq, List.mem_append, List.mem_map, List.mem_map] at hp
    rcases hp with ⟨j, -, rfl⟩ | ⟨j, -, rfl⟩
    · exact hiP_agrees X W K V koff j x
    · exact loP_agrees X W K V koff j x
  · rw [tilesP_eq]
    by_cases h1 : (y 1).val < 32
    · exact ⟨_, List.mem_append_right _ (List.mem_map_of_mem (hall ⟨(y 2).val / 128, by omega⟩)), lo_mem _ _ y h0 h1 rfl⟩
    · exact ⟨_, List.mem_append_left _ (List.mem_map_of_mem (hall ⟨(y 2).val / 128, by omega⟩)), hi_mem _ _ y h0 (by omega) rfl⟩

end

/-- The first coordinate of a place in slot 0, in slot 1. -/
theorem slot0_set : slot0.view.set = tM.view.setOn (Rect.unit (s := S2x160x1152) ![0, 0, 0] S1x160x1152.size inb_S2x160x1152_S1x160x1152_0_0_0).set :=
  (View.set_reshape _ _).trans (View.set_slice _ _)
theorem slot1_set : slot1.view.set = tM.view.setOn (Rect.unit (s := S2x160x1152) ![1, 0, 0] S1x160x1152.size inb_S2x160x1152_S1x160x1152_1_0_0).set :=
  (View.set_reshape _ _).trans (View.set_slice _ _)

end Cert.Ring
end
-- ==== Proof.Hops.lean ====
module

public import proofs.«01_k».proof.Proof.Loop
public import proofs.«01_k».proof.Proof.Pack

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A copied slot, a copied chunk -/

theorem amount_ks (k : Fin 43) (hk : 3 ≤ k.val) {sp : Space} {s : Shape} {e : EltTy} (v : View sig .tc sp s e) : v.amount (ks k) = v.dmaCredit := by
  have h : ks k = .dma ⟨k.val + 3, (by have := k.isLt; show k.val + 3 < 46; omega)⟩ := dif_neg (by omega)
  rw [h]

theorem am_big (k : Fin 43) (h : 7 ≤ k.val) : am k.val = NB := by unfold am; rw [if_neg (by omega), if_neg (by omega)]
theorem am_tiny (k : Fin 43) (h : 3 ≤ k.val ∧ k.val < 7) : am k.val = NT := by unfold am; rw [if_neg (by omega), if_pos (by omega)]

section
variable {T : Dev nD → TinyC F} {B : BigC F}
variable (N : Dev nD × Fin 43 → ℕ) (c : Dev nD) {α : Type} {w : List (Fin 43)} {Tk : List Tok} {D C : List Ent}

theorem chunk_lands (k : Fin 8) (n : Dev nD) (fd : BigC F) :
    ((chM k).view.loc (n : Thread nD τ) ↦[(chM k).view.set]{fullShare} ((chM k).view.write (Elt F) fd ((chM k).view.read (Elt F) B) Finset.univ)) ⊢ chPts k n fullShare B := by
  unfold chPts
  refine Entails.of_eq (pointsTo_congr fun i hi => ?_)
  obtain ⟨x, -, rfl⟩ := Finset.mem_map.mp hi
  exact View.write_emb_of_mem _ _ (Finset.mem_univ _)

/-- Chunk `k` sent to device `n`. -/
theorem send_chunk (n : Dev nD) (k : Fin 8) (k₁ k₂ : Fin 43) (q : PosShare TreeShare) {src dst : Memref sig .tc .vmem S256x1024 .bf16} {n' : Dev nD} {sS sem : SemLoc sig}
    {hsc : (dst : Memref sig (Dev.tc n' : Thread nD τ).2.kind .vmem S256x1024 .bf16).view.ref.isScScratch = false} {hsrc : src.view.WordExact} {hdst : (dst : Memref sig (Dev.tc n' : Thread nD τ).2.kind .vmem S256x1024 .bf16).view.WordExact}
    {hsem : DmaTarget.Typed .vmem sem (.remote (Dev.tc n' : Thread nD τ) dst sS hsc)}
    {Q : α → sProp (MT nD τ sig ℕ (Elt F) ℕ UU ℕ)} {kk : PUnit → Prog (TpuEff nD τ sig (Elt F) Λ₀ .tc) α}
    (hs : src = chM k) (hd : dst = chM k) (hn : n' = n) (hs₁ : sS = ks k₁) (hs₂ : sem = ks k₂) (hd₁ : false ∈ dts c k₁ 0) (hd₂ : false ∈ dts n k₂ 0)
    (hk₁ : 7 ≤ k₁.val) (hk₂ : 7 ≤ k₂.val)
    (hp₁ : pay T B c k₁ 0 false = chPts k c q B) (hp₂ : pay T B n k₂ 0 false = chPts k n fullShare B) :
    iprop(recs T B N ∗ chPts k c q B ∗ chAny (F := F) k n ∗ St c w ((c, k₁, 0, false) :: (n, k₂, 0, false) :: Tk) ((n, k₂, 0) :: D) C)
      ⊢ iprop((St c w Tk D ((c, k₁, 0) :: C) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n' : Thread nD τ) dst sS hsc) sem hsrc hdst hsem) kk) Q) := by
  subst hs hd
  have hN : (chM k).view.amount (ks k₂) = am k₂ := (amount_ks k₂ (Nat.le_trans (by decide) hk₂) _).trans ((NB_chM k).trans (am_big k₂ hk₂).symm)
  have hN₁ : am k₁ = am k₂ := (am_big k₁ hk₁).trans (am_big k₂ hk₂).symm
  have h1 : ((chM k).view.loc (c : Thread nD τ) ↦[(chM k).view.set]{q} B) ⊢ pay T B c k₁ 0 false := Entails.of_eq hp₁.symm
  iintro ⟨#HR, Hs, Hd, HS⟩ Hk
  unfold chAny
  icases Hd with ⟨%fd, Hd⟩
  unfold chPts
  have h2 := (chunk_lands (B := B) k n fd).trans (Entails.of_eq hp₂.symm)
  have h3 := (step_send (T := T) (B := B) N c n k₁ k₂ 0 0 0 (q := q) (fs := B) (fd := fd) (w := w) (Tk := Tk) (D := D) (C := C) (kk := kk) (Q := Q) (hsrc := hsrc) (hdst := hdst) (hsem := hsem) (hsc := hsc) hn hs₁ hs₂ hd₁ hd₂
    hN hN₁ h1 h2)
  iapply h3 $$ [Hs Hd HS]
  · isplitr; · iexact HR
    isplitr; · iapply (reached_at N (c, k₁)); iexact HR
    isplitr; · iapply (reached_at N (n, k₂)); iexact HR
    isplitl [Hs]; · iexact Hs
    isplitl [Hd]; · iexact Hd
    iexact HS
  iexact Hk

/-- Slot 0 and slot 1 read the same of every tile the ring passes. -/
def Flat (T : Dev nD → TinyC F) : Prop := ∀ d, slot0.view.read (Elt F) (T d) = slot1.view.read (Elt F) (T d)

theorem NT_eq : slot1.view.dmaCredit = NT := rfl

theorem slot0_lands (n : Dev nD) (hT : Flat T) (d : Dev nD) (fd : TinyC F) :
    (slot1.view.loc (n : Thread nD τ) ↦[slot1.view.set]{fullShare} (slot1.view.write (Elt F) fd (slot0.view.read (Elt F) (T d)) Finset.univ))
      ⊢ slotPts true n (T d) := by
  rw [hT d]
  unfold slotPts
  refine Entails.of_eq (pointsTo_congr fun i hi => ?_)
  obtain ⟨x, -, rfl⟩ := Finset.mem_map.mp hi
  exact View.write_emb_of_mem _ _ (Finset.mem_univ _)

/-- The tile of device `d` passed on from slot0 to the next device's other slot. -/
theorem send_slot0 (d : Dev nD) (hT : Flat T) (k₁ k₂ : Fin 43) (r₁ r₂ ι : ℕ) {n' : Dev nD} {sS sem : SemLoc sig}
    {hsc : (slot1 : Memref sig (Dev.tc n' : Thread nD τ).2.kind .vmem S160x1152 .bf16).view.ref.isScScratch = false} {hsrc : slot0.view.WordExact} {hdst : (slot1 : Memref sig (Dev.tc n' : Thread nD τ).2.kind .vmem S160x1152 .bf16).view.WordExact}
    {hsem : DmaTarget.Typed .vmem sem (.remote (Dev.tc n' : Thread nD τ) slot1 sS hsc)}
    {Q : α → sProp (MT nD τ sig ℕ (Elt F) ℕ UU ℕ)} {kk : PUnit → Prog (TpuEff nD τ sig (Elt F) Λ₀ .tc) α}
    (hn : n' = nxt c) (hs₁ : sS = ks k₁) (hs₂ : sem = ks k₂) (hd₁ : false ∈ dts c k₁ r₁) (hd₂ : false ∈ dts (nxt c) k₂ r₂)
    (hk₁ : 3 ≤ k₁.val ∧ k₁.val < 7) (hk₂ : 3 ≤ k₂.val ∧ k₂.val < 7)
    (hp₁ : slotAny false c ⊢ pay T B c k₁ r₁ false) (hp₂ : slotPts true (nxt c) (T d) ⊢ pay T B (nxt c) k₂ r₂ false) :
    iprop(recs T B N ∗ reached ER (kcell (c, k₁)) r₁ ∗ reached ER (kcell (nxt c, k₂)) r₂ ∗ slotPts false c (T d) ∗ slotAny (F := F) true (nxt c)
        ∗ St c w ((c, k₁, r₁, false) :: (nxt c, k₂, r₂, false) :: Tk) ((nxt c, k₂, ι) :: D) C)
      ⊢ iprop((St c w Tk D ((c, k₁, 0) :: C) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma slot0 (.remote (Dev.tc n' : Thread nD τ) slot1 sS hsc) sem hsrc hdst hsem) kk) Q) := by
  have hN : slot1.view.amount (ks k₂) = am k₂ := (amount_ks k₂ hk₂.1 _).trans (Eq.trans NT_eq (am_tiny k₂ hk₂).symm)
  have hN₁ : am k₁ = am k₂ := (am_tiny k₁ hk₁).trans (am_tiny k₂ hk₂).symm
  have h1 : (slot0.view.loc (c : Thread nD τ) ↦[slot0.view.set]{fullShare} T d) ⊢ pay T B c k₁ r₁ false :=
    BIBase.Entails.trans (show slotPts false c (T d) ⊢ slotAny false c from by unfold slotAny; iintro H; iexists _; iexact H) hp₁
  iintro ⟨#HR, #H1, #H2, Hs, Hd, HS⟩ Hk
  unfold slotAny
  icases Hd with ⟨%fd, Hd⟩
  unfold slotPts
  have h2 := (slot0_lands (T := T) (nxt c) hT d fd).trans hp₂
  have h3 := (step_send (T := T) (B := B) N c (nxt c) k₁ k₂ r₁ r₂ ι (q := fullShare) (fs := T d) (fd := fd) (w := w) (Tk := Tk) (D := D) (C := C) (kk := kk) (Q := Q) (hsrc := hsrc) (hdst := hdst) (hsem := hsem) (hsc := hsc) hn hs₁ hs₂ hd₁ hd₂
    hN hN₁ h1 h2)
  iapply h3 $$ [Hs Hd HS]
  · isplitr; · iexact HR
    isplitr; · iexact H1
    isplitr; · iexact H2
    isplitl [Hs]; · iexact Hs
    isplitl [Hd]; · iexact Hd
    iexact HS
  iexact Hk

theorem slot1_lands (n : Dev nD) (hT : Flat T) (d : Dev nD) (fd : TinyC F) :
    (slot0.view.loc (n : Thread nD τ) ↦[slot0.view.set]{fullShare} (slot0.view.write (Elt F) fd (slot1.view.read (Elt F) (T d)) Finset.univ))
      ⊢ slotPts false n (T d) := by
  rw [← hT d]
  unfold slotPts
  refine Entails.of_eq (pointsTo_congr fun i hi => ?_)
  obtain ⟨x, -, rfl⟩ := Finset.mem_map.mp hi
  exact View.write_emb_of_mem _ _ (Finset.mem_univ _)

/-- The tile of device `d` passed on from slot1 to the next device's other slot. -/
theorem send_slot1 (d : Dev nD) (hT : Flat T) (k₁ k₂ : Fin 43) (r₁ r₂ ι : ℕ) {n' : Dev nD} {sS sem : SemLoc sig}
    {hsc : (slot0 : Memref sig (Dev.tc n' : Thread nD τ).2.kind .vmem S160x1152 .bf16).view.ref.isScScratch = false} {hsrc : slot1.view.WordExact} {hdst : (slot0 : Memref sig (Dev.tc n' : Thread nD τ).2.kind .vmem S160x1152 .bf16).view.WordExact}
    {hsem : DmaTarget.Typed .vmem sem (.remote (Dev.tc n' : Thread nD τ) slot0 sS hsc)}
    {Q : α → sProp (MT nD τ sig ℕ (Elt F) ℕ UU ℕ)} {kk : PUnit → Prog (TpuEff nD τ sig (Elt F) Λ₀ .tc) α}
    (hn : n' = nxt c) (hs₁ : sS = ks k₁) (hs₂ : sem = ks k₂) (hd₁ : false ∈ dts c k₁ r₁) (hd₂ : false ∈ dts (nxt c) k₂ r₂)
    (hk₁ : 3 ≤ k₁.val ∧ k₁.val < 7) (hk₂ : 3 ≤ k₂.val ∧ k₂.val < 7)
    (hp₁ : slotAny true c ⊢ pay T B c k₁ r₁ false) (hp₂ : slotPts false (nxt c) (T d) ⊢ pay T B (nxt c) k₂ r₂ false) :
    iprop(recs T B N ∗ reached ER (kcell (c, k₁)) r₁ ∗ reached ER (kcell (nxt c, k₂)) r₂ ∗ slotPts true c (T d) ∗ slotAny (F := F) false (nxt c)
        ∗ St c w ((c, k₁, r₁, false) :: (nxt c, k₂, r₂, false) :: Tk) ((nxt c, k₂, ι) :: D) C)
      ⊢ iprop((St c w Tk D ((c, k₁, 0) :: C) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma slot1 (.remote (Dev.tc n' : Thread nD τ) slot0 sS hsc) sem hsrc hdst hsem) kk) Q) := by
  have hN : slot0.view.amount (ks k₂) = am k₂ := (amount_ks k₂ hk₂.1 _).trans (Eq.trans rfl (am_tiny k₂ hk₂).symm)
  have hN₁ : am k₁ = am k₂ := (am_tiny k₁ hk₁).trans (am_tiny k₂ hk₂).symm
  have h1 : (slot1.view.loc (c : Thread nD τ) ↦[slot1.view.set]{fullShare} T d) ⊢ pay T B c k₁ r₁ false :=
    BIBase.Entails.trans (show slotPts true c (T d) ⊢ slotAny true c from by unfold slotAny; iintro H; iexists _; iexact H) hp₁
  iintro ⟨#HR, #H1, #H2, Hs, Hd, HS⟩ Hk
  unfold slotAny
  icases Hd with ⟨%fd, Hd⟩
  unfold slotPts
  have h2 := (slot1_lands (T := T) (nxt c) hT d fd).trans hp₂
  have h3 := (step_send (T := T) (B := B) N c (nxt c) k₁ k₂ r₁ r₂ ι (q := fullShare) (fs := T d) (fd := fd) (w := w) (Tk := Tk) (D := D) (C := C) (kk := kk) (Q := Q) (hsrc := hsrc) (hdst := hdst) (hsem := hsem) (hsc := hsc) hn hs₁ hs₂ hd₁ hd₂
    hN hN₁ h1 h2)
  iapply h3 $$ [Hs Hd HS]
  · isplitr; · iexact HR
    isplitr; · iexact H1
    isplitr; · iexact H2
    isplitl [Hs]; · iexact Hs
    isplitl [Hd]; · iexact Hd
    iexact HS
  iexact Hk

end

/-! ## The accumulator read and written whole -/

theorem acc_read (A : AC F) : aM.view.readAt (Elt F) (Rect.unit (s := S160x1152) ![0, 0] S160x1152.size inb_S160x1152_S160x1152_0_0).toLoadRect A = A := by
  funext x
  refine congrArg A (funext fun a => Fin.ext ?_)
  match a with
  | 0 => show 0 + 1 * (x 0).val = (x 0).val; omega
  | 1 => show 0 + 1 * (x 1).val = (x 1).val; omega

theorem read_aM (f : AC F) (y : S160x1152.Idx) : aM.view.read (Elt F) f y = f y := rfl

theorem acc_write (A : AC F) (w : FVec F S160x1152 .f32) :
    aM.view.writes (Elt F) A [⟨Rect.unit (s := S160x1152) ![0, 0] S160x1152.size inb_S160x1152_S160x1152_0_0, w⟩] = w := by
  funext y
  have h := View.read_writes_apply_of_pieces (Val := Elt F) aM.view A w
    [⟨Rect.unit (s := S160x1152) ![0, 0] S160x1152.size inb_S160x1152_S160x1152_0_0, w⟩] ?_ y ?_
  · exact (read_aM _ y).symm.trans h
  · intro p hp x
    rw [List.mem_singleton] at hp
    subst hp
    refine congrArg w (funext fun a => Fin.ext ?_)
    match a with
    | 0 => show (x 0).val = 0 + 1 * (x 0).val; omega
    | 1 => show (x 1).val = 0 + 1 * (x 1).val; omega
  · refine ⟨_, List.mem_singleton_self _, ?_⟩
    rw [Rect.mem_set_unit]
    have h0 : (y 0).val < 160 := (y 0).isLt
    have h1 : (y 1).val < 1152 := (y 1).isLt
    intro a
    match a with
    | 0 => show 0 ≤ (y 0).val ∧ (y 0).val < 0 + 160; omega
    | 1 => show 0 ≤ (y 1).val ∧ (y 1).val < 0 + 1152; omega

end Cert.Ring
end
-- ==== Proof.Stage.lean ====
module

public import proofs.«01_k».proof.Proof.Hops

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Device 0's three stages of row blocks -/

section
variable (X : XC F) (W : WC F) (K : KC F) (V : VC F)

/-- The four inputs of the band as the device holds them. -/
abbrev bufs (c : Dev nD) (X : XC F) (W : WC F) (K : KC F) (V : VC F) : sProp 𝕄 :=
  iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V))

/-- Rows `256 k` to `256 k + 255`, of the right contents, are chunk `k`. -/
theorem chunk_of (B : BigC F) (hB : ∀ y : S2048x1024.Idx, 32 ≤ (y 0).val → (y 0).val < 1920 → B y = mid X W K V y) (k : Fin 8) (c : Dev nD) (f : BigC F) (lo hi : ℕ)
    (hf : Good X W K V lo hi f) (h : lo ≤ 256 * k.val ∧ 256 * k.val + 256 ≤ hi ∧ 32 ≤ 256 * k.val ∧ 256 * k.val + 256 ≤ 1920) :
    bigR c fullShare (256 * k.val) 256 f (by omega) ⊢ iprop(chPts k c fullShare.left B ∗ chPts k c fullShare.right B) := by
  rw [bigR_congr c fullShare (256 * k.val) 256 f B (by omega) (fun y h1 h2 => (hf y (by omega) (by omega)).trans (hB y (by omega) (by omega)).symm), ← chPts_rows]
  unfold chPts
  exact (pointsTo_share (PosShare.mem_left_op_right fullShare)).1

variable (T : Dev nD → TinyC F) (B : BigC F) (N : Dev nD × Fin 43 → ℕ)

theorem assoc4 {P1 P2 P3 P4 P5 : sProp 𝕄} : iprop(P1 ∗ P2 ∗ P3 ∗ P4 ∗ P5) ⊢ iprop((P1 ∗ P2 ∗ P3 ∗ P4) ∗ P5) := by
  iintro ⟨H1, H2, H3, H4, H5⟩
  isplitr [H5]
  · isplitl [H1]; · iexact H1
    isplitl [H2]; · iexact H2
    isplitl [H3]; · iexact H3
    iexact H4
  iexact H5

def inv1 (c : Dev nD) (X : XC F) (W : WC F) (K : KC F) (V : VC F) (k : ℕ) (_ : PUnit) : sProp 𝕄 :=
  iprop(bufs c X W K V ∗ ∃ g, bigR c fullShare 0 768 g ∗ ⌜Good X W K V 0 (128 * (k + 0 + 1)) g⌝)

theorem inv1_trip (c : Dev nD) (h1 : k0_cond1 c = 1#1) (v156 v158 v545 v546) (k : Fin k0_t1_loop.trips) :
    inv1 c X W K V k.val PUnit.unit ⊢ wp frame (wpE (defs₀ (F := F)) 𝒱₀ (c : Thread nD τ) none) Set.univ (k0_t1_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v156 v158 h1 v545 v546 k PUnit.unit) (fun a => inv1 c X W K V (k.val + 1) a) := by
  unfold inv1
  iintro ⟨⟨HX, HW, HK, HV⟩, %g, Hg, %hg⟩
  iapply (BIBase.Entails.trans (trip1 c h1 v156 v158 v545 v546 X W K V g k hg) (wp_mono _ _ _ (fun _ => assoc4)))
  isplitl [HX]; · iexact HX
  isplitl [HW]; · iexact HW
  isplitl [HK]; · iexact HK
  isplitl [HV]; · iexact HV
  iexact Hg

def inv2 (c : Dev nD) (X : XC F) (W : WC F) (K : KC F) (V : VC F) (k : ℕ) (_ : PUnit) : sProp 𝕄 :=
  iprop(bufs c X W K V ∗ ∃ g, bigR c fullShare 768 640 g ∗ ⌜Good X W K V 768 (128 * (k + 5 + 1)) g⌝)

theorem inv2_trip (c : Dev nD) (h1 : k0_cond2 c = 1#1)  (k : Fin k0_t2_loop.trips) :
    inv2 c X W K V k.val PUnit.unit ⊢ wp frame (wpE (defs₀ (F := F)) 𝒱₀ (c : Thread nD τ) none) Set.univ (k0_t2_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1 k PUnit.unit) (fun a => inv2 c X W K V (k.val + 1) a) := by
  unfold inv2
  iintro ⟨⟨HX, HW, HK, HV⟩, %g, Hg, %hg⟩
  iapply (BIBase.Entails.trans (trip2 c h1  X W K V g k hg) (wp_mono _ _ _ (fun _ => assoc4)))
  isplitl [HX]; · iexact HX
  isplitl [HW]; · iexact HW
  isplitl [HK]; · iexact HK
  isplitl [HV]; · iexact HV
  iexact Hg

def inv3 (c : Dev nD) (X : XC F) (W : WC F) (K : KC F) (V : VC F) (k : ℕ) (_ : PUnit) : sProp 𝕄 :=
  iprop(bufs c X W K V ∗ ∃ g, bigR c fullShare 1408 512 g ∗ ⌜Good X W K V 1408 (128 * (k + 10 + 1)) g⌝)

theorem inv3_trip (c : Dev nD) (h1 : k0_cond3 c = 1#1)  (k : Fin k0_t3_loop.trips) :
    inv3 c X W K V k.val PUnit.unit ⊢ wp frame (wpE (defs₀ (F := F)) 𝒱₀ (c : Thread nD τ) none) Set.univ (k0_t3_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1 k PUnit.unit) (fun a => inv3 c X W K V (k.val + 1) a) := by
  unfold inv3
  iintro ⟨⟨HX, HW, HK, HV⟩, %g, Hg, %hg⟩
  iapply (BIBase.Entails.trans (trip3 c h1  X W K V g k hg) (wp_mono _ _ _ (fun _ => assoc4)))
  isplitl [HX]; · iexact HX
  isplitl [HW]; · iexact HW
  isplitl [HK]; · iexact HK
  isplitl [HV]; · iexact HV
  iexact Hg

set_option maxHeartbeats 4000000 in
theorem part7_run (c : Dev nD) (v65 v67 v78 v80 v91 v93 v104 v106 v117 v119 v130 v132 v143 v145) (f : BigC F)
    (Q : (Σ' (v545 : FVec F S128x128 .bf16), Vec F S128x128 .bf16) → sProp (MT nD τ sig ℕ (Elt F) ℕ UU ℕ)) :
    bigR c fullShare 0 768 f
      ⊢ iprop((∀ v546, bigR c fullShare 0 768 (bM.view.writes (Elt F) f [tileP 0 5 (k0_pay26 v130 v132), tileP 0 4 (k0_pay25 v117 v119), tileP 0 3 (k0_pay24 v104 v106), tileP 0 2 (k0_pay23 v91 v93),
          tileP 0 1 (k0_pay22 v78 v80), tileP 0 0 (k0_pay21 v65 v67)]) -∗ Q ⟨k0_pay27 v143 v145, v546⟩)
        -∗ wp frame (wpE (defs₀ (F := F)) 𝒱₀ (c : Thread nD τ) none) Set.univ (k0_part7 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 v65 v67 v78 v80 v91 v93 v104 v106 v117 v119 v130 v132 v143 v145) Q) := by
  unfold bigR rows
  iintro Hb Hk
  simp -proj only [k0_part7_eq_skeleton]; unfold k0_part7_skel
  sl_exec
  rw [wp_ret]; imodintro
  iapply Hk
  iexact Hb

set_option maxHeartbeats 4000000 in
theorem part8_run (hB : ∀ y : S2048x1024.Idx, 32 ≤ (y 0).val → (y 0).val < 1920 → B y = mid X W K V y) (c : Dev nD) (hc : c = 0) (h1 : k0_cond1 c = 1#1) (v156 v158 v545 v546)
    (w : Fin 8 → FVec F S128x128 .bf16) (hw : w = top X W K V) (h6 : k0_pay28 v545 = w 6) (h7 : k0_pay29 v156 v158 = w 7) (f : BigC F) {wl Tk D C}
    (Q : (Σ' (v572 : BitVec 32), BitVec 32) → sProp (MT nD τ sig ℕ (Elt F) ℕ UU ℕ)) :
    iprop(recs T B N ∗ bufs c X W K V ∗ bigR c fullShare 0 768 (bM.view.writes (Elt F) f [tileP 0 5 (w 5), tileP 0 4 (w 4), tileP 0 3 (w 3), tileP 0 2 (w 2), tileP 0 1 (w 1), tileP 0 0 (w 0)])
        ∗ chAny (F := F) 1 1 ∗ chAny (F := F) 1 3
        ∗ St c wl ((0, 8, 0, false) :: (1, 24, 0, false) :: (0, 16, 0, false) :: (3, 24, 0, false) :: Tk) ((1, 24, 0) :: (3, 24, 0) :: D) C)
      ⊢ iprop((∀ v, iprop(bufs c X W K V ∗ St c wl Tk D ((c, 16, 0) :: (c, 8, 0) :: C) ∗ (∃ g, bigR c fullShare 0 256 g ∗ bigR c fullShare 512 256 g ∗ ⌜Good X W K V 0 768 g⌝)) -∗ Q v)
        -∗ wp frame (wpE (defs₀ (F := F)) 𝒱₀ (c : Thread nD τ) none) Set.univ (k0_part8 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v156 v158 h1 v545 v546) Q) := by
  subst hc
  iintro ⟨#HR, HB, Hb, Hd1, Hd3, HS⟩ Hk
  simp -proj only [k0_part8_eq_skeleton]; unfold k0_part8_skel
  unfold bigR rows
  sl_exec
  rw [show ([⟨Rect.unit (s := S2048x1024) ![0, 896] S128x128.size inb_S2048x1024_S128x128_0_896, k0_pay29 v156 v158⟩, ⟨Rect.unit (s := S2048x1024) ![0, 768] S128x128.size inb_S2048x1024_S128x128_0_768, k0_pay28 v545⟩,
    tileP 0 5 (w 5), tileP 0 4 (w 4), tileP 0 3 (w 3), tileP 0 2 (w 2), tileP 0 1 (w 1), tileP 0 0 (w 0)] : List (View.Piece (Elt F) S2048x1024 .bf16)) = blkP 0 w from by rw [h6, h7]; rfl, hw]
  sl_for (inv1 (0 : Dev nD) X W K V) $$ [HB Hb]
  case region =>
    intro k _
    exact inv1_trip X W K V 0 h1 v156 v158 v545 v546 k
  · unfold inv1
    isplitl [HB]; · iexact HB
    iexists _; isplitl [Hb]; · iexact Hb
    ipureintro; exact good_top X W K V f
  iintro %_ HI
  unfold inv1
  icases HI with ⟨HB, %g, Hg, %hg⟩
  have hg' : Good X W K V 0 768 g := hg
  ihave Hg1 := (Entails.of_eq ((bigR_split 0 fullShare 0 256 512 g (by decide)).trans (congrArg _ (bigR_split 0 fullShare 256 256 256 g (by decide))))) $$ Hg
  icases Hg1 with ⟨Hg0, Hg1, Hg2⟩
  ihave Hc := (chunk_of X W K V B hB 1 0 g 0 768 hg' (by decide)) $$ Hg1
  icases Hc with ⟨HcA, HcB⟩
  unfold part8_run.sl.prog.cont_1
  simp -proj only [Prog.lift, Prog.bind_op, Prog.bind_ret, Prog.pure_eq_ret]
  iapply (send_chunk (T := T) (B := B) N 0 1 1 8 24 fullShare.left rfl rfl (Fin.ext k0_dev4_eq) rfl rfl (by decide) (by decide) (by decide) (by decide) rfl rfl) $$ [HcA Hd1 HS]
  · isplitr; · iexact HR
    isplitl [HcA]; · iexact HcA
    isplitl [Hd1]; · iexact Hd1
    iexact HS
  iintro HS
  iapply (send_chunk (T := T) (B := B) N 0 3 1 16 24 fullShare.right rfl rfl (Fin.ext k0_dev5_eq) rfl rfl (by decide) (by decide) (by decide) (by decide) rfl rfl) $$ [HcB Hd3 HS]
  · isplitr; · iexact HR
    isplitl [HcB]; · iexact HcB
    isplitl [Hd3]; · iexact Hd3
    iexact HS
  iintro HS
  rw [wp_ret]; imodintro
  iapply Hk
  isplitl [HB]; · iexact HB
  isplitl [HS]; · iexact HS
  iexists g
  isplitl [Hg0]; · iexact Hg0
  isplitl [Hg2]; · iexact Hg2
  ipureintro; exact hg'

/-- Rows 1280 to 1535 of two holdings side by side. -/
theorem join_rows (c : Dev nD) (g0 g : BigC F) (h0 : Good X W K V 1280 1408 g0) (h1 : Good X W K V 1408 1920 g) :
    iprop(bigR c fullShare 1280 128 g0 ∗ bigR c fullShare 1408 128 g) ⊢ iprop(∃ g', bigR c fullShare 1280 256 g' ∗ ⌜Good X W K V 1280 1536 g'⌝) := by
  iintro ⟨H0, H1⟩
  iexists (fun y => if (y 0).val < 1408 then g0 y else g y : BigC F)
  isplitl [H0 H1]
  · iapply (Entails.of_eq (bigR_split c fullShare 1280 128 128 _ (by decide)).symm)
    isplitl [H0]
    · iapply (Entails.of_eq (bigR_congr c fullShare 1280 128 g0 (fun y => if (y 0).val < 1408 then g0 y else g y : BigC F) _ (fun y _ hy => (if_pos (show (y 0).val < 1408 from hy)).symm))); iexact H0
    · iapply (Entails.of_eq (bigR_congr c fullShare 1408 128 g (fun y => if (y 0).val < 1408 then g0 y else g y : BigC F) _ (fun y hy _ => (if_neg (show ¬ (y 0).val < 1408 by omega)).symm))); iexact H1
  · ipureintro
    intro y hlo hhi
    by_cases h : (y 0).val < 1408
    · exact (if_pos h).trans (h0 y hlo h)
    · exact (if_neg h).trans (h1 y (by omega) (by omega))

/-- The second stage: row blocks 6 to 10 and the sends of chunks 3 and 4 (the last send follows it). -/
theorem part15_run (hB : ∀ y : S2048x1024.Idx, 32 ≤ (y 0).val → (y 0).val < 1920 → B y = mid X W K V y) (c : Dev nD) (hc : c = 0) (h1 : k0_cond2 c = 1#1) (f : BigC F) {wl Tk D C}
    (Q : PUnit → sProp (MT nD τ sig ℕ (Elt F) ℕ UU ℕ)) :
    iprop(recs T B N ∗ bufs c X W K V ∗ bigR c fullShare 768 640 f ∗ chAny (F := F) 3 1 ∗ chAny (F := F) 3 3 ∗ chAny (F := F) 4 1
        ∗ St c wl ((0, 10, 0, false) :: (1, 26, 0, false) :: (0, 18, 0, false) :: (3, 26, 0, false) :: (0, 11, 0, false) :: (1, 27, 0, false) :: Tk) ((1, 26, 0) :: (3, 26, 0) :: (1, 27, 0) :: D) C)
      ⊢ iprop((iprop(bufs c X W K V ∗ St c wl Tk D ((c, 11, 0) :: (c, 18, 0) :: (c, 10, 0) :: C) ∗ chPts 4 c fullShare.right B ∗ (∃ g, bigR c fullShare 1280 128 g ∗ ⌜Good X W K V 1280 1408 g⌝)) -∗ Q ⟨⟩)
        -∗ wp frame (wpE (defs₀ (F := F)) 𝒱₀ (c : Thread nD τ) none) Set.univ (k0_part15 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1) Q) := by
  subst hc
  iintro ⟨#HR, HB, Hb, Hd31, Hd33, Hd41, HS⟩ Hk
  simp -proj only [k0_part15_eq_skeleton]; unfold k0_part15_skel
  sl_for (inv2 (0 : Dev nD) X W K V) $$ [HB Hb]
  case region =>
    intro k _
    exact inv2_trip X W K V 0 h1 k
  · unfold inv2
    isplitl [HB]; · iexact HB
    iexists _; isplitl [Hb]; · iexact Hb
    ipureintro; intro y h1 h2; exact absurd h2 (by show ¬ ((y 0).val < 768); omega)
  iintro %_ HI
  unfold inv2
  icases HI with ⟨HB, %g, Hg, %hg⟩
  have hg' : Good X W K V 768 1408 g := hg
  ihave Hg1 := (Entails.of_eq ((bigR_split 0 fullShare 768 256 384 g (by decide)).trans (congrArg _ (bigR_split 0 fullShare 1024 256 128 g (by decide))))) $$ Hg
  icases Hg1 with ⟨Hg0, Hg1, Hg2⟩
  ihave Hc := (chunk_of X W K V B hB 3 0 g 768 1408 hg' (by decide)) $$ Hg0
  icases Hc with ⟨HcA, HcB⟩
  unfold part15_run.sl.prog.cont_1
  simp -proj only [Prog.lift, Prog.bind_op, Prog.bind_ret, Prog.pure_eq_ret]
  iapply (send_chunk (T := T) (B := B) N 0 1 3 10 26 fullShare.left rfl rfl (Fin.ext k0_dev10_eq) rfl rfl (by decide) (by decide) (by decide) (by decide) rfl rfl) $$ [HcA Hd31 HS]
  · isplitr; · iexact HR
    isplitl [HcA]; · iexact HcA
    isplitl [Hd31]; · iexact Hd31
    iexact HS
  iintro HS
  iapply (send_chunk (T := T) (B := B) N 0 3 3 18 26 fullShare.right rfl rfl (Fin.ext k0_dev11_eq) rfl rfl (by decide) (by decide) (by decide) (by decide) rfl rfl) $$ [HcB Hd33 HS]
  · isplitr; · iexact HR
    isplitl [HcB]; · iexact HcB
    isplitl [Hd33]; · iexact Hd33
    iexact HS
  iintro HS
  ihave Hc := (chunk_of X W K V B hB 4 0 g 768 1408 hg' (by decide)) $$ Hg1
  icases Hc with ⟨HcA, HcB⟩
  iapply (send_chunk (T := T) (B := B) N 0 1 4 11 27 fullShare.left rfl rfl (Fin.ext k0_dev12_eq) rfl rfl (by decide) (by decide) (by decide) (by decide) rfl rfl) $$ [HcA Hd41 HS]
  · isplitr; · iexact HR
    isplitl [HcA]; · iexact HcA
    isplitl [Hd41]; · iexact Hd41
    iexact HS
  iintro HS
  rw [wp_ret]; imodintro
  iapply Hk
  isplitl [HB]; · iexact HB
  isplitl [HS]; · iexact HS
  isplitl [HcB]; · iexact HcB
  iexists g
  isplitl [Hg2]; · iexact Hg2
  ipureintro; intro y h1 h2; exact hg' y (by omega) h2

/-- The third stage: row blocks 11 to 14 and the sends of chunks 5 and 6 (the last send follows it). -/
theorem part22_run (hB : ∀ y : S2048x1024.Idx, 32 ≤ (y 0).val → (y 0).val < 1920 → B y = mid X W K V y) (c : Dev nD) (hc : c = 0) (h1 : k0_cond3 c = 1#1) (f g0 : BigC F)
    (hg0 : Good X W K V 1280 1408 g0) {wl Tk D C} (Q : PUnit → sProp (MT nD τ sig ℕ (Elt F) ℕ UU ℕ)) :
    iprop(recs T B N ∗ bufs c X W K V ∗ bigR c fullShare 1280 128 g0 ∗ bigR c fullShare 1408 512 f ∗ chAny (F := F) 5 1 ∗ chAny (F := F) 5 3 ∗ chAny (F := F) 6 1
        ∗ St c wl ((0, 12, 0, false) :: (1, 28, 0, false) :: (0, 20, 0, false) :: (3, 28, 0, false) :: (0, 13, 0, false) :: (1, 29, 0, false) :: Tk) ((1, 28, 0) :: (3, 28, 0) :: (1, 29, 0) :: D) C)
      ⊢ iprop((iprop(bufs c X W K V ∗ St c wl Tk D ((c, 13, 0) :: (c, 20, 0) :: (c, 12, 0) :: C) ∗ chPts 6 c fullShare.right B ∗ (∃ g, bigR c fullShare 1792 128 g ∗ ⌜Good X W K V 1792 1920 g⌝)) -∗ Q ⟨⟩)
        -∗ wp frame (wpE (defs₀ (F := F)) 𝒱₀ (c : Thread nD τ) none) Set.univ (k0_part22 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c h1) Q) := by
  subst hc
  iintro ⟨#HR, HB, Hg0, Hb, Hd51, Hd53, Hd61, HS⟩ Hk
  simp -proj only [k0_part22_eq_skeleton]; unfold k0_part22_skel
  sl_for (inv3 (0 : Dev nD) X W K V) $$ [HB Hb]
  case region =>
    intro k _
    exact inv3_trip X W K V 0 h1 k
  · unfold inv3
    isplitl [HB]; · iexact HB
    iexists _; isplitl [Hb]; · iexact Hb
    ipureintro; intro y h1 h2; exact absurd h2 (by show ¬ ((y 0).val < 1408); omega)
  iintro %_ HI
  unfold inv3
  icases HI with ⟨HB, %g, Hg, %hg⟩
  have hg' : Good X W K V 1408 1920 g := hg
  ihave Hg1 := (Entails.of_eq ((bigR_split 0 fullShare 1408 128 384 g (by decide)).trans (congrArg _ (bigR_split 0 fullShare 1536 256 128 g (by decide))))) $$ Hg
  icases Hg1 with ⟨Hg1, Hg2, Hg3⟩
  ihave Hj := (join_rows X W K V 0 g0 g hg0 hg') $$ [Hg0 Hg1]
  · isplitl [Hg0]; · iexact Hg0
    iexact Hg1
  icases Hj with ⟨%g', Hj, %hj⟩
  ihave Hc := (chunk_of X W K V B hB 5 0 g' 1280 1536 hj (by decide)) $$ Hj
  icases Hc with ⟨HcA, HcB⟩
  unfold part22_run.sl.prog.cont_1
  simp -proj only [Prog.lift, Prog.bind_op, Prog.bind_ret, Prog.pure_eq_ret]
  iapply (send_chunk (T := T) (B := B) N 0 1 5 12 28 fullShare.left rfl rfl (Fin.ext k0_dev16_eq) rfl rfl (by decide) (by decide) (by decide) (by decide) rfl rfl) $$ [HcA Hd51 HS]
  · isplitr; · iexact HR
    isplitl [HcA]; · iexact HcA
    isplitl [Hd51]; · iexact Hd51
    iexact HS
  iintro HS
  iapply (send_chunk (T := T) (B := B) N 0 3 5 20 28 fullShare.right rfl rfl (Fin.ext k0_dev17_eq) rfl rfl (by decide) (by decide) (by decide) (by decide) rfl rfl) $$ [HcB Hd53 HS]
  · isplitr; · iexact HR
    isplitl [HcB]; · iexact HcB
    isplitl [Hd53]; · iexact Hd53
    iexact HS
  iintro HS
  ihave Hc := (chunk_of X W K V B hB 6 0 g 1408 1920 hg' (by decide)) $$ Hg2
  icases Hc with ⟨HcA, HcB⟩
  iapply (send_chunk (T := T) (B := B) N 0 1 6 13 29 fullShare.left rfl rfl (Fin.ext k0_dev18_eq) rfl rfl (by decide) (by decide) (by decide) (by decide) rfl rfl) $$ [HcA Hd61 HS]
  · isplitr; · iexact HR
    isplitl [HcA]; · iexact HcA
    isplitl [Hd61]; · iexact Hd61
    iexact HS
  iintro HS
  rw [wp_ret]; imodintro
  iapply Hk
  isplitl [HB]; · iexact HB
  isplitl [HS]; · iexact HS
  isplitl [HcB]; · iexact HcB
  iexists g
  isplitl [Hg3]; · iexact Hg3
  ipureintro; intro y h1 h2; exact hg' y (by omega) h2

end
end Cert.Ring
end
-- ==== Proof.Ring.lean ====
module

public import proofs.«01_k».proof.Proof.Stage

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The hops of the ring -/

section
variable (T : Dev nD → TinyC F) (B : BigC F) (N : Dev nD × Fin 43 → ℕ)

/-- A wait for one landing, its credit taken from the middle of the list. -/
theorem step_wait1 (c : Dev nD) (k : Fin 43) (r ι a : ℕ) {α : Type} {w : List (Fin 43)} {Tk : List Tok} {D C : List Ent} (C₁ C₂ : List Ent)
    {op : TpuEff nD τ sig (Elt F) Λ₀ .tc PUnit} {sm : SemLoc sig}
    {Q : α → sProp (MT nD τ sig ℕ (Elt F) ℕ UU ℕ)} {kk : PUnit → Prog (TpuEff nD τ sig (Elt F) Λ₀ .tc) α}
    (hw : ∀ K : PUnit → sProp 𝕄, wpE' (defs₀ (F := F)) 𝒱₀ (c : Thread nD τ) none .empty Set.univ op K = waitSpec (c : Thread nD τ) Set.univ sm a K)
    (hs : sm = ks k) (hr : w.count k = r) (hι : ι < 2) (hd : dts c k r = {false}) (ha : a = am k) (hC : C = C₁ ++ (c, k, ι) :: C₂)
    (hD : above (lvl k ι) D = true) :
    iprop(recs T B N ∗ St c w Tk D C)
      ⊢ iprop((iprop(St c (k :: w) Tk D (C₁ ++ C₂) ∗ reached ER (kcell (c, k)) (r + 1) ∗ pay T B c k r false)
            -∗ wp frame (wpE (defs₀ (F := F)) 𝒱₀ (c : Thread nD τ) none) Set.univ (kk ⟨⟩) Q)
          -∗ wp frame (wpE (defs₀ (F := F)) 𝒱₀ (c : Thread nD τ) none) Set.univ (.op op kk) Q) := by
  subst hC ha
  have h := step_wait (T := T) (B := B) N c k r ι (am k) (w := w) (Tk := Tk) (D := D) (kk := kk) (Q := Q) (C := C₁ ++ (c, k, ι) :: C₂) (C₁ ++ C₂) hw hs hr hι
    (by rw [hd, Finset.card_singleton, Nat.one_mul]) (dl_pull _ _ _) hD
  rw [hd, bigSep_singleton] at h
  exact h

theorem step_waitD (c : Dev nD) (k : Fin 43) (r ι : ℕ) {α : Type} {w : List (Fin 43)} {Tk : List Tok} {D C : List Ent} (C₁ C₂ : List Ent)
    {sp sp' : Space} {s s' : Shape} {e e' : EltTy} {sem : DmaSem sig} {src : Memref sig .tc sp' s' e'} {dst : Memref sig .tc sp s e} {hsrc : src.view.WordExact} {hdst : dst.view.WordExact}
    {Q : α → sProp (MT nD τ sig ℕ (Elt F) ℕ UU ℕ)} {kk : PUnit → Prog (TpuEff nD τ sig (Elt F) Λ₀ .tc) α}
    (hs : .dma sem = ks k) (hr : w.count k = r) (hι : ι < 2) (hd : dts c k r = {false}) (ha : dst.view.dmaCredit = am k) (hC : C = C₁ ++ (c, k, ι) :: C₂)
    (hD : above (lvl k ι) D = true) :
    iprop(recs T B N ∗ St c w Tk D C)
      ⊢ iprop((iprop(St c (k :: w) Tk D (C₁ ++ C₂) ∗ reached ER (kcell (c, k)) (r + 1) ∗ pay T B c k r false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) :=
  step_wait1 T B N c k r ι dst.view.dmaCredit C₁ C₂ (wpE_waitDma2_eq 𝒱₀ (c : Thread nD τ) none Set.univ) hs hr hι hd ha hC hD

theorem dR (c : Dev nD) : dts c 0 0 = {false} ∧ dts c 1 0 = {false} ∧ dts c 3 0 = {false} ∧ dts c 3 1 = {false} ∧ dts c 4 0 = {false} ∧ dts c 5 0 = {false}
    ∧ dts c 6 0 = {false} ∧ dts c 6 1 = {false} := by revert c; decide
theorem aR (c : Dev nD) : above (lvl 3 0) (D2 c) = true ∧ above (lvl 6 0) (D2 c) = true ∧ above (lvl 0 0) (D2' c) = true ∧ above (lvl 4 0) (D4 c) = true
    ∧ above (lvl 5 0) (D4 c) = true ∧ above (lvl 1 0) (D5 c) = true ∧ above (lvl 3 0) (XT c) = true ∧ above (lvl 6 1) (XT c) = true := by revert c; decide

/-- What a device other than 0 keeps of what its neighbours handed it. -/
def giftT (c : Dev nD) : sProp 𝕄 :=
  iprop(if c = 0 then bigSep Finset.univ fun k : Fin 8 => chAny k 1
    else if c = 1 then bigSep Finset.univ fun k : Fin 4 => chAny ⟨k.val, by omega⟩ 2 else iprop(emp))

/-- Device 0 holds `P`, the others what they were handed. -/
def Zr (c : Dev nD) (P : sProp 𝕄) : sProp 𝕄 := if c = 0 then P else iprop(giftT (F := F) c ∗ barF (F := F) c)

theorem Zr_zero (c : Dev nD) (h : c = 0) (P : sProp 𝕄) : Zr c P = P := if_pos h
theorem Zr_ne (c : Dev nD) (h : c ≠ 0) (P P' : sProp 𝕄) : Zr c P = Zr c P' := (if_neg h).trans (if_neg h).symm

/-- Chunks of device `n` the sender may write. -/
abbrev gL (n : Dev nD) (l : List (Fin 8)) : sProp 𝕄 := lsep l fun k => chAny (F := F) k n

variable (X : XC F) (W : WC F) (K : KC F) (V : VC F)

def P0 : sProp 𝕄 := iprop(gL (F := F) 1 [1, 2, 3, 4, 5, 6, 0, 7] ∗ gL (F := F) 3 [1, 2, 3, 4, 5, 6, 7, 0] ∗ ∃ f, bigR (0 : Dev nD) fullShare 0 2048 f)
def P1 : sProp 𝕄 := iprop(gL (F := F) 1 [3, 4, 5, 6, 0, 7] ∗ gL (F := F) 3 [3, 4, 5, 6, 7, 0] ∗ (∃ f, bigR (0 : Dev nD) fullShare 0 256 f ∗ ⌜Good X W K V 0 256 f⌝)
  ∗ ∃ f, bigR (0 : Dev nD) fullShare 768 1280 f)
def P2 : sProp 𝕄 := iprop(gL (F := F) 1 [5, 6, 0, 7] ∗ gL (F := F) 3 [5, 6, 7, 0] ∗ (∃ f, bigR (0 : Dev nD) fullShare 0 256 f ∗ ⌜Good X W K V 0 256 f⌝)
  ∗ (∃ f, bigR (0 : Dev nD) fullShare 1280 128 f ∗ ⌜Good X W K V 1280 1408 f⌝) ∗ ∃ f, bigR (0 : Dev nD) fullShare 1408 640 f)
def P3 : sProp 𝕄 := iprop(gL (F := F) 1 [0, 7] ∗ gL (F := F) 3 [7, 0] ∗ (∃ f, bigR (0 : Dev nD) fullShare 0 256 f ∗ ⌜Good X W K V 0 256 f⌝)
  ∗ (∃ f, bigR (0 : Dev nD) fullShare 1792 128 f ∗ ⌜Good X W K V 1792 1920 f⌝) ∗ ∃ f, bigR (0 : Dev nD) fullShare 1920 128 f)

theorem bigR_c0 {c : Dev nD} (hc : c = 0) (q : PosShare TreeShare) (lo n : ℕ) (f : BigC F) (h : lo + n ≤ 2048) : bigR 0 q lo n f h = bigR c q lo n f h := by subst hc; rfl

theorem slotPts_true (c : Dev nD) (f : TinyC F) : (slotPts true c f : sProp 𝕄)
    = (tM.view.loc (c : Thread nD τ) ↦[tM.view.setOn (Rect.unit (s := S2x160x1152) ![1, 0, 0] S1x160x1152.size inb_S2x160x1152_S1x160x1152_1_0_0).set]{fullShare} f) := by
  show (slot1.view.loc (c : Thread nD τ) ↦[slot1.view.set]{fullShare} f) = _
  rw [slot1_set]
theorem slotPts_false (c : Dev nD) (f : TinyC F) : (slotPts false c f : sProp 𝕄)
    = (tM.view.loc (c : Thread nD τ) ↦[tM.view.setOn (Rect.unit (s := S2x160x1152) ![0, 0, 0] S1x160x1152.size inb_S2x160x1152_S1x160x1152_0_0_0).set]{fullShare} f) := by
  show (slot0.view.loc (c : Thread nD τ) ↦[slot0.view.set]{fullShare} f) = _
  rw [slot0_set]

def U2 (c : Dev nD) : List Ent := Y2 c ++ Y1 c
def U3 (c : Dev nD) : List Ent := Y3 c ++ U2 c

theorem slotV_true (t : TinyC F) : slotV true t = tM.view.readAt (Elt F) (Rect.unit (s := S2x160x1152) ![1, 0, 0] S1x160x1152.size inb_S2x160x1152_S1x160x1152_1_0_0).toLoadRect t := rfl
theorem slotV_false (t : TinyC F) : slotV false t = tM.view.readAt (Elt F) (Rect.unit (s := S2x160x1152) ![0, 0, 0] S1x160x1152.size inb_S2x160x1152_S1x160x1152_0_0_0).toLoadRect t := rfl

theorem cond1_iff (c : Dev nD) : k0_cond1 c = 1#1 ↔ c = 0 := by revert c; decide +kernel
theorem cond2_iff (c : Dev nD) : k0_cond2 c = 1#1 ↔ c = 0 := by revert c; decide +kernel
theorem cond3_iff (c : Dev nD) : k0_cond3 c = 1#1 ↔ c = 0 := by revert c; decide +kernel

set_option maxHeartbeats 4000000 in
theorem part57_run (c : Dev nD) (hB : c = 0 → ∀ y : S2048x1024.Idx, 32 ≤ (y 0).val → (y 0).val < 1920 → B y = mid X W K V y) (v13 v24 : BitVec 32) (v65 v67 v78 v80 v91 v93 v104 v106 v117 v119 v130 v132 v143 v145 v156 v158) (v389 vX : BitVec 32)
    (hw : c = 0 → k0_pay21 v65 v67 = top X W K V 0 ∧ k0_pay22 v78 v80 = top X W K V 1 ∧ k0_pay23 v91 v93 = top X W K V 2 ∧ k0_pay24 v104 v106 = top X W K V 3
      ∧ k0_pay25 v117 v119 = top X W K V 4 ∧ k0_pay26 v130 v132 = top X W K V 5 ∧ k0_pay28 (k0_pay27 v143 v145) = top X W K V 6 ∧ k0_pay29 v156 v158 = top X W K V 7)
    (Q : FVec F S160x1152 .f32 → sProp (MT nD τ sig ℕ (Elt F) ℕ UU ℕ)) :
    iprop(recs T B N ∗ St c [2] (Tk1' c) (D1' c) ((c, 3, 0) :: C1 c) ∗ Zr c P0 ∗ bufs c X W K V ∗ (aM.view.loc (c : Thread nD τ) ↦{fullShare} acc0 T c))
      ⊢ iprop((iprop(St c [6, 3, 2] (Tk2' c) (D2' c) (Y1 c ++ C2 c) ∗ Zr c (P1 X W K V) ∗ slotPts true c (T (prv c)) ∗ reached ER (kcell (c, 6)) 1 ∗ reached ER (kcell (c, 3)) 1
            ∗ bufs c X W K V ∗ (aM.view.loc (c : Thread nD τ) ↦{fullShare} acc0 T c)) -∗ Q (k0_pay198 (acc0 T c) (slotV true (T (prv c)))))
        -∗ wp frame (wpE (defs₀ (F := F)) 𝒱₀ (c : Thread nD τ) none) Set.univ (k0_part57 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v13 v24 v65 v67 v78 v80 v91 v93 v104 v106 v117 v119 v130 v132 v143 v145 v156 v158 v389 vX) Q) := by
  iintro ⟨#HR, HS, HZ, HB, Ha⟩ Hk
  simp -proj only [k0_part57_eq_skeleton]; unfold k0_part57_skel
  by_cases hc : c = 0
  · have hC := (cond1_iff c).mpr hc
    obtain ⟨w0, w1, w2, w3, w4, w5, w6, w7⟩ := hw hc
    simp -proj only [dif_pos hC]
    ihave HZ' := (Entails.of_eq (Zr_zero c hc P0)) $$ HZ
    ihave HS := (Entails.of_eq (show St c [2] (Tk1' c) (D1' c) ((c, 3, 0) :: C1 c) = St c [2] ((0, 8, 0, false) :: (1, 24, 0, false) :: (0, 16, 0, false) :: (3, 24, 0, false) :: (c, 9, 0, false) :: (1, 25, 0, false) :: (c, 17, 0, false) :: (3, 25, 0, false) :: Tk2 c)
      ((1, 24, 0) :: (3, 24, 0) :: (1, 25, 0) :: (3, 25, 0) :: D2 c) ((c, 3, 0) :: C1 c) from by subst hc; rfl)) $$ HS
    simp -proj only [P0, gL, lsep, List.foldr_cons, List.foldr_nil]
    icases HZ' with ⟨⟨Hd11, Hd21, HgA⟩, ⟨Hd13, Hd23, HgB⟩, %f, Hf⟩
    ihave Hf' := (Entails.of_eq (bigR_split 0 fullShare 0 768 1280 f (by decide))) $$ Hf
    icases Hf' with ⟨Hb, Hr⟩
    rw [wp_bind]
    iapply (part7_run c v65 v67 v78 v80 v91 v93 v104 v106 v117 v119 v130 v132 v143 v145 f _) $$ [Hb]
    · iapply (Entails.of_eq (bigR_c0 hc _ _ _ _ _)); iexact Hb
    iintro %v546 Hb
    rw [w0, w1, w2, w3, w4, w5]
    rw [wp_bind]
    iapply (part8_run X W K V T B N (hB hc) c hc hC v156 v158 (k0_pay27 v143 v145) v546 (top X W K V) rfl w6 w7 f _) $$ [HB Hb Hd11 Hd13 HS]
    · isplitr; · iexact HR
      isplitl [HB]; · iexact HB
      isplitl [Hb]; · iexact Hb
      isplitl [Hd11]; · iexact Hd11
      isplitl [Hd13]; · iexact Hd13
      iexact HS
    iintro %_ ⟨HB, HS, %g, Hg0, Hg2, %hg⟩
    have hg2 : Good X W K V 512 768 g := fun y h1 h2 => hg y (by omega) h2
    ihave Hc := (chunk_of X W K V B (hB hc) 2 c g 512 768 hg2 (by decide)) $$ Hg2
    icases Hc with ⟨HcA, HcB⟩
    simp -proj only [Prog.lift, Prog.bind_op, Prog.bind_ret, Prog.pure_eq_ret, semSignalWord, semWaitWord]
    iapply (send_chunk (T := T) (B := B) N c 1 2 9 25 fullShare.left rfl rfl (Fin.ext k0_dev6_eq) rfl rfl (by subst hc; decide) (by decide) (by decide) (by decide) rfl rfl) $$ [HcA Hd21 HS]
    · isplitr; · iexact HR
      isplitl [HcA]; · iexact HcA
      isplitl [Hd21]; · iexact Hd21
      iexact HS
    iintro HS
    iapply (send_chunk (T := T) (B := B) N c 3 2 17 25 fullShare.right rfl rfl (Fin.ext k0_dev7_eq) rfl rfl (by subst hc; decide) (by decide) (by decide) (by decide) rfl rfl) $$ [HcB Hd23 HS]
    · isplitr; · iexact HR
      isplitl [HcB]; · iexact HcB
      isplitl [Hd23]; · iexact Hd23
      iexact HS
    iintro HS
    ihave HS := (Entails.of_eq (show St c [2] (Tk2 c) (D2 c) ((c, 17, 0) :: (c, 9, 0) :: (c, 16, 0) :: (c, 8, 0) :: (c, 3, 0) :: C1 c) = St c [2] (Tk2 c) (D2 c) (Y1 c ++ (c, 3, 0) :: C1 c) from by subst hc; rfl)) $$ HS
    ihave HZ := (Entails.of_eq (Zr_zero c hc (P1 X W K V)).symm) $$ [HgA HgB Hg0 Hr]
    · simp -proj only [P1, gL, lsep, List.foldr_cons, List.foldr_nil]
      isplitl [HgA]; · iexact HgA
      isplitl [HgB]; · iexact HgB
      isplitl [Hg0]
      · iexists g
        isplitl [Hg0]
        · iapply (Entails.of_eq (bigR_c0 hc _ _ _ _ _).symm); iexact Hg0
        · ipureintro; exact fun y h1 h2 => hg y h1 (by omega)
      iexists f; iexact Hr
    iapply (step_waitD T B N c 3 0 0 (src := slot1) (dst := slot0) (w := [2]) (Tk := Tk2 c) (D := D2 c) (Y1 c) (C1 c) (by decide) (by decide) (by decide) (dR c).2.2.1 (am_tiny 3 (by decide)).symm rfl (aR c).1) $$ [HS]
    · isplitr; · iexact HR
      iexact HS
    iintro ⟨HS, #Hr3, Hp3⟩
    iapply (step_waitD T B N c 6 0 0 (src := slot0) (dst := slot1) (w := [3, 2]) (Tk := Tk2 c) (D := D2 c) (Y1 c) (C2 c) (by decide) (by decide) (by decide) (dR c).2.2.2.2.2.2.1 (am_tiny 6 (by decide)).symm rfl (aR c).2.1) $$ [HS]
    · isplitr; · iexact HR
      iexact HS
    iintro ⟨HS, #Hr6, Hp6⟩
    iapply (step_signal (T := T) (B := B) N c (prv c) 0 0 0 false (Tk := Tk2' c) (D := D2' c) (dev8_eq c) (by decide) (by decide)
      (by rw [show dts (prv c) ((0 : Fin 43) : ℕ) 0 = {false} from (dR (prv c)).1]; decide)) $$ [HS Hp3]
    · isplitr; · iexact HR
      isplitr; · iapply (reached_at N (prv c, 0)); iexact HR
      isplitl [Hp3]; · iapply (Entails.of_eq (show pay T B c ((3 : Fin 43) : ℕ) 0 false = pay T B (prv c) ((0 : Fin 43) : ℕ) 0 false from by
          show slotAny false c = slotAny false (nxt (prv c)); rw [nxt_prv])); iexact Hp3
      iexact HS
    iintro HS
    ihave Hs := (Entails.of_eq (show pay T B c ((6 : Fin 43) : ℕ) 0 false = (slotPts true c (T (prv c)) : sProp 𝕄) from rfl)) $$ Hp6
    ihave Hs := (Entails.of_eq (slotPts_true c (T (prv c)))) $$ Hs
    sl_exec
    rw [wp_ret]; imodintro
    rw [acc_read, ← slotV_true]
    iapply Hk
    isplitl [HS]; · iexact HS
    isplitl [HZ]; · iexact HZ
    isplitl [Hs]; · iapply (Entails.of_eq (slotPts_true c (T (prv c))).symm); iexact Hs
    isplitr; · iexact Hr6
    isplitr; · iexact Hr3
    isplitl [HB]; · iexact HB
    iexact Ha
  · have hC := fun h => hc ((cond1_iff c).mp h)
    simp -proj only [dif_neg hC, Prog.lift, Prog.bind_op, Prog.bind_ret, Prog.pure_eq_ret, semSignalWord, semWaitWord]
    ihave HS := (Entails.of_eq (show St c [2] (Tk1' c) (D1' c) ((c, 3, 0) :: C1 c) = St c [2] (Tk2 c) (D2 c) (Y1 c ++ (c, 3, 0) :: C1 c) from by
      unfold Tk1' D1' TX1 X1 Y1; rw [if_neg hc, if_neg hc, if_neg hc]; rfl)) $$ HS
    ihave HZ := (Entails.of_eq (Zr_ne c hc P0 (P1 X W K V))) $$ HZ
    iapply (step_waitD T B N c 3 0 0 (src := slot1) (dst := slot0) (w := [2]) (Tk := Tk2 c) (D := D2 c) (Y1 c) (C1 c) (by decide) (by decide) (by decide) (dR c).2.2.1 (am_tiny 3 (by decide)).symm rfl (aR c).1) $$ [HS]
    · isplitr; · iexact HR
      iexact HS
    iintro ⟨HS, #Hr3, Hp3⟩
    iapply (step_waitD T B N c 6 0 0 (src := slot0) (dst := slot1) (w := [3, 2]) (Tk := Tk2 c) (D := D2 c) (Y1 c) (C2 c) (by decide) (by decide) (by decide) (dR c).2.2.2.2.2.2.1 (am_tiny 6 (by decide)).symm rfl (aR c).2.1) $$ [HS]
    · isplitr; · iexact HR
      iexact HS
    iintro ⟨HS, #Hr6, Hp6⟩
    iapply (step_signal (T := T) (B := B) N c (prv c) 0 0 0 false (Tk := Tk2' c) (D := D2' c) (dev8_eq c) (by decide) (by decide)
      (by rw [show dts (prv c) ((0 : Fin 43) : ℕ) 0 = {false} from (dR (prv c)).1]; decide)) $$ [HS Hp3]
    · isplitr; · iexact HR
      isplitr; · iapply (reached_at N (prv c, 0)); iexact HR
      isplitl [Hp3]; · iapply (Entails.of_eq (show pay T B c ((3 : Fin 43) : ℕ) 0 false = pay T B (prv c) ((0 : Fin 43) : ℕ) 0 false from by
          show slotAny false c = slotAny false (nxt (prv c)); rw [nxt_prv])); iexact Hp3
      iexact HS
    iintro HS
    ihave Hs := (Entails.of_eq (show pay T B c ((6 : Fin 43) : ℕ) 0 false = (slotPts true c (T (prv c)) : sProp 𝕄) from rfl)) $$ Hp6
    ihave Hs := (Entails.of_eq (slotPts_true c (T (prv c)))) $$ Hs
    sl_exec
    rw [wp_ret]; imodintro
    rw [acc_read, ← slotV_true]
    iapply Hk
    isplitl [HS]; · iexact HS
    isplitl [HZ]; · iexact HZ
    isplitl [Hs]; · iapply (Entails.of_eq (slotPts_true c (T (prv c))).symm); iexact Hs
    isplitr; · iexact Hr6
    isplitr; · iexact Hr3
    isplitl [HB]; · iexact HB
    iexact Ha

set_option maxHeartbeats 4000000 in
theorem part58_run (hT : Flat T) (c : Dev nD) (hB : c = 0 → ∀ y : S2048x1024.Idx, 32 ≤ (y 0).val → (y 0).val < 1920 → B y = mid X W K V y) (v2 v24 : BitVec 32)
    (Q : PUnit → sProp (MT nD τ sig ℕ (Elt F) ℕ UU ℕ)) :
    iprop(recs T B N ∗ St c [6, 3, 2] (Tk2' c) (D2' c) (Y1 c ++ C2 c) ∗ Zr c (P1 X W K V) ∗ slotPts true c (T (prv c)) ∗ bufs c X W K V ∗ (aM.view.loc (c : Thread nD τ) ↦{fullShare} acc0 T c))
      ⊢ iprop((iprop(St c [4, 0, 6, 3, 2] (Tk4 c) (D4 c) (Y2 c ++ (Y1 c ++ C3 c)) ∗ Zr c (P2 X W K V) ∗ slotAny (F := F) true c
            ∗ bufs c X W K V ∗ (aM.view.loc (c : Thread nD τ) ↦{fullShare} acc1 T c)) -∗ Q ⟨⟩)
        -∗ wp frame (wpE (defs₀ (F := F)) 𝒱₀ (c : Thread nD τ) none) Set.univ (k0_part58 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v2 v24 (k0_pay198 (acc0 T c) (slotV true (T (prv c))))) Q) := by
  iintro ⟨#HR, HS, HZ, Hs, HB, Ha⟩ Hk
  simp -proj only [k0_part58_eq_skeleton]; unfold k0_part58_skel
  by_cases hc : c = 0
  · have hC := (cond2_iff c).mpr hc
    simp -proj only [dif_pos hC, Prog.lift, Prog.bind_op, Prog.bind_ret, Prog.pure_eq_ret, semSignalWord, semWaitWord]
    sl_exec
    rw [acc_write]
    iapply (step_wait1 T B N c 0 0 0 1 (w := [6, 3, 2]) (Tk := Tk2' c) (D := D2' c) (Y1 c) (C3 c) (wpE_semWait_eq 𝒱₀ (c : Thread nD τ) none Set.univ) (by decide) (by decide) (by decide) (dR c).1 (by decide) rfl (aR c).2.2.1) $$ [HS]
    · isplitr; · iexact HR
      iexact HS
    iintro ⟨HS, -, Hp0⟩
    ihave Hp0 := (Entails.of_eq (show pay T B c ((0 : Fin 43) : ℕ) 0 false = (slotAny false (nxt c) : sProp 𝕄) from rfl)) $$ Hp0
    iapply (send_slot1 (T := T) (B := B) N c (prv c) hT 4 5 0 0 0 (Tk := Tk3 c) (D := D3 c) (dev9_eq c) rfl rfl (by rw [show dts c ((4 : Fin 43) : ℕ) 0 = {false} from (dR c).2.2.2.2.1]; decide)
      (by rw [show dts (nxt c) ((5 : Fin 43) : ℕ) 0 = {false} from (dR (nxt c)).2.2.2.2.2.1]; decide) (by decide) (by decide) .rfl
      (Entails.of_eq (show slotPts false (nxt c) (T (prv c)) = pay T B (nxt c) ((5 : Fin 43) : ℕ) 0 false from by show _ = slotPts false (nxt c) (T (prv (prv (nxt c)))); rw [prv_nxt]))) $$ [HS Hs Hp0]
    · isplitr; · iexact HR
      isplitr; · iapply (reached_at N (c, 4)); iexact HR
      isplitr; · iapply (reached_at N (nxt c, 5)); iexact HR
      isplitl [Hs]; · iexact Hs
      isplitl [Hp0]; · iexact Hp0
      iexact HS
    iintro HS
    ihave HZ' := (Entails.of_eq (Zr_zero c hc (P1 X W K V))) $$ HZ
    ihave HS := (Entails.of_eq (show St c [0, 6, 3, 2] (Tk3 c) (D3 c) ((c, 4, 0) :: (Y1 c ++ C3 c)) = St c [0, 6, 3, 2] ((0, 10, 0, false) :: (1, 26, 0, false) :: (0, 18, 0, false) :: (3, 26, 0, false) :: (0, 11, 0, false) :: (1, 27, 0, false) :: (c, 19, 0, false) :: (3, 27, 0, false) :: Tk4 c)
      ((1, 26, 0) :: (3, 26, 0) :: (1, 27, 0) :: (3, 27, 0) :: D4 c) ((c, 4, 0) :: (Y1 c ++ C3 c)) from by subst hc; rfl)) $$ HS
    simp -proj only [P1, gL, lsep, List.foldr_cons, List.foldr_nil]
    icases HZ' with ⟨⟨Hd31, Hd41, HgA⟩, ⟨Hd33, Hd43, HgB⟩, Hg0, %f, Hf⟩
    ihave Hf' := (Entails.of_eq (bigR_split 0 fullShare 768 640 640 f (by decide))) $$ Hf
    icases Hf' with ⟨Hb, Hr⟩
    rw [wp_bind]
    iapply (part15_run X W K V T B N (hB hc) c hc hC f _) $$ [HB Hb Hd31 Hd33 Hd41 HS]
    · isplitr; · iexact HR
      isplitl [HB]; · iexact HB
      isplitl [Hb]; · iapply (Entails.of_eq (bigR_c0 hc _ _ _ _ _)); iexact Hb
      isplitl [Hd31]; · iexact Hd31
      isplitl [Hd33]; · iexact Hd33
      isplitl [Hd41]; · iexact Hd41
      iexact HS
    iintro ⟨HB, HS, HcB, %g, Hg, %hg⟩
    iapply (send_chunk (T := T) (B := B) N c 3 4 19 27 fullShare.right rfl rfl (Fin.ext k0_dev13_eq) rfl rfl (by subst hc; decide) (by decide) (by decide) (by decide) rfl rfl) $$ [HcB Hd43 HS]
    · isplitr; · iexact HR
      isplitl [HcB]; · iexact HcB
      isplitl [Hd43]; · iexact Hd43
      iexact HS
    iintro HS
    ihave HS := (Entails.of_eq (show St c [0, 6, 3, 2] (Tk4 c) (D4 c) ((c, 19, 0) :: (c, 11, 0) :: (c, 18, 0) :: (c, 10, 0) :: (c, 4, 0) :: (Y1 c ++ C3 c)) = St c [0, 6, 3, 2] (Tk4 c) (D4 c) (Y2 c ++ (c, 4, 0) :: (Y1 c ++ C3 c)) from by subst hc; rfl)) $$ HS
    ihave HZ := (Entails.of_eq (Zr_zero c hc (P2 X W K V)).symm) $$ [HgA HgB Hg0 Hg Hr]
    · simp -proj only [P2, gL, lsep, List.foldr_cons, List.foldr_nil]
      isplitl [HgA]; · iexact HgA
      isplitl [HgB]; · iexact HgB
      isplitl [Hg0]; · iexact Hg0
      isplitl [Hg]
      · iexists g
        isplitl [Hg]; · iapply (Entails.of_eq (bigR_c0 hc _ _ _ _ _).symm); iexact Hg
        ipureintro; exact hg
      iexists f; iexact Hr
    iapply (step_waitD T B N c 4 0 0 (src := slot0) (dst := slot1) (w := [0, 6, 3, 2]) (Tk := Tk4 c) (D := D4 c) (Y2 c) (Y1 c ++ C3 c) (by decide) (by decide) (by decide) (dR c).2.2.2.2.1 (am_tiny 4 (by decide)).symm rfl (aR c).2.2.2.1) $$ [HS]
    · isplitr; · iexact HR
      iexact HS
    iintro ⟨HS, -, Hp4⟩
    ihave Hp4 := (Entails.of_eq (show pay T B c ((4 : Fin 43) : ℕ) 0 false = (slotAny true c : sProp 𝕄) from rfl)) $$ Hp4
    rw [wp_ret]; imodintro
    iapply Hk
    isplitl [HS]; · iexact HS
    isplitl [HZ]; · iexact HZ
    isplitl [Hp4]; · iexact Hp4
    isplitl [HB]; · iexact HB
    iexact Ha
  · have hC := fun h => hc ((cond2_iff c).mp h)
    simp -proj only [dif_neg hC, Prog.lift, Prog.bind_op, Prog.bind_ret, Prog.pure_eq_ret, semSignalWord, semWaitWord]
    sl_exec
    rw [acc_write]
    iapply (step_wait1 T B N c 0 0 0 1 (w := [6, 3, 2]) (Tk := Tk2' c) (D := D2' c) (Y1 c) (C3 c) (wpE_semWait_eq 𝒱₀ (c : Thread nD τ) none Set.univ) (by decide) (by decide) (by decide) (dR c).1 (by decide) rfl (aR c).2.2.1) $$ [HS]
    · isplitr; · iexact HR
      iexact HS
    iintro ⟨HS, -, Hp0⟩
    ihave Hp0 := (Entails.of_eq (show pay T B c ((0 : Fin 43) : ℕ) 0 false = (slotAny false (nxt c) : sProp 𝕄) from rfl)) $$ Hp0
    iapply (send_slot1 (T := T) (B := B) N c (prv c) hT 4 5 0 0 0 (Tk := Tk3 c) (D := D3 c) (dev9_eq c) rfl rfl (by rw [show dts c ((4 : Fin 43) : ℕ) 0 = {false} from (dR c).2.2.2.2.1]; decide)
      (by rw [show dts (nxt c) ((5 : Fin 43) : ℕ) 0 = {false} from (dR (nxt c)).2.2.2.2.2.1]; decide) (by decide) (by decide) .rfl
      (Entails.of_eq (show slotPts false (nxt c) (T (prv c)) = pay T B (nxt c) ((5 : Fin 43) : ℕ) 0 false from by show _ = slotPts false (nxt c) (T (prv (prv (nxt c)))); rw [prv_nxt]))) $$ [HS Hs Hp0]
    · isplitr; · iexact HR
      isplitr; · iapply (reached_at N (c, 4)); iexact HR
      isplitr; · iapply (reached_at N (nxt c, 5)); iexact HR
      isplitl [Hs]; · iexact Hs
      isplitl [Hp0]; · iexact Hp0
      iexact HS
    iintro HS
    ihave HS := (Entails.of_eq (show St c [0, 6, 3, 2] (Tk3 c) (D3 c) ((c, 4, 0) :: (Y1 c ++ C3 c)) = St c [0, 6, 3, 2] (Tk4 c) (D4 c) (Y2 c ++ (c, 4, 0) :: (Y1 c ++ C3 c)) from by
      unfold Tk3 D3 TX2 X2 Y2; rw [if_neg hc, if_neg hc, if_neg hc]; rfl)) $$ HS
    ihave HZ := (Entails.of_eq (Zr_ne c hc (P1 X W K V) (P2 X W K V))) $$ HZ
    iapply (step_waitD T B N c 4 0 0 (src := slot0) (dst := slot1) (w := [0, 6, 3, 2]) (Tk := Tk4 c) (D := D4 c) (Y2 c) (Y1 c ++ C3 c) (by decide) (by decide) (by decide) (dR c).2.2.2.2.1 (am_tiny 4 (by decide)).symm rfl (aR c).2.2.2.1) $$ [HS]
    · isplitr; · iexact HR
      iexact HS
    iintro ⟨HS, -, Hp4⟩
    ihave Hp4 := (Entails.of_eq (show pay T B c ((4 : Fin 43) : ℕ) 0 false = (slotAny true c : sProp 𝕄) from rfl)) $$ Hp4
    rw [wp_ret]; imodintro
    iapply Hk
    isplitl [HS]; · iexact HS
    isplitl [HZ]; · iexact HZ
    isplitl [Hp4]; · iexact Hp4
    isplitl [HB]; · iexact HB
    iexact Ha

set_option maxHeartbeats 4000000 in
theorem part59_run (c : Dev nD) (v13 v24 : BitVec 32) (Q : PUnit → sProp (MT nD τ sig ℕ (Elt F) ℕ UU ℕ)) :
    iprop(recs T B N ∗ St c [4, 0, 6, 3, 2] (Tk4 c) (D4 c) (Y2 c ++ (Y1 c ++ C3 c)) ∗ slotAny (F := F) true c ∗ reached ER (kcell (c, 6)) 1 ∗ (aM.view.loc (c : Thread nD τ) ↦{fullShare} acc1 T c))
      ⊢ iprop((iprop(St c [1, 5, 4, 0, 6, 3, 2] (Tk5 c) (D5 c) (U2 c ++ C5 c) ∗ slotPts false c (T (prv (prv c))) ∗ slotAny (F := F) true (nxt c) ∗ reached ER (kcell (nxt c, 6)) 1
            ∗ (aM.view.loc (c : Thread nD τ) ↦{fullShare} acc2 T c)) -∗ Q ⟨⟩)
        -∗ wp frame (wpE (defs₀ (F := F)) 𝒱₀ (c : Thread nD τ) none) Set.univ (k0_part59 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v13 v24) Q) := by
  iintro ⟨#HR, HS, Hs, #Hr6, Ha⟩ Hk
  simp -proj only [k0_part59_eq_skeleton]; unfold k0_part59_skel
  simp -proj only [Prog.lift, Prog.bind_op, Prog.bind_ret, Prog.pure_eq_ret, semSignalWord, semWaitWord]
  iapply (step_waitD T B N c 5 0 0 (src := slot1) (dst := slot0) (w := [4, 0, 6, 3, 2]) (Tk := Tk4 c) (D := D4 c) (U2 c) (C4 c) (by decide) (by decide) (by decide) (dR c).2.2.2.2.2.1 (am_tiny 5 (by decide)).symm
    (List.append_assoc _ _ _).symm (aR c).2.2.2.2.1) $$ [HS]
  · isplitr; · iexact HR
    iexact HS
  iintro ⟨HS, -, Hp5⟩
  iapply (step_signal (T := T) (B := B) N c (prv c) 1 0 0 false (Tk := Tk5 c) (D := D5 c) (dev14_eq c) (by decide) (by decide)
    (by rw [show dts (prv c) ((1 : Fin 43) : ℕ) 0 = {false} from (dR (prv c)).2.1]; decide)) $$ [HS Hs]
  · isplitr; · iexact HR
    isplitr; · iapply (reached_at N (prv c, 1)); iexact HR
    isplitl [Hs]
    · iapply (Entails.of_eq (show iprop(slotAny (F := F) true c ∗ reached ER (kcell (c, 6)) 1) = pay T B (prv c) ((1 : Fin 43) : ℕ) 0 false from by
          show _ = iprop(slotAny (F := F) true (nxt (prv c)) ∗ reached ER (kcell (nxt (prv c), 6)) 1); rw [nxt_prv]))
      isplitl [Hs]; · iexact Hs
      iexact Hr6
    iexact HS
  iintro HS
  ihave Hs := (Entails.of_eq ((show pay T B c ((5 : Fin 43) : ℕ) 0 false = (slotPts false c (T (prv (prv c))) : sProp 𝕄) from rfl).trans (slotPts_false c (T (prv (prv c)))))) $$ Hp5
  sl_exec
  rw [acc_read, acc_write]
  iapply (step_wait1 T B N c 1 0 0 1 (w := [5, 4, 0, 6, 3, 2]) (Tk := Tk5 c) (D := D5 c) (U2 c) (C5 c) (wpE_semWait_eq 𝒱₀ (c : Thread nD τ) none Set.univ) (by decide) (by decide) (by decide) (dR c).2.1 (by decide) rfl (aR c).2.2.2.2.2.1) $$ [HS]
  · isplitr; · iexact HR
    iexact HS
  iintro ⟨HS, -, Hp1⟩
  ihave Hp1 := (Entails.of_eq (show pay T B c ((1 : Fin 43) : ℕ) 0 false = iprop(slotAny (F := F) true (nxt c) ∗ reached ER (kcell (nxt c, 6)) 1) from rfl)) $$ Hp1
  icases Hp1 with ⟨Hn, Hr⟩
  rw [wp_ret]; imodintro
  iapply Hk
  isplitl [HS]; · iexact HS
  isplitl [Hs]; · iapply (Entails.of_eq (slotPts_false c (T (prv (prv c)))).symm); iexact Hs
  isplitl [Hn]; · iexact Hn
  isplitl [Hr]; · iexact Hr
  iexact Ha

set_option maxHeartbeats 4000000 in
theorem part60_run (hT : Flat T) (c : Dev nD) (hB : c = 0 → ∀ y : S2048x1024.Idx, 32 ≤ (y 0).val → (y 0).val < 1920 → B y = mid X W K V y) (v2 v24 : BitVec 32)
    (Q : BitVec 32 → sProp (MT nD τ sig ℕ (Elt F) ℕ UU ℕ)) :
    iprop(recs T B N ∗ St c [1, 5, 4, 0, 6, 3, 2] (Tk5 c) (D5 c) (U2 c ++ C5 c) ∗ Zr c (P2 X W K V) ∗ slotPts false c (T (prv (prv c))) ∗ slotAny (F := F) true (nxt c)
        ∗ reached ER (kcell (c, 3)) 1 ∗ reached ER (kcell (nxt c, 6)) 1 ∗ bufs c X W K V ∗ (aM.view.loc (c : Thread nD τ) ↦{fullShare} acc2 T c))
      ⊢ iprop((iprop(St c [6, 3, 1, 5, 4, 0, 6, 3, 2] (TXT c) (XT c) (U3 c ++ CT c) ∗ Zr c (P3 X W K V) ∗ slotAny (F := F) false c ∗ slotPts true c (T (prv (prv (prv c))))
            ∗ bufs c X W K V ∗ (aM.view.loc (c : Thread nD τ) ↦{fullShare} acc3 T c)) -∗ Q 0#32)
        -∗ wp frame (wpE (defs₀ (F := F)) 𝒱₀ (c : Thread nD τ) none) Set.univ (k0_part60 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 c v2 v24) Q) := by
  iintro ⟨#HR, HS, HZ, Hs, Hn, #Hr3, #Hrn, HB, Ha⟩ Hk
  simp -proj only [k0_part60_eq_skeleton]; unfold k0_part60_skel
  by_cases hc : c = 0
  · have hC := (cond3_iff c).mpr hc
    simp -proj only [dif_pos hC, Prog.lift, Prog.bind_op, Prog.bind_ret, Prog.pure_eq_ret, semSignalWord, semWaitWord]
    iapply (send_slot0 (T := T) (B := B) N c (prv (prv c)) hT 3 6 1 1 1 (Tk := Tk6 c) (D := D6 c) (dev15_eq c) rfl rfl (by rw [show dts c ((3 : Fin 43) : ℕ) 1 = {false} from (dR c).2.2.2.1]; decide)
      (by rw [show dts (nxt c) ((6 : Fin 43) : ℕ) 1 = {false} from (dR (nxt c)).2.2.2.2.2.2.2]; decide) (by decide) (by decide) .rfl
      (Entails.of_eq (show slotPts true (nxt c) (T (prv (prv c))) = pay T B (nxt c) ((6 : Fin 43) : ℕ) 1 false from by show _ = slotPts true (nxt c) (T (prv (prv (prv (nxt c))))); rw [prv_nxt]))) $$ [HS Hs Hn]
    · isplitr; · iexact HR
      isplitr; · iexact Hr3
      isplitr; · iexact Hrn
      isplitl [Hs]; · iexact Hs
      isplitl [Hn]; · iexact Hn
      iexact HS
    iintro HS
    ihave HZ' := (Entails.of_eq (Zr_zero c hc (P2 X W K V))) $$ HZ
    ihave HS := (Entails.of_eq (show St c [1, 5, 4, 0, 6, 3, 2] (Tk6 c) (D6 c) ((c, 3, 0) :: (U2 c ++ C5 c)) = St c [1, 5, 4, 0, 6, 3, 2] ((0, 12, 0, false) :: (1, 28, 0, false) :: (0, 20, 0, false) :: (3, 28, 0, false) :: (0, 13, 0, false) :: (1, 29, 0, false) :: (c, 21, 0, false) :: (3, 29, 0, false) :: TXT c)
      ((1, 28, 0) :: (3, 28, 0) :: (1, 29, 0) :: (3, 29, 0) :: XT c) ((c, 3, 0) :: (U2 c ++ C5 c)) from by subst hc; rfl)) $$ HS
    simp -proj only [P2, gL, lsep, List.foldr_cons, List.foldr_nil]
    icases HZ' with ⟨⟨Hd51, Hd61, HgA⟩, ⟨Hd53, Hd63, HgB⟩, Hg0, ⟨%g0, Hg1, %hg0⟩, %f, Hf⟩
    ihave Hf' := (Entails.of_eq (bigR_split 0 fullShare 1408 512 128 f (by decide))) $$ Hf
    icases Hf' with ⟨Hb, Hr⟩
    rw [wp_bind]
    iapply (part22_run X W K V T B N (hB hc) c hc hC f g0 hg0 _) $$ [HB Hb Hg1 Hd51 Hd53 Hd61 HS]
    · isplitr; · iexact HR
      isplitl [HB]; · iexact HB
      isplitl [Hg1]; · iapply (Entails.of_eq (bigR_c0 hc _ _ _ _ _)); iexact Hg1
      isplitl [Hb]; · iapply (Entails.of_eq (bigR_c0 hc _ _ _ _ _)); iexact Hb
      isplitl [Hd51]; · iexact Hd51
      isplitl [Hd53]; · iexact Hd53
      isplitl [Hd61]; · iexact Hd61
      iexact HS
    iintro ⟨HB, HS, HcB, %g, Hg, %hg⟩
    iapply (send_chunk (T := T) (B := B) N c 3 6 21 29 fullShare.right rfl rfl (Fin.ext k0_dev19_eq) rfl rfl (by subst hc; decide) (by decide) (by decide) (by decide) rfl rfl) $$ [HcB Hd63 HS]
    · isplitr; · iexact HR
      isplitl [HcB]; · iexact HcB
      isplitl [Hd63]; · iexact Hd63
      iexact HS
    iintro HS
    ihave HS := (Entails.of_eq (show St c [1, 5, 4, 0, 6, 3, 2] (TXT c) (XT c) ((c, 21, 0) :: (c, 13, 0) :: (c, 20, 0) :: (c, 12, 0) :: (c, 3, 0) :: (U2 c ++ C5 c)) = St c [1, 5, 4, 0, 6, 3, 2] (TXT c) (XT c) (Y3 c ++ (c, 3, 0) :: (U2 c ++ C5 c)) from by subst hc; rfl)) $$ HS
    ihave HZ := (Entails.of_eq (Zr_zero c hc (P3 X W K V)).symm) $$ [HgA HgB Hg0 Hg Hr]
    · simp -proj only [P3, gL, lsep, List.foldr_cons, List.foldr_nil]
      isplitl [HgA]; · iexact HgA
      isplitl [HgB]; · iexact HgB
      isplitl [Hg0]; · iexact Hg0
      isplitl [Hg]
      · iexists g
        isplitl [Hg]; · iapply (Entails.of_eq (bigR_c0 hc _ _ _ _ _).symm); iexact Hg
        ipureintro; exact hg
      iexists f; iexact Hr
    iapply (step_waitD T B N c 3 1 0 (src := slot1) (dst := slot0) (w := [1, 5, 4, 0, 6, 3, 2]) (Tk := TXT c) (D := XT c) (Y3 c) (U2 c ++ C5 c) (by decide) (by decide) (by decide) (dR c).2.2.2.1 (am_tiny 3 (by decide)).symm rfl (aR c).2.2.2.2.2.2.1) $$ [HS]
    · isplitr; · iexact HR
      iexact HS
    iintro ⟨HS, -, Hp3⟩
    ihave Hp3 := (Entails.of_eq (show pay T B c ((3 : Fin 43) : ℕ) 1 false = (slotAny false c : sProp 𝕄) from rfl)) $$ Hp3
    iapply (step_waitD T B N c 6 1 1 (src := slot0) (dst := slot1) (w := [3, 1, 5, 4, 0, 6, 3, 2]) (Tk := TXT c) (D := XT c) (U3 c) (CT c) (by decide) (by decide) (by decide) (dR c).2.2.2.2.2.2.2 (am_tiny 6 (by decide)).symm
      (List.append_assoc _ _ _).symm (aR c).2.2.2.2.2.2.2) $$ [HS]
    · isplitr; · iexact HR
      iexact HS
    iintro ⟨HS, -, Hp6⟩
    ihave Hs := (Entails.of_eq ((show pay T B c ((6 : Fin 43) : ℕ) 1 false = (slotPts true c (T (prv (prv (prv c)))) : sProp 𝕄) from rfl).trans (slotPts_true c (T (prv (prv (prv c))))))) $$ Hp6
    sl_exec
    rw [acc_read, acc_write]
    rw [wp_ret]; imodintro
    iapply Hk
    isplitl [HS]; · iexact HS
    isplitl [HZ]; · iexact HZ
    isplitl [Hp3]; · iexact Hp3
    isplitl [Hs]; · iapply (Entails.of_eq (slotPts_true c (T (prv (prv (prv c))))).symm); iexact Hs
    isplitl [HB]; · iexact HB
    iexact Ha
  · have hC := fun h => hc ((cond3_iff c).mp h)
    simp -proj only [dif_neg hC, Prog.lift, Prog.bind_op, Prog.bind_ret, Prog.pure_eq_ret, semSignalWord, semWaitWord]
    iapply (send_slot0 (T := T) (B := B) N c (prv (prv c)) hT 3 6 1 1 1 (Tk := Tk6 c) (D := D6 c) (dev15_eq c) rfl rfl (by rw [show dts c ((3 : Fin 43) : ℕ) 1 = {false} from (dR c).2.2.2.1]; decide)
      (by rw [show dts (nxt c) ((6 : Fin 43) : ℕ) 1 = {false} from (dR (nxt c)).2.2.2.2.2.2.2]; decide) (by decide) (by decide) .rfl
      (Entails.of_eq (show slotPts true (nxt c) (T (prv (prv c))) = pay T B (nxt c) ((6 : Fin 43) : ℕ) 1 false from by show _ = slotPts true (nxt c) (T (prv (prv (prv (nxt c))))); rw [prv_nxt]))) $$ [HS Hs Hn]
    · isplitr; · iexact HR
      isplitr; · iexact Hr3
      isplitr; · iexact Hrn
      isplitl [Hs]; · iexact Hs
      isplitl [Hn]; · iexact Hn
      iexact HS
    iintro HS
    ihave HS := (Entails.of_eq (show St c [1, 5, 4, 0, 6, 3, 2] (Tk6 c) (D6 c) ((c, 3, 0) :: (U2 c ++ C5 c)) = St c [1, 5, 4, 0, 6, 3, 2] (TXT c) (XT c) (Y3 c ++ (c, 3, 0) :: (U2 c ++ C5 c)) from by
      unfold Tk6 D6 TX3 X3 Y3; rw [if_neg hc, if_neg hc, if_neg hc]; rfl)) $$ HS
    ihave HZ := (Entails.of_eq (Zr_ne c hc (P2 X W K V) (P3 X W K V))) $$ HZ
    iapply (step_waitD T B N c 3 1 0 (src := slot1) (dst := slot0) (w := [1, 5, 4, 0, 6, 3, 2]) (Tk := TXT c) (D := XT c) (Y3 c) (U2 c ++ C5 c) (by decide) (by decide) (by decide) (dR c).2.2.2.1 (am_tiny 3 (by decide)).symm rfl (aR c).2.2.2.2.2.2.1) $$ [HS]
    · isplitr; · iexact HR
      iexact HS
    iintro ⟨HS, -, Hp3⟩
    ihave Hp3 := (Entails.of_eq (show pay T B c ((3 : Fin 43) : ℕ) 1 false = (slotAny false c : sProp 𝕄) from rfl)) $$ Hp3
    iapply (step_waitD T B N c 6 1 1 (src := slot0) (dst := slot1) (w := [3, 1, 5, 4, 0, 6, 3, 2]) (Tk := TXT c) (D := XT c) (U3 c) (CT c) (by decide) (by decide) (by decide) (dR c).2.2.2.2.2.2.2 (am_tiny 6 (by decide)).symm
      (List.append_assoc _ _ _).symm (aR c).2.2.2.2.2.2.2) $$ [HS]
    · isplitr; · iexact HR
      iexact HS
    iintro ⟨HS, -, Hp6⟩
    ihave Hs := (Entails.of_eq ((show pay T B c ((6 : Fin 43) : ℕ) 1 false = (slotPts true c (T (prv (prv (prv c)))) : sProp 𝕄) from rfl).trans (slotPts_true c (T (prv (prv (prv c))))))) $$ Hp6
    sl_exec
    rw [acc_read, acc_write]
    rw [wp_ret]; imodintro
    iapply Hk
    isplitl [HS]; · iexact HS
    isplitl [HZ]; · iexact HZ
    isplitl [Hp3]; · iexact Hp3
    isplitl [Hs]; · iapply (Entails.of_eq (slotPts_true c (T (prv (prv (prv c))))).symm); iexact Hs
    isplitl [HB]; · iexact HB
    iexact Ha

end
end Cert.Ring
end
-- ==== Proof.Tail2.lean ====
module

public import proofs.«01_k».proof.Proof.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The output, chunk by chunk -/

section
variable (O : OC F) (B : BigC F)

/-- Chunk `k` of the output stored. -/
def outP (k : Fin 8) : View.Piece (Elt F) S2048x1024 .f32 :=
  ⟨Rect.unit (s := S2048x1024) ![256 * k.val, 0] S256x1024.size (inb_chunk k), k0_pay96 (bChunk B k) (woAll O)⟩

theorem read_oM (f : RC F) (y : S2048x1024.Idx) : oM.view.read (Elt F) f y = f y := rfl

theorem outs_eq (f : RC F) : oM.view.writes (Elt F) f [outP O B 7, outP O B 0, outP O B 6, outP O B 5, outP O B 4, outP O B 3, outP O B 2, outP O B 1] = outChunks O B := by
  have hall : ∀ j : Fin 8, j ∈ ([7, 0, 6, 5, 4, 3, 2, 1] : List (Fin 8)) := by decide
  funext y
  have h0 : (y 0).val < 2048 := (y 0).isLt
  have h1 : (y 1).val < 1024 := (y 1).isLt
  have hL : [outP O B 7, outP O B 0, outP O B 6, outP O B 5, outP O B 4, outP O B 3, outP O B 2, outP O B 1] = ([7, 0, 6, 5, 4, 3, 2, 1] : List (Fin 8)).map (outP O B) := rfl
  have h := View.read_writes_apply_of_pieces (Val := Elt F) oM.view f (outChunks O B) [outP O B 7, outP O B 0, outP O B 6, outP O B 5, outP O B 4, outP O B 3, outP O B 2, outP O B 1] ?_ y ?_
  · exact (read_oM _ y).symm.trans h
  · intro p hp x
    rw [hL, List.mem_map] at hp
    obtain ⟨j, -, rfl⟩ := hp
    have h0 : (x 0).val < 256 := (x 0).isLt
    have h2 : (x 1).val < 1024 := (x 1).isLt
    have e0 : ((outP O B j).1.emb x 0).val = 256 * j.val + (x 0).val := by
      show 256 * j.val + 1 * (x 0).val = _; omega
    have e1 : ((outP O B j).1.emb x 1).val = (x 1).val := by
      show 0 + 1 * (x 1).val = _; omega
    show k0_pay96 (bChunk B j) (woAll O) x = k0_pay96 (bChunk B ⟨(((outP O B j).1.emb x 0).val / 256) % 8, Nat.mod_lt _ (by decide)⟩) (woAll O)
      (ix256 ((outP O B j).1.emb x 0).val ((outP O B j).1.emb x 1).val)
    have ej : (⟨(((outP O B j).1.emb x 0).val / 256) % 8, Nat.mod_lt _ (by decide)⟩ : Fin 8) = j := Fin.ext (by rw [e0]; show (256 * j.val + (x 0).val) / 256 % 8 = j.val; omega)
    rw [ej, e0, e1]
    refine congrArg _ (funext fun a => Fin.ext ?_)
    match a with
    | 0 => show (x 0).val = (256 * j.val + (x 0).val) % 256; omega
    | 1 => show (x 1).val = (x 1).val % 1024; omega
  · rw [hL]
    refine ⟨_, List.mem_map_of_mem (hall ⟨(y 0).val / 256, by omega⟩), ?_⟩
    rw [outP, Rect.mem_set_unit]
    intro a
    match a with
    | 0 => show 256 * ((y 0).val / 256) ≤ (y 0).val ∧ (y 0).val < 256 * ((y 0).val / 256) + 256; omega
    | 1 => show 0 ≤ (y 1).val ∧ (y 1).val < 0 + 1024; omega

/-- All eight chunks are the whole buffer. -/
theorem chunks_whole (c : Dev nD) (q : PosShare TreeShare) :
    iprop(bigR c q 0 256 B ∗ bigR c q 256 256 B ∗ bigR c q 512 256 B ∗ bigR c q 768 256 B ∗ bigR c q 1024 256 B ∗ bigR c q 1280 256 B ∗ bigR c q 1536 256 B ∗ bigR c q 1792 256 B)
      ⊢ bigR c q 0 2048 B := by
  refine Entails.of_eq ?_
  rw [bigR_split c q 0 256 1792 B (by decide), bigR_split c q 256 256 1536 B (by decide), bigR_split c q 512 256 1280 B (by decide), bigR_split c q 768 256 1024 B (by decide),
    bigR_split c q 1024 256 768 B (by decide), bigR_split c q 1280 256 512 B (by decide), bigR_split c q 1536 256 256 B (by decide)]

end

/-! ## Device 2: every chunk waited for, multiplied and stored -/

section
variable (T : Dev nD → TinyC F) (B : BigC F) (N : Dev nD × Fin 43 → ℕ) (O : OC F)

set_option maxHeartbeats 4000000 in
theorem part43_run (f : RC F) {w : List (Fin 43)} {Tk : List Tok} {C : List Ent} (h1 : w.count 36 = 0) (h2 : w.count 37 = 0) (Q : PUnit → sProp (MT nD τ sig ℕ (Elt F) ℕ UU ℕ)) :
    iprop(recs T B N ∗ St 2 w Tk [] ((2, 36, 0) :: (2, 37, 0) :: C) ∗ (wM.view.loc ((2 : Dev nD) : Thread nD τ) ↦{fullShare} O) ∗ (oM.view.loc ((2 : Dev nD) : Thread nD τ) ↦{fullShare} f))
      ⊢ iprop((iprop(St 2 (37 :: 36 :: w) Tk [] C ∗ (wM.view.loc ((2 : Dev nD) : Thread nD τ) ↦{fullShare} O)
          ∗ (oM.view.loc ((2 : Dev nD) : Thread nD τ) ↦{fullShare} oM.view.writes (Elt F) f [outP O B 2, outP O B 1]) ∗ bigR 2 fullShare 256 256 B ∗ bigR 2 fullShare 512 256 B) -∗ Q ⟨⟩)
        -∗ wp frame (wpE (defs₀ (F := F)) 𝒱₀ ((2 : Dev nD) : Thread nD τ) none) Set.univ (k0_part43 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) Q) := by
  iintro ⟨#HR, HS, HW, HO⟩ Hk
  simp -proj only [k0_part43_eq_skeleton]; unfold k0_part43_skel
  simp -proj only [Prog.lift, Prog.bind_op, Prog.bind_ret, Prog.pure_eq_ret]
  iapply (step_waitD T B N 2 36 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := w) (Tk := Tk) (D := []) [] ((2, 37, 0) :: C) (by decide) (by first | exact h1 | (rw [List.count_cons_of_ne (by decide)]; exact h1)) (by decide) (by decide) ((NB_chM 1).trans (am_big 36 (by decide)).symm) rfl (by decide)) $$ [HS]
  · isplitr; · iexact HR
    iexact HS
  iintro ⟨HS, -, Hp⟩
  ihave Hc1 := (Entails.of_eq (show pay T B 2 ((36 : Fin 43) : ℕ) 0 false = (bigR 2 fullShare 256 256 B (by decide) : sProp 𝕄) from chPts_rows 1 2 fullShare B)) $$ Hp
  unfold bigR rows
  sl_exec
  iapply (step_waitD T B N 2 37 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := (36 :: w)) (Tk := Tk) (D := []) [] (C) (by decide) (by first | exact h2 | (rw [List.count_cons_of_ne (by decide)]; exact h2)) (by decide) (by decide) ((NB_chM 2).trans (am_big 37 (by decide)).symm) rfl (by decide)) $$ [HS]
  · isplitr; · iexact HR
    iexact HS
  iintro ⟨HS, -, Hp⟩
  ihave Hc2 := (Entails.of_eq (show pay T B 2 ((37 : Fin 43) : ℕ) 0 false = (bigR 2 fullShare 512 256 B (by decide) : sProp 𝕄) from chPts_rows 2 2 fullShare B)) $$ Hp
  unfold bigR rows
  sl_exec
  rw [wp_ret]; imodintro
  iapply Hk
  isplitl [HS]; · iexact HS
  isplitl [HW]; · iexact HW
  isplitl [HO]; · iexact HO
  isplitl [Hc1]; · iexact Hc1
  iexact Hc2

set_option maxHeartbeats 4000000 in
theorem part44_run (f : RC F) {w : List (Fin 43)} {Tk : List Tok} {C : List Ent} (h3 : w.count 38 = 0) (h4 : w.count 39 = 0) (Q : (Σ' (c3_i32_409 : BitVec 32), BitVec 32) → sProp (MT nD τ sig ℕ (Elt F) ℕ UU ℕ)) :
    iprop(recs T B N ∗ St 2 w Tk [] ((2, 38, 0) :: (2, 39, 0) :: C) ∗ (wM.view.loc ((2 : Dev nD) : Thread nD τ) ↦{fullShare} O) ∗ (oM.view.loc ((2 : Dev nD) : Thread nD τ) ↦{fullShare} f))
      ⊢ iprop((iprop(St 2 (39 :: 38 :: w) Tk [] C ∗ (wM.view.loc ((2 : Dev nD) : Thread nD τ) ↦{fullShare} O)
          ∗ (oM.view.loc ((2 : Dev nD) : Thread nD τ) ↦{fullShare} oM.view.writes (Elt F) f [outP O B 4, outP O B 3]) ∗ bigR 2 fullShare 768 256 B ∗ bigR 2 fullShare 1024 256 B) -∗ Q ⟨3#32, 1#32⟩)
        -∗ wp frame (wpE (defs₀ (F := F)) 𝒱₀ ((2 : Dev nD) : Thread nD τ) none) Set.univ (k0_part44 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) Q) := by
  iintro ⟨#HR, HS, HW, HO⟩ Hk
  simp -proj only [k0_part44_eq_skeleton]; unfold k0_part44_skel
  simp -proj only [Prog.lift, Prog.bind_op, Prog.bind_ret, Prog.pure_eq_ret]
  iapply (step_waitD T B N 2 38 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := w) (Tk := Tk) (D := []) [] ((2, 39, 0) :: C) (by decide) (by first | exact h3 | (rw [List.count_cons_of_ne (by decide)]; exact h3)) (by decide) (by decide) ((NB_chM 3).trans (am_big 38 (by decide)).symm) rfl (by decide)) $$ [HS]
  · isplitr; · iexact HR
    iexact HS
  iintro ⟨HS, -, Hp⟩
  ihave Hc3 := (Entails.of_eq (show pay T B 2 ((38 : Fin 43) : ℕ) 0 false = (bigR 2 fullShare 768 256 B (by decide) : sProp 𝕄) from chPts_rows 3 2 fullShare B)) $$ Hp
  unfold bigR rows
  sl_exec
  iapply (step_waitD T B N 2 39 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := (38 :: w)) (Tk := Tk) (D := []) [] (C) (by decide) (by first | exact h4 | (rw [List.count_cons_of_ne (by decide)]; exact h4)) (by decide) (by decide) ((NB_chM 4).trans (am_big 39 (by decide)).symm) rfl (by decide)) $$ [HS]
  · isplitr; · iexact HR
    iexact HS
  iintro ⟨HS, -, Hp⟩
  ihave Hc4 := (Entails.of_eq (show pay T B 2 ((39 : Fin 43) : ℕ) 0 false = (bigR 2 fullShare 1024 256 B (by decide) : sProp 𝕄) from chPts_rows 4 2 fullShare B)) $$ Hp
  unfold bigR rows
  sl_exec
  rw [wp_ret]; imodintro
  iapply Hk
  isplitl [HS]; · iexact HS
  isplitl [HW]; · iexact HW
  isplitl [HO]; · iexact HO
  isplitl [Hc3]; · iexact Hc3
  iexact Hc4

set_option maxHeartbeats 4000000 in
theorem part45_run (a b : BitVec 32) (f : RC F) {w : List (Fin 43)} {Tk : List Tok} {C : List Ent} (h5 : w.count 40 = 0) (h6 : w.count 41 = 0) (Q : (Σ' (v573 : BitVec 32), BitVec 32) → sProp (MT nD τ sig ℕ (Elt F) ℕ UU ℕ)) :
    iprop(recs T B N ∗ St 2 w Tk [] ((2, 40, 0) :: (2, 41, 0) :: C) ∗ (wM.view.loc ((2 : Dev nD) : Thread nD τ) ↦{fullShare} O) ∗ (oM.view.loc ((2 : Dev nD) : Thread nD τ) ↦{fullShare} f))
      ⊢ iprop((iprop(St 2 (41 :: 40 :: w) Tk [] C ∗ (wM.view.loc ((2 : Dev nD) : Thread nD τ) ↦{fullShare} O)
          ∗ (oM.view.loc ((2 : Dev nD) : Thread nD τ) ↦{fullShare} oM.view.writes (Elt F) f [outP O B 6, outP O B 5]) ∗ bigR 2 fullShare 1280 256 B ∗ bigR 2 fullShare 1536 256 B) -∗ Q ⟨Scalar.muli 1#32 1#32, 0#32⟩)
        -∗ wp frame (wpE (defs₀ (F := F)) 𝒱₀ ((2 : Dev nD) : Thread nD τ) none) Set.univ (k0_part45 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 a b) Q) := by
  iintro ⟨#HR, HS, HW, HO⟩ Hk
  simp -proj only [k0_part45_eq_skeleton]; unfold k0_part45_skel
  simp -proj only [Prog.lift, Prog.bind_op, Prog.bind_ret, Prog.pure_eq_ret]
  iapply (step_waitD T B N 2 40 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := w) (Tk := Tk) (D := []) [] ((2, 41, 0) :: C) (by decide) (by first | exact h5 | (rw [List.count_cons_of_ne (by decide)]; exact h5)) (by decide) (by decide) ((NB_chM 5).trans (am_big 40 (by decide)).symm) rfl (by decide)) $$ [HS]
  · isplitr; · iexact HR
    iexact HS
  iintro ⟨HS, -, Hp⟩
  ihave Hc5 := (Entails.of_eq (show pay T B 2 ((40 : Fin 43) : ℕ) 0 false = (bigR 2 fullShare 1280 256 B (by decide) : sProp 𝕄) from chPts_rows 5 2 fullShare B)) $$ Hp
  unfold bigR rows
  sl_exec
  iapply (step_waitD T B N 2 41 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := (40 :: w)) (Tk := Tk) (D := []) [] (C) (by decide) (by first | exact h6 | (rw [List.count_cons_of_ne (by decide)]; exact h6)) (by decide) (by decide) ((NB_chM 6).trans (am_big 41 (by decide)).symm) rfl (by decide)) $$ [HS]
  · isplitr; · iexact HR
    iexact HS
  iintro ⟨HS, -, Hp⟩
  ihave Hc6 := (Entails.of_eq (show pay T B 2 ((41 : Fin 43) : ℕ) 0 false = (bigR 2 fullShare 1536 256 B (by decide) : sProp 𝕄) from chPts_rows 6 2 fullShare B)) $$ Hp
  unfold bigR rows
  sl_exec
  rw [wp_ret]; imodintro
  iapply Hk
  isplitl [HS]; · iexact HS
  isplitl [HW]; · iexact HW
  isplitl [HO]; · iexact HO
  isplitl [Hc5]; · iexact Hc5
  iexact Hc6

end
end Cert.Ring
end
-- ==== Proof.Tail1.lean ====
module

public import proofs.«01_k».proof.Proof.Tail2

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem fwd_split (B : BigC F) (k : Fin 8) (c : Dev nD) : (chPts k c fullShare B : sProp 𝕄) ⊢ iprop(chPts k c fullShare.left B ∗ chPts k c fullShare.right B) := by
  unfold chPts; exact (pointsTo_share (PosShare.mem_left_op_right fullShare)).1
theorem fwd_join (B : BigC F) (k : Fin 8) (c : Dev nD) : iprop(chPts k c fullShare.left B ∗ chPts k c fullShare.right B) ⊢ (bigR c fullShare (256 * k.val) 256 B (by omega) : sProp 𝕄) := by
  rw [← chPts_rows]
  unfold chPts; exact (pointsTo_share (PosShare.mem_left_op_right fullShare)).2

/-! ## Device 1: every chunk waited for, multiplied and stored, half of them passed on to device 2 -/

section
variable (T : Dev nD → TinyC F) (B : BigC F) (N : Dev nD × Fin 43 → ℕ) (O : OC F)

set_option maxHeartbeats 8000000 in
theorem part36_run (hc : k0_cond5 1 = 1#1) (f : RC F) (Q : PUnit → sProp (MT nD τ sig ℕ (Elt F) ℕ UU ℕ)) :
    iprop(recs T B N ∗ St 1 [6, 3, 1, 5, 4, 0, 6, 3, 2] (TXT 1) (XT 1) (CT 1) ∗ (wM.view.loc ((1 : Dev nD) : Thread nD τ) ↦{fullShare} O) ∗ (oM.view.loc ((1 : Dev nD) : Thread nD τ) ↦{fullShare} f)
        ∗ chAny (F := F) 1 2 ∗ chAny (F := F) 2 2 ∗ chAny (F := F) 3 2 ∗ chAny (F := F) 0 2)
      ⊢ iprop((iprop(St 1 [33, 32, 31, 30, 23, 29, 28, 27, 26, 25, 24, 6, 3, 1, 5, 4, 0, 6, 3, 2] [] [] [(1, 34, 0)] ∗ (wM.view.loc ((1 : Dev nD) : Thread nD τ) ↦{fullShare} O)
          ∗ (oM.view.loc ((1 : Dev nD) : Thread nD τ) ↦{fullShare} outChunks O B)
          ∗ bigR 1 fullShare 0 256 B ∗ bigR 1 fullShare 256 256 B ∗ bigR 1 fullShare 512 256 B ∗ bigR 1 fullShare.right 768 256 B ∗ bigR 1 fullShare 1024 256 B ∗ bigR 1 fullShare 1280 256 B ∗ bigR 1 fullShare 1536 256 B ∗ bigR 1 fullShare 1792 256 B) -∗ Q ⟨⟩)
        -∗ wp frame (wpE (defs₀ (F := F)) 𝒱₀ ((1 : Dev nD) : Thread nD τ) none) Set.univ (k0_part36 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 1 hc) Q) := by
  iintro ⟨#HR, HS, HW, HO, Hd1, Hd2, Hd3, Hd0⟩ Hk
  simp -proj only [k0_part36_eq_skeleton]; unfold k0_part36_skel
  ihave HS := (Entails.of_eq (show St 1 [6, 3, 1, 5, 4, 0, 6, 3, 2] (TXT 1) (XT 1) (CT 1) = (St 1 [6, 3, 1, 5, 4, 0, 6, 3, 2] [(1, 32, 0, false), (2, 36, 0, false), (1, 33, 0, false), (2, 37, 0, false), (1, 34, 0, false), (2, 38, 0, false), (1, 31, 0, false), (2, 35, 0, false)] [(2, 36, 0), (2, 37, 0), (2, 38, 0), (2, 35, 0)] [(1, 24, 0), (1, 25, 0), (1, 26, 0), (1, 27, 0), (1, 28, 0), (1, 29, 0), (1, 23, 0), (1, 30, 0)] : sProp 𝕄) from rfl)) $$ HS
  sl_exec
  iapply (step_waitD T B N 1 24 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := [6, 3, 1, 5, 4, 0, 6, 3, 2]) (Tk := [(1, 32, 0, false), (2, 36, 0, false), (1, 33, 0, false), (2, 37, 0, false), (1, 34, 0, false), (2, 38, 0, false), (1, 31, 0, false), (2, 35, 0, false)]) (D := [(2, 36, 0), (2, 37, 0), (2, 38, 0), (2, 35, 0)]) [] [(1, 25, 0), (1, 26, 0), (1, 27, 0), (1, 28, 0), (1, 29, 0), (1, 23, 0), (1, 30, 0)] (by decide) (by decide) (by decide) (by decide) ((NB_chM 1).trans (am_big 24 (by decide)).symm) rfl (by decide)) $$ [HS]
  · isplitr; · iexact HR
    iexact HS
  iintro ⟨HS, -, Hp⟩
  ihave Hc1 := (Entails.of_eq (show pay T B 1 ((24 : Fin 43) : ℕ) 0 false = (chPts 1 1 fullShare B : sProp 𝕄) from rfl)) $$ Hp
  ihave HS := (Entails.of_eq (show St 1 [24, 6, 3, 1, 5, 4, 0, 6, 3, 2] [(1, 32, 0, false), (2, 36, 0, false), (1, 33, 0, false), (2, 37, 0, false), (1, 34, 0, false), (2, 38, 0, false), (1, 31, 0, false), (2, 35, 0, false)] [(2, 36, 0), (2, 37, 0), (2, 38, 0), (2, 35, 0)] ([] ++ [(1, 25, 0), (1, 26, 0), (1, 27, 0), (1, 28, 0), (1, 29, 0), (1, 23, 0), (1, 30, 0)]) = (St 1 [24, 6, 3, 1, 5, 4, 0, 6, 3, 2] [(1, 32, 0, false), (2, 36, 0, false), (1, 33, 0, false), (2, 37, 0, false), (1, 34, 0, false), (2, 38, 0, false), (1, 31, 0, false), (2, 35, 0, false)] [(2, 36, 0), (2, 37, 0), (2, 38, 0), (2, 35, 0)] [(1, 25, 0), (1, 26, 0), (1, 27, 0), (1, 28, 0), (1, 29, 0), (1, 23, 0), (1, 30, 0)] : sProp 𝕄) from rfl)) $$ HS
  ihave Hs := (fwd_split B 1 1) $$ Hc1
  icases Hs with ⟨Hs, Hc1⟩
  iapply (send_chunk (T := T) (B := B) N 1 2 1 32 36 fullShare.left (w := [24, 6, 3, 1, 5, 4, 0, 6, 3, 2]) (Tk := [(1, 33, 0, false), (2, 37, 0, false), (1, 34, 0, false), (2, 38, 0, false), (1, 31, 0, false), (2, 35, 0, false)]) (D := [(2, 37, 0), (2, 38, 0), (2, 35, 0)]) (C := [(1, 25, 0), (1, 26, 0), (1, 27, 0), (1, 28, 0), (1, 29, 0), (1, 23, 0), (1, 30, 0)]) rfl rfl (Fin.ext k0_dev24_eq) rfl rfl (by decide) (by decide) (by decide) (by decide) rfl rfl) $$ [Hs Hd1 HS]
  · isplitr; · iexact HR
    isplitl [Hs]; · iexact Hs
    isplitl [Hd1]; · iexact Hd1
    iexact HS
  iintro HS
  simp -proj only [Prog.bind]
  ihave HS := (Entails.of_eq (show St 1 [24, 6, 3, 1, 5, 4, 0, 6, 3, 2] [(1, 33, 0, false), (2, 37, 0, false), (1, 34, 0, false), (2, 38, 0, false), (1, 31, 0, false), (2, 35, 0, false)] [(2, 37, 0), (2, 38, 0), (2, 35, 0)] ((1, 32, 0) :: [(1, 25, 0), (1, 26, 0), (1, 27, 0), (1, 28, 0), (1, 29, 0), (1, 23, 0), (1, 30, 0)]) = (St 1 [24, 6, 3, 1, 5, 4, 0, 6, 3, 2] [(1, 33, 0, false), (2, 37, 0, false), (1, 34, 0, false), (2, 38, 0, false), (1, 31, 0, false), (2, 35, 0, false)] [(2, 37, 0), (2, 38, 0), (2, 35, 0)] [(1, 32, 0), (1, 25, 0), (1, 26, 0), (1, 27, 0), (1, 28, 0), (1, 29, 0), (1, 23, 0), (1, 30, 0)] : sProp 𝕄) from rfl)) $$ HS
  ihave Hc1 := (Entails.of_eq (show chPts 1 1 fullShare.right B = (bigR 1 fullShare.right 256 256 B (by decide) : sProp 𝕄) from chPts_rows 1 1 fullShare.right B)) $$ Hc1
  unfold bigR rows
  sl_exec
  ihave Hc1 := (Entails.of_eq (show (bigR 1 fullShare.right 256 256 B (by decide) : sProp 𝕄) = chPts 1 1 fullShare.right B from (chPts_rows 1 1 fullShare.right B).symm)) $$ Hc1
  iapply (step_waitD T B N 1 25 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := [24, 6, 3, 1, 5, 4, 0, 6, 3, 2]) (Tk := [(1, 33, 0, false), (2, 37, 0, false), (1, 34, 0, false), (2, 38, 0, false), (1, 31, 0, false), (2, 35, 0, false)]) (D := [(2, 37, 0), (2, 38, 0), (2, 35, 0)]) [(1, 32, 0)] [(1, 26, 0), (1, 27, 0), (1, 28, 0), (1, 29, 0), (1, 23, 0), (1, 30, 0)] (by decide) (by decide) (by decide) (by decide) ((NB_chM 2).trans (am_big 25 (by decide)).symm) rfl (by decide)) $$ [HS]
  · isplitr; · iexact HR
    iexact HS
  iintro ⟨HS, -, Hp⟩
  ihave Hc2 := (Entails.of_eq (show pay T B 1 ((25 : Fin 43) : ℕ) 0 false = (chPts 2 1 fullShare B : sProp 𝕄) from rfl)) $$ Hp
  ihave HS := (Entails.of_eq (show St 1 [25, 24, 6, 3, 1, 5, 4, 0, 6, 3, 2] [(1, 33, 0, false), (2, 37, 0, false), (1, 34, 0, false), (2, 38, 0, false), (1, 31, 0, false), (2, 35, 0, false)] [(2, 37, 0), (2, 38, 0), (2, 35, 0)] ([(1, 32, 0)] ++ [(1, 26, 0), (1, 27, 0), (1, 28, 0), (1, 29, 0), (1, 23, 0), (1, 30, 0)]) = (St 1 [25, 24, 6, 3, 1, 5, 4, 0, 6, 3, 2] [(1, 33, 0, false), (2, 37, 0, false), (1, 34, 0, false), (2, 38, 0, false), (1, 31, 0, false), (2, 35, 0, false)] [(2, 37, 0), (2, 38, 0), (2, 35, 0)] [(1, 32, 0), (1, 26, 0), (1, 27, 0), (1, 28, 0), (1, 29, 0), (1, 23, 0), (1, 30, 0)] : sProp 𝕄) from rfl)) $$ HS
  ihave Hs := (fwd_split B 2 1) $$ Hc2
  icases Hs with ⟨Hs, Hc2⟩
  iapply (send_chunk (T := T) (B := B) N 1 2 2 33 37 fullShare.left (w := [25, 24, 6, 3, 1, 5, 4, 0, 6, 3, 2]) (Tk := [(1, 34, 0, false), (2, 38, 0, false), (1, 31, 0, false), (2, 35, 0, false)]) (D := [(2, 38, 0), (2, 35, 0)]) (C := [(1, 32, 0), (1, 26, 0), (1, 27, 0), (1, 28, 0), (1, 29, 0), (1, 23, 0), (1, 30, 0)]) rfl rfl (Fin.ext k0_dev25_eq) rfl rfl (by decide) (by decide) (by decide) (by decide) rfl rfl) $$ [Hs Hd2 HS]
  · isplitr; · iexact HR
    isplitl [Hs]; · iexact Hs
    isplitl [Hd2]; · iexact Hd2
    iexact HS
  iintro HS
  simp -proj only [Prog.bind]
  ihave HS := (Entails.of_eq (show St 1 [25, 24, 6, 3, 1, 5, 4, 0, 6, 3, 2] [(1, 34, 0, false), (2, 38, 0, false), (1, 31, 0, false), (2, 35, 0, false)] [(2, 38, 0), (2, 35, 0)] ((1, 33, 0) :: [(1, 32, 0), (1, 26, 0), (1, 27, 0), (1, 28, 0), (1, 29, 0), (1, 23, 0), (1, 30, 0)]) = (St 1 [25, 24, 6, 3, 1, 5, 4, 0, 6, 3, 2] [(1, 34, 0, false), (2, 38, 0, false), (1, 31, 0, false), (2, 35, 0, false)] [(2, 38, 0), (2, 35, 0)] [(1, 33, 0), (1, 32, 0), (1, 26, 0), (1, 27, 0), (1, 28, 0), (1, 29, 0), (1, 23, 0), (1, 30, 0)] : sProp 𝕄) from rfl)) $$ HS
  ihave Hc2 := (Entails.of_eq (show chPts 2 1 fullShare.right B = (bigR 1 fullShare.right 512 256 B (by decide) : sProp 𝕄) from chPts_rows 2 1 fullShare.right B)) $$ Hc2
  unfold bigR rows
  sl_exec
  ihave Hc2 := (Entails.of_eq (show (bigR 1 fullShare.right 512 256 B (by decide) : sProp 𝕄) = chPts 2 1 fullShare.right B from (chPts_rows 2 1 fullShare.right B).symm)) $$ Hc2
  iapply (step_waitD T B N 1 26 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := [25, 24, 6, 3, 1, 5, 4, 0, 6, 3, 2]) (Tk := [(1, 34, 0, false), (2, 38, 0, false), (1, 31, 0, false), (2, 35, 0, false)]) (D := [(2, 38, 0), (2, 35, 0)]) [(1, 33, 0), (1, 32, 0)] [(1, 27, 0), (1, 28, 0), (1, 29, 0), (1, 23, 0), (1, 30, 0)] (by decide) (by decide) (by decide) (by decide) ((NB_chM 3).trans (am_big 26 (by decide)).symm) rfl (by decide)) $$ [HS]
  · isplitr; · iexact HR
    iexact HS
  iintro ⟨HS, -, Hp⟩
  ihave Hc3 := (Entails.of_eq (show pay T B 1 ((26 : Fin 43) : ℕ) 0 false = (chPts 3 1 fullShare B : sProp 𝕄) from rfl)) $$ Hp
  ihave HS := (Entails.of_eq (show St 1 [26, 25, 24, 6, 3, 1, 5, 4, 0, 6, 3, 2] [(1, 34, 0, false), (2, 38, 0, false), (1, 31, 0, false), (2, 35, 0, false)] [(2, 38, 0), (2, 35, 0)] ([(1, 33, 0), (1, 32, 0)] ++ [(1, 27, 0), (1, 28, 0), (1, 29, 0), (1, 23, 0), (1, 30, 0)]) = (St 1 [26, 25, 24, 6, 3, 1, 5, 4, 0, 6, 3, 2] [(1, 34, 0, false), (2, 38, 0, false), (1, 31, 0, false), (2, 35, 0, false)] [(2, 38, 0), (2, 35, 0)] [(1, 33, 0), (1, 32, 0), (1, 27, 0), (1, 28, 0), (1, 29, 0), (1, 23, 0), (1, 30, 0)] : sProp 𝕄) from rfl)) $$ HS
  sl_exec
  ihave Hs := (fwd_split B 3 1) $$ Hc3
  icases Hs with ⟨Hs, Hc3⟩
  iapply (send_chunk (T := T) (B := B) N 1 2 3 34 38 fullShare.left (w := [26, 25, 24, 6, 3, 1, 5, 4, 0, 6, 3, 2]) (Tk := [(1, 31, 0, false), (2, 35, 0, false)]) (D := [(2, 35, 0)]) (C := [(1, 33, 0), (1, 32, 0), (1, 27, 0), (1, 28, 0), (1, 29, 0), (1, 23, 0), (1, 30, 0)]) rfl rfl (Fin.ext k0_dev26_eq) rfl rfl (by decide) (by decide) (by decide) (by decide) rfl rfl) $$ [Hs Hd3 HS]
  · isplitr; · iexact HR
    isplitl [Hs]; · iexact Hs
    isplitl [Hd3]; · iexact Hd3
    iexact HS
  iintro HS
  simp -proj only [Prog.bind]
  ihave HS := (Entails.of_eq (show St 1 [26, 25, 24, 6, 3, 1, 5, 4, 0, 6, 3, 2] [(1, 31, 0, false), (2, 35, 0, false)] [(2, 35, 0)] ((1, 34, 0) :: [(1, 33, 0), (1, 32, 0), (1, 27, 0), (1, 28, 0), (1, 29, 0), (1, 23, 0), (1, 30, 0)]) = (St 1 [26, 25, 24, 6, 3, 1, 5, 4, 0, 6, 3, 2] [(1, 31, 0, false), (2, 35, 0, false)] [(2, 35, 0)] [(1, 34, 0), (1, 33, 0), (1, 32, 0), (1, 27, 0), (1, 28, 0), (1, 29, 0), (1, 23, 0), (1, 30, 0)] : sProp 𝕄) from rfl)) $$ HS
  ihave Hc3 := (Entails.of_eq (show chPts 3 1 fullShare.right B = (bigR 1 fullShare.right 768 256 B (by decide) : sProp 𝕄) from chPts_rows 3 1 fullShare.right B)) $$ Hc3
  unfold bigR rows
  sl_exec
  ihave Hc3 := (Entails.of_eq (show (bigR 1 fullShare.right 768 256 B (by decide) : sProp 𝕄) = chPts 3 1 fullShare.right B from (chPts_rows 3 1 fullShare.right B).symm)) $$ Hc3
  iapply (step_waitD T B N 1 27 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := [26, 25, 24, 6, 3, 1, 5, 4, 0, 6, 3, 2]) (Tk := [(1, 31, 0, false), (2, 35, 0, false)]) (D := [(2, 35, 0)]) [(1, 34, 0), (1, 33, 0), (1, 32, 0)] [(1, 28, 0), (1, 29, 0), (1, 23, 0), (1, 30, 0)] (by decide) (by decide) (by decide) (by decide) ((NB_chM 4).trans (am_big 27 (by decide)).symm) rfl (by decide)) $$ [HS]
  · isplitr; · iexact HR
    iexact HS
  iintro ⟨HS, -, Hp⟩
  ihave Hc4 := (Entails.of_eq (show pay T B 1 ((27 : Fin 43) : ℕ) 0 false = (chPts 4 1 fullShare B : sProp 𝕄) from rfl)) $$ Hp
  ihave HS := (Entails.of_eq (show St 1 [27, 26, 25, 24, 6, 3, 1, 5, 4, 0, 6, 3, 2] [(1, 31, 0, false), (2, 35, 0, false)] [(2, 35, 0)] ([(1, 34, 0), (1, 33, 0), (1, 32, 0)] ++ [(1, 28, 0), (1, 29, 0), (1, 23, 0), (1, 30, 0)]) = (St 1 [27, 26, 25, 24, 6, 3, 1, 5, 4, 0, 6, 3, 2] [(1, 31, 0, false), (2, 35, 0, false)] [(2, 35, 0)] [(1, 34, 0), (1, 33, 0), (1, 32, 0), (1, 28, 0), (1, 29, 0), (1, 23, 0), (1, 30, 0)] : sProp 𝕄) from rfl)) $$ HS
  ihave Hc4 := (Entails.of_eq (show chPts 4 1 fullShare B = (bigR 1 fullShare 1024 256 B (by decide) : sProp 𝕄) from chPts_rows 4 1 fullShare B)) $$ Hc4
  unfold bigR rows
  sl_exec
  ihave Hc4 := (Entails.of_eq (show (bigR 1 fullShare 1024 256 B (by decide) : sProp 𝕄) = chPts 4 1 fullShare B from (chPts_rows 4 1 fullShare B).symm)) $$ Hc4
  iapply (step_waitD T B N 1 28 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := [27, 26, 25, 24, 6, 3, 1, 5, 4, 0, 6, 3, 2]) (Tk := [(1, 31, 0, false), (2, 35, 0, false)]) (D := [(2, 35, 0)]) [(1, 34, 0), (1, 33, 0), (1, 32, 0)] [(1, 29, 0), (1, 23, 0), (1, 30, 0)] (by decide) (by decide) (by decide) (by decide) ((NB_chM 5).trans (am_big 28 (by decide)).symm) rfl (by decide)) $$ [HS]
  · isplitr; · iexact HR
    iexact HS
  iintro ⟨HS, -, Hp⟩
  ihave Hc5 := (Entails.of_eq (show pay T B 1 ((28 : Fin 43) : ℕ) 0 false = (chPts 5 1 fullShare B : sProp 𝕄) from rfl)) $$ Hp
  ihave HS := (Entails.of_eq (show St 1 [28, 27, 26, 25, 24, 6, 3, 1, 5, 4, 0, 6, 3, 2] [(1, 31, 0, false), (2, 35, 0, false)] [(2, 35, 0)] ([(1, 34, 0), (1, 33, 0), (1, 32, 0)] ++ [(1, 29, 0), (1, 23, 0), (1, 30, 0)]) = (St 1 [28, 27, 26, 25, 24, 6, 3, 1, 5, 4, 0, 6, 3, 2] [(1, 31, 0, false), (2, 35, 0, false)] [(2, 35, 0)] [(1, 34, 0), (1, 33, 0), (1, 32, 0), (1, 29, 0), (1, 23, 0), (1, 30, 0)] : sProp 𝕄) from rfl)) $$ HS
  ihave Hc5 := (Entails.of_eq (show chPts 5 1 fullShare B = (bigR 1 fullShare 1280 256 B (by decide) : sProp 𝕄) from chPts_rows 5 1 fullShare B)) $$ Hc5
  unfold bigR rows
  sl_exec
  ihave Hc5 := (Entails.of_eq (show (bigR 1 fullShare 1280 256 B (by decide) : sProp 𝕄) = chPts 5 1 fullShare B from (chPts_rows 5 1 fullShare B).symm)) $$ Hc5
  iapply (step_waitD T B N 1 29 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := [28, 27, 26, 25, 24, 6, 3, 1, 5, 4, 0, 6, 3, 2]) (Tk := [(1, 31, 0, false), (2, 35, 0, false)]) (D := [(2, 35, 0)]) [(1, 34, 0), (1, 33, 0), (1, 32, 0)] [(1, 23, 0), (1, 30, 0)] (by decide) (by decide) (by decide) (by decide) ((NB_chM 6).trans (am_big 29 (by decide)).symm) rfl (by decide)) $$ [HS]
  · isplitr; · iexact HR
    iexact HS
  iintro ⟨HS, -, Hp⟩
  ihave Hc6 := (Entails.of_eq (show pay T B 1 ((29 : Fin 43) : ℕ) 0 false = (chPts 6 1 fullShare B : sProp 𝕄) from rfl)) $$ Hp
  ihave HS := (Entails.of_eq (show St 1 [29, 28, 27, 26, 25, 24, 6, 3, 1, 5, 4, 0, 6, 3, 2] [(1, 31, 0, false), (2, 35, 0, false)] [(2, 35, 0)] ([(1, 34, 0), (1, 33, 0), (1, 32, 0)] ++ [(1, 23, 0), (1, 30, 0)]) = (St 1 [29, 28, 27, 26, 25, 24, 6, 3, 1, 5, 4, 0, 6, 3, 2] [(1, 31, 0, false), (2, 35, 0, false)] [(2, 35, 0)] [(1, 34, 0), (1, 33, 0), (1, 32, 0), (1, 23, 0), (1, 30, 0)] : sProp 𝕄) from rfl)) $$ HS
  ihave Hc6 := (Entails.of_eq (show chPts 6 1 fullShare B = (bigR 1 fullShare 1536 256 B (by decide) : sProp 𝕄) from chPts_rows 6 1 fullShare B)) $$ Hc6
  unfold bigR rows
  sl_exec
  ihave Hc6 := (Entails.of_eq (show (bigR 1 fullShare 1536 256 B (by decide) : sProp 𝕄) = chPts 6 1 fullShare B from (chPts_rows 6 1 fullShare B).symm)) $$ Hc6
  iapply (step_waitD T B N 1 23 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [29, 28, 27, 26, 25, 24, 6, 3, 1, 5, 4, 0, 6, 3, 2]) (Tk := [(1, 31, 0, false), (2, 35, 0, false)]) (D := [(2, 35, 0)]) [(1, 34, 0), (1, 33, 0), (1, 32, 0)] [(1, 30, 0)] (by decide) (by decide) (by decide) (by decide) ((NB_chM 0).trans (am_big 23 (by decide)).symm) rfl (by decide)) $$ [HS]
  · isplitr; · iexact HR
    iexact HS
  iintro ⟨HS, -, Hp⟩
  ihave Hc0 := (Entails.of_eq (show pay T B 1 ((23 : Fin 43) : ℕ) 0 false = (chPts 0 1 fullShare B : sProp 𝕄) from rfl)) $$ Hp
  ihave HS := (Entails.of_eq (show St 1 [23, 29, 28, 27, 26, 25, 24, 6, 3, 1, 5, 4, 0, 6, 3, 2] [(1, 31, 0, false), (2, 35, 0, false)] [(2, 35, 0)] ([(1, 34, 0), (1, 33, 0), (1, 32, 0)] ++ [(1, 30, 0)]) = (St 1 [23, 29, 28, 27, 26, 25, 24, 6, 3, 1, 5, 4, 0, 6, 3, 2] [(1, 31, 0, false), (2, 35, 0, false)] [(2, 35, 0)] [(1, 34, 0), (1, 33, 0), (1, 32, 0), (1, 30, 0)] : sProp 𝕄) from rfl)) $$ HS
  ihave Hs := (fwd_split B 0 1) $$ Hc0
  icases Hs with ⟨Hs, Hc0⟩
  iapply (send_chunk (T := T) (B := B) N 1 2 0 31 35 fullShare.left (w := [23, 29, 28, 27, 26, 25, 24, 6, 3, 1, 5, 4, 0, 6, 3, 2]) (Tk := []) (D := []) (C := [(1, 34, 0), (1, 33, 0), (1, 32, 0), (1, 30, 0)]) rfl rfl (Fin.ext k0_dev27_eq) rfl rfl (by decide) (by decide) (by decide) (by decide) rfl rfl) $$ [Hs Hd0 HS]
  · isplitr; · iexact HR
    isplitl [Hs]; · iexact Hs
    isplitl [Hd0]; · iexact Hd0
    iexact HS
  iintro HS
  simp -proj only [Prog.bind]
  ihave HS := (Entails.of_eq (show St 1 [23, 29, 28, 27, 26, 25, 24, 6, 3, 1, 5, 4, 0, 6, 3, 2] [] [] ((1, 31, 0) :: [(1, 34, 0), (1, 33, 0), (1, 32, 0), (1, 30, 0)]) = (St 1 [23, 29, 28, 27, 26, 25, 24, 6, 3, 1, 5, 4, 0, 6, 3, 2] [] [] [(1, 31, 0), (1, 34, 0), (1, 33, 0), (1, 32, 0), (1, 30, 0)] : sProp 𝕄) from rfl)) $$ HS
  ihave Hc0 := (Entails.of_eq (show chPts 0 1 fullShare.right B = (bigR 1 fullShare.right 0 256 B (by decide) : sProp 𝕄) from chPts_rows 0 1 fullShare.right B)) $$ Hc0
  unfold bigR rows
  sl_exec
  ihave Hc0 := (Entails.of_eq (show (bigR 1 fullShare.right 0 256 B (by decide) : sProp 𝕄) = chPts 0 1 fullShare.right B from (chPts_rows 0 1 fullShare.right B).symm)) $$ Hc0
  iapply (step_waitD T B N 1 30 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [23, 29, 28, 27, 26, 25, 24, 6, 3, 1, 5, 4, 0, 6, 3, 2]) (Tk := []) (D := []) [(1, 31, 0), (1, 34, 0), (1, 33, 0), (1, 32, 0)] [] (by decide) (by decide) (by decide) (by decide) ((NB_chM 7).trans (am_big 30 (by decide)).symm) rfl (by decide)) $$ [HS]
  · isplitr; · iexact HR
    iexact HS
  iintro ⟨HS, -, Hp⟩
  ihave Hc7 := (Entails.of_eq (show pay T B 1 ((30 : Fin 43) : ℕ) 0 false = (chPts 7 1 fullShare B : sProp 𝕄) from rfl)) $$ Hp
  ihave HS := (Entails.of_eq (show St 1 [30, 23, 29, 28, 27, 26, 25, 24, 6, 3, 1, 5, 4, 0, 6, 3, 2] [] [] ([(1, 31, 0), (1, 34, 0), (1, 33, 0), (1, 32, 0)] ++ []) = (St 1 [30, 23, 29, 28, 27, 26, 25, 24, 6, 3, 1, 5, 4, 0, 6, 3, 2] [] [] [(1, 31, 0), (1, 34, 0), (1, 33, 0), (1, 32, 0)] : sProp 𝕄) from rfl)) $$ HS
  ihave Hc7 := (Entails.of_eq (show chPts 7 1 fullShare B = (bigR 1 fullShare 1792 256 B (by decide) : sProp 𝕄) from chPts_rows 7 1 fullShare B)) $$ Hc7
  unfold bigR rows
  sl_exec
  ihave Hc7 := (Entails.of_eq (show (bigR 1 fullShare 1792 256 B (by decide) : sProp 𝕄) = chPts 7 1 fullShare B from (chPts_rows 7 1 fullShare B).symm)) $$ Hc7
  iapply (step_waitD T B N 1 31 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [30, 23, 29, 28, 27, 26, 25, 24, 6, 3, 1, 5, 4, 0, 6, 3, 2]) (Tk := []) (D := []) [] [(1, 34, 0), (1, 33, 0), (1, 32, 0)] (by decide) (by decide) (by decide) (by decide) ((NB_chM 0).trans (am_big 31 (by decide)).symm) rfl (by decide)) $$ [HS]
  · isplitr; · iexact HR
    iexact HS
  iintro ⟨HS, -, Hp⟩
  ihave Hl0 := (Entails.of_eq (show pay T B 1 ((31 : Fin 43) : ℕ) 0 false = (chPts 0 1 fullShare.left B : sProp 𝕄) from rfl)) $$ Hp
  ihave HS := (Entails.of_eq (show St 1 [31, 30, 23, 29, 28, 27, 26, 25, 24, 6, 3, 1, 5, 4, 0, 6, 3, 2] [] [] ([] ++ [(1, 34, 0), (1, 33, 0), (1, 32, 0)]) = (St 1 [31, 30, 23, 29, 28, 27, 26, 25, 24, 6, 3, 1, 5, 4, 0, 6, 3, 2] [] [] [(1, 34, 0), (1, 33, 0), (1, 32, 0)] : sProp 𝕄) from rfl)) $$ HS
  iapply (step_waitD T B N 1 32 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := [31, 30, 23, 29, 28, 27, 26, 25, 24, 6, 3, 1, 5, 4, 0, 6, 3, 2]) (Tk := []) (D := []) [(1, 34, 0), (1, 33, 0)] [] (by decide) (by decide) (by decide) (by decide) ((NB_chM 1).trans (am_big 32 (by decide)).symm) rfl (by decide)) $$ [HS]
  · isplitr; · iexact HR
    iexact HS
  iintro ⟨HS, -, Hp⟩
  ihave Hl1 := (Entails.of_eq (show pay T B 1 ((32 : Fin 43) : ℕ) 0 false = (chPts 1 1 fullShare.left B : sProp 𝕄) from rfl)) $$ Hp
  ihave HS := (Entails.of_eq (show St 1 [32, 31, 30, 23, 29, 28, 27, 26, 25, 24, 6, 3, 1, 5, 4, 0, 6, 3, 2] [] [] ([(1, 34, 0), (1, 33, 0)] ++ []) = (St 1 [32, 31, 30, 23, 29, 28, 27, 26, 25, 24, 6, 3, 1, 5, 4, 0, 6, 3, 2] [] [] [(1, 34, 0), (1, 33, 0)] : sProp 𝕄) from rfl)) $$ HS
  iapply (step_waitD T B N 1 33 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := [32, 31, 30, 23, 29, 28, 27, 26, 25, 24, 6, 3, 1, 5, 4, 0, 6, 3, 2]) (Tk := []) (D := []) [(1, 34, 0)] [] (by decide) (by decide) (by decide) (by decide) ((NB_chM 2).trans (am_big 33 (by decide)).symm) rfl (by decide)) $$ [HS]
  · isplitr; · iexact HR
    iexact HS
  iintro ⟨HS, -, Hp⟩
  ihave Hl2 := (Entails.of_eq (show pay T B 1 ((33 : Fin 43) : ℕ) 0 false = (chPts 2 1 fullShare.left B : sProp 𝕄) from rfl)) $$ Hp
  ihave HS := (Entails.of_eq (show St 1 [33, 32, 31, 30, 23, 29, 28, 27, 26, 25, 24, 6, 3, 1, 5, 4, 0, 6, 3, 2] [] [] ([(1, 34, 0)] ++ []) = (St 1 [33, 32, 31, 30, 23, 29, 28, 27, 26, 25, 24, 6, 3, 1, 5, 4, 0, 6, 3, 2] [] [] [(1, 34, 0)] : sProp 𝕄) from rfl)) $$ HS
  simp -proj only [Prog.bind, Prog.pure_eq_ret]
  rw [wp_ret]; imodintro
  iapply Hk
  isplitl [HS]; · iexact HS
  isplitl [HW]; · iexact HW
  isplitl [HO]; · iapply (Entails.of_eq (congrArg (fun g => (oM.view.loc ((1 : Dev nD) : Thread nD τ) ↦{fullShare} g : sProp 𝕄)) (outs_eq O B f))); iexact HO
  isplitl [Hl0 Hc0]
  · iapply (fwd_join B 0 1) $$ [Hl0 Hc0]; isplitl [Hl0]; · iexact Hl0
    iexact Hc0
  isplitl [Hl1 Hc1]
  · iapply (fwd_join B 1 1) $$ [Hl1 Hc1]; isplitl [Hl1]; · iexact Hl1
    iexact Hc1
  isplitl [Hl2 Hc2]
  · iapply (fwd_join B 2 1) $$ [Hl2 Hc2]; isplitl [Hl2]; · iexact Hl2
    iexact Hc2
  isplitl [Hc3]
  · iapply (Entails.of_eq (chPts_rows 3 1 fullShare.right B)); iexact Hc3
  isplitl [Hc4]
  · iapply (Entails.of_eq (chPts_rows 4 1 fullShare B)); iexact Hc4
  isplitl [Hc5]
  · iapply (Entails.of_eq (chPts_rows 5 1 fullShare B)); iexact Hc5
  isplitl [Hc6]
  · iapply (Entails.of_eq (chPts_rows 6 1 fullShare B)); iexact Hc6
  iapply (Entails.of_eq (chPts_rows 7 1 fullShare B)); iexact Hc7

end

end Cert.Ring
end
-- ==== Proof.Tail3.lean ====
module

public import proofs.«01_k».proof.Proof.Tail1

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Device 3: every chunk waited for, multiplied and stored, half of them passed on to device 2 -/

section
variable (T : Dev nD → TinyC F) (B : BigC F) (N : Dev nD × Fin 43 → ℕ) (O : OC F)

set_option maxHeartbeats 8000000 in
theorem part42_run (hc : k0_cond6 3 = 1#1) (f : RC F) (Q : PUnit → sProp (MT nD τ sig ℕ (Elt F) ℕ UU ℕ)) :
    iprop(recs T B N ∗ St 3 [6, 3, 1, 5, 4, 0, 6, 3, 2] (TXT 3) (XT 3) (CT 3) ∗ (wM.view.loc ((3 : Dev nD) : Thread nD τ) ↦{fullShare} O) ∗ (oM.view.loc ((3 : Dev nD) : Thread nD τ) ↦{fullShare} f)
        ∗ chAny (F := F) 4 2 ∗ chAny (F := F) 5 2 ∗ chAny (F := F) 6 2 ∗ chAny (F := F) 7 2)
      ⊢ iprop((iprop(St 3 [33, 32, 31, 30, 23, 29, 28, 27, 26, 25, 24, 6, 3, 1, 5, 4, 0, 6, 3, 2] [] [] [(3, 34, 0)] ∗ (wM.view.loc ((3 : Dev nD) : Thread nD τ) ↦{fullShare} O)
          ∗ (oM.view.loc ((3 : Dev nD) : Thread nD τ) ↦{fullShare} outChunks O B)
          ∗ bigR 3 fullShare 0 256 B ∗ bigR 3 fullShare 256 256 B ∗ bigR 3 fullShare 512 256 B ∗ bigR 3 fullShare 768 256 B ∗ bigR 3 fullShare 1024 256 B ∗ bigR 3 fullShare 1280 256 B ∗ bigR 3 fullShare 1536 256 B ∗ bigR 3 fullShare.right 1792 256 B) -∗ Q ⟨⟩)
        -∗ wp frame (wpE (defs₀ (F := F)) 𝒱₀ ((3 : Dev nD) : Thread nD τ) none) Set.univ (k0_part42 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 3 hc) Q) := by
  iintro ⟨#HR, HS, HW, HO, Hd4, Hd5, Hd6, Hd7⟩ Hk
  simp -proj only [k0_part42_eq_skeleton]; unfold k0_part42_skel
  ihave HS := (Entails.of_eq (show St 3 [6, 3, 1, 5, 4, 0, 6, 3, 2] (TXT 3) (XT 3) (CT 3) = (St 3 [6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] [(3, 24, 0), (3, 25, 0), (3, 26, 0), (3, 27, 0), (3, 28, 0), (3, 29, 0), (3, 23, 0), (3, 30, 0)] : sProp 𝕄) from rfl)) $$ HS
  sl_exec
  iapply (step_waitD T B N 3 24 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := [6, 3, 1, 5, 4, 0, 6, 3, 2]) (Tk := [(3, 31, 0, false), (2, 39, 0, false), (3, 32, 0, false), (2, 40, 0, false), (3, 33, 0, false), (2, 41, 0, false), (3, 34, 0, false), (2, 42, 0, false)]) (D := [(2, 39, 0), (2, 40, 0), (2, 41, 0), (2, 42, 0)]) [] [(3, 25, 0), (3, 26, 0), (3, 27, 0), (3, 28, 0), (3, 29, 0), (3, 23, 0), (3, 30, 0)] (by decide) (by decide) (by decide) (by decide) ((NB_chM 1).trans (am_big 24 (by decide)).symm) rfl (by decide)) $$ [HS]
  · isplitr; · iexact HR
    iexact HS
  iintro ⟨HS, -, Hp⟩
  ihave Hc1 := (Entails.of_eq (show pay T B 3 ((24 : Fin 43) : ℕ) 0 false = (chPts 1 3 fullShare B : sProp 𝕄) from rfl)) $$ Hp
  ihave HS := (Entails.of_eq (show St 3 [24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] ([] ++ [(3, 25, 0), (3, 26, 0), (3, 27, 0), (3, 28, 0), (3, 29, 0), (3, 23, 0), (3, 30, 0)]) = (St 3 [24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] [(3, 25, 0), (3, 26, 0), (3, 27, 0), (3, 28, 0), (3, 29, 0), (3, 23, 0), (3, 30, 0)] : sProp 𝕄) from rfl)) $$ HS
  ihave Hc1 := (Entails.of_eq (show chPts 1 3 fullShare B = (bigR 3 fullShare 256 256 B (by decide) : sProp 𝕄) from chPts_rows 1 3 fullShare B)) $$ Hc1
  unfold bigR rows
  sl_exec
  ihave Hc1 := (Entails.of_eq (show (bigR 3 fullShare 256 256 B (by decide) : sProp 𝕄) = chPts 1 3 fullShare B from (chPts_rows 1 3 fullShare B).symm)) $$ Hc1
  iapply (step_waitD T B N 3 25 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := [24, 6, 3, 1, 5, 4, 0, 6, 3, 2]) (Tk := [(3, 31, 0, false), (2, 39, 0, false), (3, 32, 0, false), (2, 40, 0, false), (3, 33, 0, false), (2, 41, 0, false), (3, 34, 0, false), (2, 42, 0, false)]) (D := [(2, 39, 0), (2, 40, 0), (2, 41, 0), (2, 42, 0)]) [] [(3, 26, 0), (3, 27, 0), (3, 28, 0), (3, 29, 0), (3, 23, 0), (3, 30, 0)] (by decide) (by decide) (by decide) (by decide) ((NB_chM 2).trans (am_big 25 (by decide)).symm) rfl (by decide)) $$ [HS]
  · isplitr; · iexact HR
    iexact HS
  iintro ⟨HS, -, Hp⟩
  ihave Hc2 := (Entails.of_eq (show pay T B 3 ((25 : Fin 43) : ℕ) 0 false = (chPts 2 3 fullShare B : sProp 𝕄) from rfl)) $$ Hp
  ihave HS := (Entails.of_eq (show St 3 [25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] ([] ++ [(3, 26, 0), (3, 27, 0), (3, 28, 0), (3, 29, 0), (3, 23, 0), (3, 30, 0)]) = (St 3 [25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] [(3, 26, 0), (3, 27, 0), (3, 28, 0), (3, 29, 0), (3, 23, 0), (3, 30, 0)] : sProp 𝕄) from rfl)) $$ HS
  ihave Hc2 := (Entails.of_eq (show chPts 2 3 fullShare B = (bigR 3 fullShare 512 256 B (by decide) : sProp 𝕄) from chPts_rows 2 3 fullShare B)) $$ Hc2
  unfold bigR rows
  sl_exec
  ihave Hc2 := (Entails.of_eq (show (bigR 3 fullShare 512 256 B (by decide) : sProp 𝕄) = chPts 2 3 fullShare B from (chPts_rows 2 3 fullShare B).symm)) $$ Hc2
  iapply (step_waitD T B N 3 26 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := [25, 24, 6, 3, 1, 5, 4, 0, 6, 3, 2]) (Tk := [(3, 31, 0, false), (2, 39, 0, false), (3, 32, 0, false), (2, 40, 0, false), (3, 33, 0, false), (2, 41, 0, false), (3, 34, 0, false), (2, 42, 0, false)]) (D := [(2, 39, 0), (2, 40, 0), (2, 41, 0), (2, 42, 0)]) [] [(3, 27, 0), (3, 28, 0), (3, 29, 0), (3, 23, 0), (3, 30, 0)] (by decide) (by decide) (by decide) (by decide) ((NB_chM 3).trans (am_big 26 (by decide)).symm) rfl (by decide)) $$ [HS]
  · isplitr; · iexact HR
    iexact HS
  iintro ⟨HS, -, Hp⟩
  ihave Hc3 := (Entails.of_eq (show pay T B 3 ((26 : Fin 43) : ℕ) 0 false = (chPts 3 3 fullShare B : sProp 𝕄) from rfl)) $$ Hp
  ihave HS := (Entails.of_eq (show St 3 [26, 25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] ([] ++ [(3, 27, 0), (3, 28, 0), (3, 29, 0), (3, 23, 0), (3, 30, 0)]) = (St 3 [26, 25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] [(3, 27, 0), (3, 28, 0), (3, 29, 0), (3, 23, 0), (3, 30, 0)] : sProp 𝕄) from rfl)) $$ HS
  ihave Hc3 := (Entails.of_eq (show chPts 3 3 fullShare B = (bigR 3 fullShare 768 256 B (by decide) : sProp 𝕄) from chPts_rows 3 3 fullShare B)) $$ Hc3
  unfold bigR rows
  sl_exec
  ihave Hc3 := (Entails.of_eq (show (bigR 3 fullShare 768 256 B (by decide) : sProp 𝕄) = chPts 3 3 fullShare B from (chPts_rows 3 3 fullShare B).symm)) $$ Hc3
  iapply (step_waitD T B N 3 27 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := [26, 25, 24, 6, 3, 1, 5, 4, 0, 6, 3, 2]) (Tk := [(3, 31, 0, false), (2, 39, 0, false), (3, 32, 0, false), (2, 40, 0, false), (3, 33, 0, false), (2, 41, 0, false), (3, 34, 0, false), (2, 42, 0, false)]) (D := [(2, 39, 0), (2, 40, 0), (2, 41, 0), (2, 42, 0)]) [] [(3, 28, 0), (3, 29, 0), (3, 23, 0), (3, 30, 0)] (by decide) (by decide) (by decide) (by decide) ((NB_chM 4).trans (am_big 27 (by decide)).symm) rfl (by decide)) $$ [HS]
  · isplitr; · iexact HR
    iexact HS
  iintro ⟨HS, -, Hp⟩
  ihave Hc4 := (Entails.of_eq (show pay T B 3 ((27 : Fin 43) : ℕ) 0 false = (chPts 4 3 fullShare B : sProp 𝕄) from rfl)) $$ Hp
  ihave HS := (Entails.of_eq (show St 3 [27, 26, 25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] ([] ++ [(3, 28, 0), (3, 29, 0), (3, 23, 0), (3, 30, 0)]) = (St 3 [27, 26, 25, 24, 6, 3, 1, 5, 4, 0, 6, 3, 2] [(3, 31, 0, false), (2, 39, 0, false), (3, 32, 0, false), (2, 40, 0, false), (3, 33, 0, false), (2, 41, 0, false), (3, 34, 0, false), (2, 42, 0, false)] [(2, 39, 0), (2, 40, 0), (2, 41, 0), (2, 42, 0)] [(3, 28, 0), (3, 29, 0), (3, 23, 0), (3, 30, 0)] : sProp 𝕄) from rfl)) $$ HS
  sl_exec
  ihave Hs := (fwd_split B 4 3) $$ Hc4
  icases Hs with ⟨Hs, Hc4⟩
  iapply (send_chunk (T := T) (B := B) N 3 2 4 31 39 fullShare.left (w := [27, 26, 25, 24, 6, 3, 1, 5, 4, 0, 6, 3, 2]) (Tk := [(3, 32, 0, false), (2, 40, 0, false), (3, 33, 0, false), (2, 41, 0, false), (3, 34, 0, false), (2, 42, 0, false)]) (D := [(2, 40, 0), (2, 41, 0), (2, 42, 0)]) (C := [(3, 28, 0), (3, 29, 0), (3, 23, 0), (3, 30, 0)]) rfl rfl (Fin.ext k0_dev28_eq) rfl rfl (by decide) (by decide) (by decide) (by decide) rfl rfl) $$ [Hs Hd4 HS]
  · isplitr; · iexact HR
    isplitl [Hs]; · iexact Hs
    isplitl [Hd4]; · iexact Hd4
    iexact HS
  iintro HS
  simp -proj only [Prog.bind]
  ihave HS := (Entails.of_eq (show St 3 [27, 26, 25, 24, 6, 3, 1, 5, 4, 0, 6, 3, 2] [(3, 32, 0, false), (2, 40, 0, false), (3, 33, 0, false), (2, 41, 0, false), (3, 34, 0, false), (2, 42, 0, false)] [(2, 40, 0), (2, 41, 0), (2, 42, 0)] ((3, 31, 0) :: [(3, 28, 0), (3, 29, 0), (3, 23, 0), (3, 30, 0)]) = (St 3 [27, 26, 25, 24, 6, 3, 1, 5, 4, 0, 6, 3, 2] [(3, 32, 0, false), (2, 40, 0, false), (3, 33, 0, false), (2, 41, 0, false), (3, 34, 0, false), (2, 42, 0, false)] [(2, 40, 0), (2, 41, 0), (2, 42, 0)] [(3, 31, 0), (3, 28, 0), (3, 29, 0), (3, 23, 0), (3, 30, 0)] : sProp 𝕄) from rfl)) $$ HS
  ihave Hc4 := (Entails.of_eq (show chPts 4 3 fullShare.right B = (bigR 3 fullShare.right 1024 256 B (by decide) : sProp 𝕄) from chPts_rows 4 3 fullShare.right B)) $$ Hc4
  unfold bigR rows
  sl_exec
  ihave Hc4 := (Entails.of_eq (show (bigR 3 fullShare.right 1024 256 B (by decide) : sProp 𝕄) = chPts 4 3 fullShare.right B from (chPts_rows 4 3 fullShare.right B).symm)) $$ Hc4
  iapply (step_waitD T B N 3 28 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := [27, 26, 25, 24, 6, 3, 1, 5, 4, 0, 6, 3, 2]) (Tk := [(3, 32, 0, false), (2, 40, 0, false), (3, 33, 0, false), (2, 41, 0, false), (3, 34, 0, false), (2, 42, 0, false)]) (D := [(2, 40, 0), (2, 41, 0), (2, 42, 0)]) [(3, 31, 0)] [(3, 29, 0), (3, 23, 0), (3, 30, 0)] (by decide) (by decide) (by decide) (by decide) ((NB_chM 5).trans (am_big 28 (by decide)).symm) rfl (by decide)) $$ [HS]
  · isplitr; · iexact HR
    iexact HS
  iintro ⟨HS, -, Hp⟩
  ihave Hc5 := (Entails.of_eq (show pay T B 3 ((28 : Fin 43) : ℕ) 0 false = (chPts 5 3 fullShare B : sProp 𝕄) from rfl)) $$ Hp
  ihave HS := (Entails.of_eq (show St 3 [28, 27, 26, 25, 24, 6, 3, 1, 5, 4, 0, 6, 3, 2] [(3, 32, 0, false), (2, 40, 0, false), (3, 33, 0, false), (2, 41, 0, false), (3, 34, 0, false), (2, 42, 0, false)] [(2, 40, 0), (2, 41, 0), (2, 42, 0)] ([(3, 31, 0)] ++ [(3, 29, 0), (3, 23, 0), (3, 30, 0)]) = (St 3 [28, 27, 26, 25, 24, 6, 3, 1, 5, 4, 0, 6, 3, 2] [(3, 32, 0, false), (2, 40, 0, false), (3, 33, 0, false), (2, 41, 0, false), (3, 34, 0, false), (2, 42, 0, false)] [(2, 40, 0), (2, 41, 0), (2, 42, 0)] [(3, 31, 0), (3, 29, 0), (3, 23, 0), (3, 30, 0)] : sProp 𝕄) from rfl)) $$ HS
  ihave Hs := (fwd_split B 5 3) $$ Hc5
  icases Hs with ⟨Hs, Hc5⟩
  iapply (send_chunk (T := T) (B := B) N 3 2 5 32 40 fullShare.left (w := [28, 27, 26, 25, 24, 6, 3, 1, 5, 4, 0, 6, 3, 2]) (Tk := [(3, 33, 0, false), (2, 41, 0, false), (3, 34, 0, false), (2, 42, 0, false)]) (D := [(2, 41, 0), (2, 42, 0)]) (C := [(3, 31, 0), (3, 29, 0), (3, 23, 0), (3, 30, 0)]) rfl rfl (Fin.ext k0_dev29_eq) rfl rfl (by decide) (by decide) (by decide) (by decide) rfl rfl) $$ [Hs Hd5 HS]
  · isplitr; · iexact HR
    isplitl [Hs]; · iexact Hs
    isplitl [Hd5]; · iexact Hd5
    iexact HS
  iintro HS
  simp -proj only [Prog.bind]
  ihave HS := (Entails.of_eq (show St 3 [28, 27, 26, 25, 24, 6, 3, 1, 5, 4, 0, 6, 3, 2] [(3, 33, 0, false), (2, 41, 0, false), (3, 34, 0, false), (2, 42, 0, false)] [(2, 41, 0), (2, 42, 0)] ((3, 32, 0) :: [(3, 31, 0), (3, 29, 0), (3, 23, 0), (3, 30, 0)]) = (St 3 [28, 27, 26, 25, 24, 6, 3, 1, 5, 4, 0, 6, 3, 2] [(3, 33, 0, false), (2, 41, 0, false), (3, 34, 0, false), (2, 42, 0, false)] [(2, 41, 0), (2, 42, 0)] [(3, 32, 0), (3, 31, 0), (3, 29, 0), (3, 23, 0), (3, 30, 0)] : sProp 𝕄) from rfl)) $$ HS
  ihave Hc5 := (Entails.of_eq (show chPts 5 3 fullShare.right B = (bigR 3 fullShare.right 1280 256 B (by decide) : sProp 𝕄) from chPts_rows 5 3 fullShare.right B)) $$ Hc5
  unfold bigR rows
  sl_exec
  ihave Hc5 := (Entails.of_eq (show (bigR 3 fullShare.right 1280 256 B (by decide) : sProp 𝕄) = chPts 5 3 fullShare.right B from (chPts_rows 5 3 fullShare.right B).symm)) $$ Hc5
  iapply (step_waitD T B N 3 29 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := [28, 27, 26, 25, 24, 6, 3, 1, 5, 4, 0, 6, 3, 2]) (Tk := [(3, 33, 0, false), (2, 41, 0, false), (3, 34, 0, false), (2, 42, 0, false)]) (D := [(2, 41, 0), (2, 42, 0)]) [(3, 32, 0), (3, 31, 0)] [(3, 23, 0), (3, 30, 0)] (by decide) (by decide) (by decide) (by decide) ((NB_chM 6).trans (am_big 29 (by decide)).symm) rfl (by decide)) $$ [HS]
  · isplitr; · iexact HR
    iexact HS
  iintro ⟨HS, -, Hp⟩
  ihave Hc6 := (Entails.of_eq (show pay T B 3 ((29 : Fin 43) : ℕ) 0 false = (chPts 6 3 fullShare B : sProp 𝕄) from rfl)) $$ Hp
  ihave HS := (Entails.of_eq (show St 3 [29, 28, 27, 26, 25, 24, 6, 3, 1, 5, 4, 0, 6, 3, 2] [(3, 33, 0, false), (2, 41, 0, false), (3, 34, 0, false), (2, 42, 0, false)] [(2, 41, 0), (2, 42, 0)] ([(3, 32, 0), (3, 31, 0)] ++ [(3, 23, 0), (3, 30, 0)]) = (St 3 [29, 28, 27, 26, 25, 24, 6, 3, 1, 5, 4, 0, 6, 3, 2] [(3, 33, 0, false), (2, 41, 0, false), (3, 34, 0, false), (2, 42, 0, false)] [(2, 41, 0), (2, 42, 0)] [(3, 32, 0), (3, 31, 0), (3, 23, 0), (3, 30, 0)] : sProp 𝕄) from rfl)) $$ HS
  ihave Hs := (fwd_split B 6 3) $$ Hc6
  icases Hs with ⟨Hs, Hc6⟩
  iapply (send_chunk (T := T) (B := B) N 3 2 6 33 41 fullShare.left (w := [29, 28, 27, 26, 25, 24, 6, 3, 1, 5, 4, 0, 6, 3, 2]) (Tk := [(3, 34, 0, false), (2, 42, 0, false)]) (D := [(2, 42, 0)]) (C := [(3, 32, 0), (3, 31, 0), (3, 23, 0), (3, 30, 0)]) rfl rfl (Fin.ext k0_dev30_eq) rfl rfl (by decide) (by decide) (by decide) (by decide) rfl rfl) $$ [Hs Hd6 HS]
  · isplitr; · iexact HR
    isplitl [Hs]; · iexact Hs
    isplitl [Hd6]; · iexact Hd6
    iexact HS
  iintro HS
  simp -proj only [Prog.bind]
  ihave HS := (Entails.of_eq (show St 3 [29, 28, 27, 26, 25, 24, 6, 3, 1, 5, 4, 0, 6, 3, 2] [(3, 34, 0, false), (2, 42, 0, false)] [(2, 42, 0)] ((3, 33, 0) :: [(3, 32, 0), (3, 31, 0), (3, 23, 0), (3, 30, 0)]) = (St 3 [29, 28, 27, 26, 25, 24, 6, 3, 1, 5, 4, 0, 6, 3, 2] [(3, 34, 0, false), (2, 42, 0, false)] [(2, 42, 0)] [(3, 33, 0), (3, 32, 0), (3, 31, 0), (3, 23, 0), (3, 30, 0)] : sProp 𝕄) from rfl)) $$ HS
  ihave Hc6 := (Entails.of_eq (show chPts 6 3 fullShare.right B = (bigR 3 fullShare.right 1536 256 B (by decide) : sProp 𝕄) from chPts_rows 6 3 fullShare.right B)) $$ Hc6
  unfold bigR rows
  sl_exec
  ihave Hc6 := (Entails.of_eq (show (bigR 3 fullShare.right 1536 256 B (by decide) : sProp 𝕄) = chPts 6 3 fullShare.right B from (chPts_rows 6 3 fullShare.right B).symm)) $$ Hc6
  iapply (step_waitD T B N 3 23 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [29, 28, 27, 26, 25, 24, 6, 3, 1, 5, 4, 0, 6, 3, 2]) (Tk := [(3, 34, 0, false), (2, 42, 0, false)]) (D := [(2, 42, 0)]) [(3, 33, 0), (3, 32, 0), (3, 31, 0)] [(3, 30, 0)] (by decide) (by decide) (by decide) (by decide) ((NB_chM 0).trans (am_big 23 (by decide)).symm) rfl (by decide)) $$ [HS]
  · isplitr; · iexact HR
    iexact HS
  iintro ⟨HS, -, Hp⟩
  ihave Hc0 := (Entails.of_eq (show pay T B 3 ((23 : Fin 43) : ℕ) 0 false = (chPts 0 3 fullShare B : sProp 𝕄) from rfl)) $$ Hp
  ihave HS := (Entails.of_eq (show St 3 [23, 29, 28, 27, 26, 25, 24, 6, 3, 1, 5, 4, 0, 6, 3, 2] [(3, 34, 0, false), (2, 42, 0, false)] [(2, 42, 0)] ([(3, 33, 0), (3, 32, 0), (3, 31, 0)] ++ [(3, 30, 0)]) = (St 3 [23, 29, 28, 27, 26, 25, 24, 6, 3, 1, 5, 4, 0, 6, 3, 2] [(3, 34, 0, false), (2, 42, 0, false)] [(2, 42, 0)] [(3, 33, 0), (3, 32, 0), (3, 31, 0), (3, 30, 0)] : sProp 𝕄) from rfl)) $$ HS
  ihave Hc0 := (Entails.of_eq (show chPts 0 3 fullShare B = (bigR 3 fullShare 0 256 B (by decide) : sProp 𝕄) from chPts_rows 0 3 fullShare B)) $$ Hc0
  unfold bigR rows
  sl_exec
  ihave Hc0 := (Entails.of_eq (show (bigR 3 fullShare 0 256 B (by decide) : sProp 𝕄) = chPts 0 3 fullShare B from (chPts_rows 0 3 fullShare B).symm)) $$ Hc0
  iapply (step_waitD T B N 3 30 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [23, 29, 28, 27, 26, 25, 24, 6, 3, 1, 5, 4, 0, 6, 3, 2]) (Tk := [(3, 34, 0, false), (2, 42, 0, false)]) (D := [(2, 42, 0)]) [(3, 33, 0), (3, 32, 0), (3, 31, 0)] [] (by decide) (by decide) (by decide) (by decide) ((NB_chM 7).trans (am_big 30 (by decide)).symm) rfl (by decide)) $$ [HS]
  · isplitr; · iexact HR
    iexact HS
  iintro ⟨HS, -, Hp⟩
  ihave Hc7 := (Entails.of_eq (show pay T B 3 ((30 : Fin 43) : ℕ) 0 false = (chPts 7 3 fullShare B : sProp 𝕄) from rfl)) $$ Hp
  ihave HS := (Entails.of_eq (show St 3 [30, 23, 29, 28, 27, 26, 25, 24, 6, 3, 1, 5, 4, 0, 6, 3, 2] [(3, 34, 0, false), (2, 42, 0, false)] [(2, 42, 0)] ([(3, 33, 0), (3, 32, 0), (3, 31, 0)] ++ []) = (St 3 [30, 23, 29, 28, 27, 26, 25, 24, 6, 3, 1, 5, 4, 0, 6, 3, 2] [(3, 34, 0, false), (2, 42, 0, false)] [(2, 42, 0)] [(3, 33, 0), (3, 32, 0), (3, 31, 0)] : sProp 𝕄) from rfl)) $$ HS
  ihave Hs := (fwd_split B 7 3) $$ Hc7
  icases Hs with ⟨Hs, Hc7⟩
  iapply (send_chunk (T := T) (B := B) N 3 2 7 34 42 fullShare.left (w := [30, 23, 29, 28, 27, 26, 25, 24, 6, 3, 1, 5, 4, 0, 6, 3, 2]) (Tk := []) (D := []) (C := [(3, 33, 0), (3, 32, 0), (3, 31, 0)]) rfl rfl (Fin.ext k0_dev31_eq) rfl rfl (by decide) (by decide) (by decide) (by decide) rfl rfl) $$ [Hs Hd7 HS]
  · isplitr; · iexact HR
    isplitl [Hs]; · iexact Hs
    isplitl [Hd7]; · iexact Hd7
    iexact HS
  iintro HS
  simp -proj only [Prog.bind]
  ihave HS := (Entails.of_eq (show St 3 [30, 23, 29, 28, 27, 26, 25, 24, 6, 3, 1, 5, 4, 0, 6, 3, 2] [] [] ((3, 34, 0) :: [(3, 33, 0), (3, 32, 0), (3, 31, 0)]) = (St 3 [30, 23, 29, 28, 27, 26, 25, 24, 6, 3, 1, 5, 4, 0, 6, 3, 2] [] [] [(3, 34, 0), (3, 33, 0), (3, 32, 0), (3, 31, 0)] : sProp 𝕄) from rfl)) $$ HS
  ihave Hc7 := (Entails.of_eq (show chPts 7 3 fullShare.right B = (bigR 3 fullShare.right 1792 256 B (by decide) : sProp 𝕄) from chPts_rows 7 3 fullShare.right B)) $$ Hc7
  unfold bigR rows
  sl_exec
  ihave Hc7 := (Entails.of_eq (show (bigR 3 fullShare.right 1792 256 B (by decide) : sProp 𝕄) = chPts 7 3 fullShare.right B from (chPts_rows 7 3 fullShare.right B).symm)) $$ Hc7
  iapply (step_waitD T B N 3 31 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := [30, 23, 29, 28, 27, 26, 25, 24, 6, 3, 1, 5, 4, 0, 6, 3, 2]) (Tk := []) (D := []) [(3, 34, 0), (3, 33, 0), (3, 32, 0)] [] (by decide) (by decide) (by decide) (by decide) ((NB_chM 4).trans (am_big 31 (by decide)).symm) rfl (by decide)) $$ [HS]
  · isplitr; · iexact HR
    iexact HS
  iintro ⟨HS, -, Hp⟩
  ihave Hl4 := (Entails.of_eq (show pay T B 3 ((31 : Fin 43) : ℕ) 0 false = (chPts 4 3 fullShare.left B : sProp 𝕄) from rfl)) $$ Hp
  ihave HS := (Entails.of_eq (show St 3 [31, 30, 23, 29, 28, 27, 26, 25, 24, 6, 3, 1, 5, 4, 0, 6, 3, 2] [] [] ([(3, 34, 0), (3, 33, 0), (3, 32, 0)] ++ []) = (St 3 [31, 30, 23, 29, 28, 27, 26, 25, 24, 6, 3, 1, 5, 4, 0, 6, 3, 2] [] [] [(3, 34, 0), (3, 33, 0), (3, 32, 0)] : sProp 𝕄) from rfl)) $$ HS
  iapply (step_waitD T B N 3 32 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := [31, 30, 23, 29, 28, 27, 26, 25, 24, 6, 3, 1, 5, 4, 0, 6, 3, 2]) (Tk := []) (D := []) [(3, 34, 0), (3, 33, 0)] [] (by decide) (by decide) (by decide) (by decide) ((NB_chM 5).trans (am_big 32 (by decide)).symm) rfl (by decide)) $$ [HS]
  · isplitr; · iexact HR
    iexact HS
  iintro ⟨HS, -, Hp⟩
  ihave Hl5 := (Entails.of_eq (show pay T B 3 ((32 : Fin 43) : ℕ) 0 false = (chPts 5 3 fullShare.left B : sProp 𝕄) from rfl)) $$ Hp
  ihave HS := (Entails.of_eq (show St 3 [32, 31, 30, 23, 29, 28, 27, 26, 25, 24, 6, 3, 1, 5, 4, 0, 6, 3, 2] [] [] ([(3, 34, 0), (3, 33, 0)] ++ []) = (St 3 [32, 31, 30, 23, 29, 28, 27, 26, 25, 24, 6, 3, 1, 5, 4, 0, 6, 3, 2] [] [] [(3, 34, 0), (3, 33, 0)] : sProp 𝕄) from rfl)) $$ HS
  iapply (step_waitD T B N 3 33 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := [32, 31, 30, 23, 29, 28, 27, 26, 25, 24, 6, 3, 1, 5, 4, 0, 6, 3, 2]) (Tk := []) (D := []) [(3, 34, 0)] [] (by decide) (by decide) (by decide) (by decide) ((NB_chM 6).trans (am_big 33 (by decide)).symm) rfl (by decide)) $$ [HS]
  · isplitr; · iexact HR
    iexact HS
  iintro ⟨HS, -, Hp⟩
  ihave Hl6 := (Entails.of_eq (show pay T B 3 ((33 : Fin 43) : ℕ) 0 false = (chPts 6 3 fullShare.left B : sProp 𝕄) from rfl)) $$ Hp
  ihave HS := (Entails.of_eq (show St 3 [33, 32, 31, 30, 23, 29, 28, 27, 26, 25, 24, 6, 3, 1, 5, 4, 0, 6, 3, 2] [] [] ([(3, 34, 0)] ++ []) = (St 3 [33, 32, 31, 30, 23, 29, 28, 27, 26, 25, 24, 6, 3, 1, 5, 4, 0, 6, 3, 2] [] [] [(3, 34, 0)] : sProp 𝕄) from rfl)) $$ HS
  simp -proj only [Prog.bind, Prog.pure_eq_ret]
  rw [wp_ret]; imodintro
  iapply Hk
  isplitl [HS]; · iexact HS
  isplitl [HW]; · iexact HW
  isplitl [HO]; · iapply (Entails.of_eq (congrArg (fun g => (oM.view.loc ((3 : Dev nD) : Thread nD τ) ↦{fullShare} g : sProp 𝕄)) (outs_eq O B f))); iexact HO
  isplitl [Hc0]
  · iapply (Entails.of_eq (chPts_rows 0 3 fullShare B)); iexact Hc0
  isplitl [Hc1]
  · iapply (Entails.of_eq (chPts_rows 1 3 fullShare B)); iexact Hc1
  isplitl [Hc2]
  · iapply (Entails.of_eq (chPts_rows 2 3 fullShare B)); iexact Hc2
  isplitl [Hc3]
  · iapply (Entails.of_eq (chPts_rows 3 3 fullShare B)); iexact Hc3
  isplitl [Hl4 Hc4]
  · iapply (fwd_join B 4 3) $$ [Hl4 Hc4]; isplitl [Hl4]; · iexact Hl4
    iexact Hc4
  isplitl [Hl5 Hc5]
  · iapply (fwd_join B 5 3) $$ [Hl5 Hc5]; isplitl [Hl5]; · iexact Hl5
    iexact Hc5
  isplitl [Hl6 Hc6]
  · iapply (fwd_join B 6 3) $$ [Hl6 Hc6]; isplitl [Hl6]; · iexact Hl6
    iexact Hc6
  iapply (Entails.of_eq (chPts_rows 7 3 fullShare.right B)); iexact Hc7

end

end Cert.Ring
end
-- ==== Proof.Tail0.lean ====
module

public import proofs.«01_k».proof.Proof.Tail3

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Device 0: the last rows divided, the last two chunks sent, all sends waited for -/

section
variable (A : AC F)

abbrev accN (h : Fin 8) : Vec F S160x128 .f32 := aM.view.readAt (Elt F) (Rect.unit (s := S160x1152) ![0, 128 * h.val] S160x128.size (inb_accN h)).toLoadRect A
abbrev accL (h : Fin 8) : Vec F S160x1 .f32 := aM.view.readAt (Elt F) (Rect.unit (s := S160x1152) ![0, 1024 + h.val] S160x1.size (inb_accL h)).toLoadRect A

theorem inb_low (h : Fin 8) : ∀ a, ![0, 128 * h.val] a + S32x128.size a ≤ S2048x1024.size a := by revert h; decide
theorem inb_high (h : Fin 8) : ∀ a, ![1920, 128 * h.val] a + S128x128.size a ≤ S2048x1024.size a := by revert h; decide

/-- Head `h` of the first 32 rows, and of the last 128, stored. -/
def lowP (h : Fin 8) : View.Piece (Elt F) S2048x1024 .bf16 :=
  ⟨Rect.unit (s := S2048x1024) ![0, 128 * h.val] S32x128.size (inb_low h), k0_pay70 (accN A h) (accL A h)⟩
def highP (h : Fin 8) : View.Piece (Elt F) S2048x1024 .bf16 :=
  ⟨Rect.unit (s := S2048x1024) ![1920, 128 * h.val] S128x128.size (inb_high h), k0_pay71 (accN A h) (accL A h)⟩

theorem pay70_at (h : Fin 8) (x : S32x128.Idx) : k0_pay70 (accN A h) (accL A h) x = tail A h (ixT (x 0).val (x 1).val) := by
  have h0 : (x 0).val < 32 := (x 0).isLt
  have h1 : (x 1).val < 128 := (x 1).isLt
  show shapeCast S32x128 (extractStridedSlice S32x128 ![0, 0] (tail A h) slices_S160x128_o0_0_S32x128) shapeCasts_S32x128_S32x128 x = _
  rw [shapeCast_self]
  unfold extractStridedSlice
  congr 1
  funext a
  apply Fin.ext
  match a with
  | 0 => show 0 + (x 0).val = (x 0).val % 160; omega
  | 1 => show 0 + (x 1).val = (x 1).val % 128; omega

theorem pay71_at (h : Fin 8) (x : S128x128.Idx) : k0_pay71 (accN A h) (accL A h) x = tail A h (ixT ((x 0).val + 32) (x 1).val) := by
  have h0 : (x 0).val < 128 := (x 0).isLt
  have h1 : (x 1).val < 128 := (x 1).isLt
  show shapeCast S128x128 (extractStridedSlice S128x128 ![32, 0] (tail A h) slices_S160x128_o32_0_S128x128) shapeCasts_S128x128_S128x128 x = _
  rw [shapeCast_self]
  unfold extractStridedSlice
  congr 1
  funext a
  apply Fin.ext
  match a with
  | 0 => show 32 + (x 0).val = ((x 0).val + 32) % 160; omega
  | 1 => show 0 + (x 1).val = (x 1).val % 128; omega

abbrev lows : List (View.Piece (Elt F) S2048x1024 .bf16) := [lowP A 7, lowP A 6, lowP A 5, lowP A 4, lowP A 3, lowP A 2, lowP A 1, lowP A 0]
abbrev highs : List (View.Piece (Elt F) S2048x1024 .bf16) := [highP A 7, highP A 6, highP A 5, highP A 4, highP A 3, highP A 2, highP A 1, highP A 0]
theorem lows_eq : lows A = ([7, 6, 5, 4, 3, 2, 1, 0] : List (Fin 8)).map (lowP A) := rfl
theorem highs_eq : highs A = ([7, 6, 5, 4, 3, 2, 1, 0] : List (Fin 8)).map (highP A) := rfl

theorem lows_in (f : BigC F) (y : S2048x1024.Idx) (hy : (y 0).val < 32) : bM.view.writes (Elt F) f (lows A) y = tail A (hd (y 1).val) (ixT (y 0).val (y 1).val) := by
  have h0 : (y 0).val < 2048 := (y 0).isLt
  have h1 : (y 1).val < 1024 := (y 1).isLt
  have hall : ∀ j : Fin 8, j ∈ ([7, 6, 5, 4, 3, 2, 1, 0] : List (Fin 8)) := by decide
  have h := View.read_writes_apply_of_pieces (Val := Elt F) bM.view f
    (fun y => (tail A (hd (y 1).val) (ixT (y 0).val (y 1).val) : F .bf16)) (lows A) ?_ y ?_
  · exact (read_bM _ y).symm.trans h
  · intro p hp x
    rw [lows_eq, List.mem_map] at hp
    obtain ⟨j, -, rfl⟩ := hp
    have h0 : (x 0).val < 32 := (x 0).isLt
    have h2 : (x 1).val < 128 := (x 1).isLt
    have e0 : ((lowP A j).1.emb x 0).val = 0 + (x 0).val := by
      show 0 + 1 * (x 0).val = _; omega
    have e1 : ((lowP A j).1.emb x 1).val = 128 * j.val + (x 1).val := by
      show 128 * j.val + 1 * (x 1).val = _; omega
    refine (pay70_at A j x).trans ?_
    show _ = tail A (hd ((lowP A j).1.emb x 1).val) (ixT ((lowP A j).1.emb x 0).val ((lowP A j).1.emb x 1).val)
    rw [e0, e1]
    have ej : hd (128 * j.val + (x 1).val) = j := Fin.ext (by show (128 * j.val + (x 1).val) / 128 % 8 = j.val; omega)
    rw [ej, Nat.zero_add]
    refine congrArg (tail A j) (funext fun a => Fin.ext ?_)
    match a with
    | 0 => rfl
    | 1 => show (x 1).val % 128 = (128 * j.val + (x 1).val) % 128; omega
  · rw [lows_eq]
    refine ⟨_, List.mem_map_of_mem (hall (hd (y 1).val)), ?_⟩
    rw [lowP, Rect.mem_set_unit]
    intro a
    match a with
    | 0 => show 0 ≤ (y 0).val ∧ (y 0).val < 0 + 32; omega
    | 1 => show 128 * ((y 1).val / 128 % 8) ≤ (y 1).val ∧ (y 1).val < 128 * ((y 1).val / 128 % 8) + 128; omega

theorem highs_in (f : BigC F) (y : S2048x1024.Idx) (hy : 1920 ≤ (y 0).val) : bM.view.writes (Elt F) f (highs A) y = tail A (hd (y 1).val) (ixT ((y 0).val - 1888) (y 1).val) := by
  have h0 : (y 0).val < 2048 := (y 0).isLt
  have h1 : (y 1).val < 1024 := (y 1).isLt
  have hall : ∀ j : Fin 8, j ∈ ([7, 6, 5, 4, 3, 2, 1, 0] : List (Fin 8)) := by decide
  have h := View.read_writes_apply_of_pieces (Val := Elt F) bM.view f
    (fun y => (tail A (hd (y 1).val) (ixT ((y 0).val - 1888) (y 1).val) : F .bf16)) (highs A) ?_ y ?_
  · exact (read_bM _ y).symm.trans h
  · intro p hp x
    rw [highs_eq, List.mem_map] at hp
    obtain ⟨j, -, rfl⟩ := hp
    have h0 : (x 0).val < 128 := (x 0).isLt
    have h2 : (x 1).val < 128 := (x 1).isLt
    have e0 : ((highP A j).1.emb x 0).val = 1920 + (x 0).val := by
      show 1920 + 1 * (x 0).val = _; omega
    have e1 : ((highP A j).1.emb x 1).val = 128 * j.val + (x 1).val := by
      show 128 * j.val + 1 * (x 1).val = _; omega
    refine (pay71_at A j x).trans ?_
    show _ = tail A (hd ((highP A j).1.emb x 1).val) (ixT (((highP A j).1.emb x 0).val - 1888) ((highP A j).1.emb x 1).val)
    rw [e0, e1]
    have ej : hd (128 * j.val + (x 1).val) = j := Fin.ext (by show (128 * j.val + (x 1).val) / 128 % 8 = j.val; omega)
    rw [ej, show 1920 + (x 0).val - 1888 = (x 0).val + 32 by omega]
    refine congrArg (tail A j) (funext fun a => Fin.ext ?_)
    match a with
    | 0 => rfl
    | 1 => show (x 1).val % 128 = (128 * j.val + (x 1).val) % 128; omega
  · rw [highs_eq]
    refine ⟨_, List.mem_map_of_mem (hall (hd (y 1).val)), ?_⟩
    rw [highP, Rect.mem_set_unit]
    intro a
    match a with
    | 0 => show 1920 ≤ (y 0).val ∧ (y 0).val < 1920 + 128; omega
    | 1 => show 128 * ((y 1).val / 128 % 8) ≤ (y 1).val ∧ (y 1).val < 128 * ((y 1).val / 128 % 8) + 128; omega

theorem lowP_out (h : Fin 8) (L : List (View.Piece (Elt F) S2048x1024 .bf16)) (f : BigC F) (y : S2048x1024.Idx) (hy : 32 ≤ (y 0).val) :
    bM.view.writes (Elt F) f (lowP A h :: L) y = bM.view.writes (Elt F) f L y := by
  have e := View.read_writes_cons_unit_of_not_mem (Val := Elt F) bM.view f (inb_low h) (k0_pay70 (accN A h) (accL A h)) L y rfl 0
    (by show (y 0).val < 0 ∨ 0 + 32 ≤ (y 0).val; omega)
  exact (read_bM _ y).symm.trans (e.trans (read_bM _ y))

theorem lows_out (f : BigC F) (y : S2048x1024.Idx) (hy : 32 ≤ (y 0).val) : bM.view.writes (Elt F) f (lows A) y = f y := by
  rw [lowP_out _ _ _ _ _ hy, lowP_out _ _ _ _ _ hy, lowP_out _ _ _ _ _ hy, lowP_out _ _ _ _ _ hy,
    lowP_out _ _ _ _ _ hy, lowP_out _ _ _ _ _ hy, lowP_out _ _ _ _ _ hy, lowP_out _ _ _ _ _ hy]
  rfl

variable (X : XC F) (W : WC F) (K : KC F) (V : VC F)

/-- The first chunk as it stands, and the last. -/
theorem first_rows (B : BigC F) (hB : B = ctx A X W K V) (f : BigC F) (hf : Good X W K V 0 256 f) :
    bigR 0 fullShare 0 256 (bM.view.writes (Elt F) f (lows A)) ⊢ (chPts 0 0 fullShare B : sProp 𝕄) := by
  subst hB
  rw [chPts_rows]
  refine Entails.of_eq (bigR_congr 0 fullShare 0 256 _ _ (by decide) fun y h0 h1 => ?_)
  by_cases h : (y 0).val < 32
  · rw [lows_in A f y h]; unfold ctx; rw [if_pos h]
  · rw [lows_out A f y (by omega)]; unfold ctx; rw [if_neg h, if_neg (by omega)]; exact hf y h0 h1

theorem last_rows (B : BigC F) (hB : B = ctx A X W K V) (f g : BigC F) (hf : Good X W K V 1792 1920 f) :
    iprop(bigR 0 fullShare 1792 128 f ∗ bigR 0 fullShare 1920 128 (bM.view.writes (Elt F) g (highs A))) ⊢ (chPts 7 0 fullShare B : sProp 𝕄) := by
  subst hB
  rw [chPts_rows]
  rw [bigR_congr 0 fullShare 1792 128 f (ctx A X W K V) (by decide) (fun y h0 h1 => by
      unfold ctx; rw [if_neg (by omega), if_neg (by omega)]; exact hf y h0 h1),
    bigR_congr 0 fullShare 1920 128 (bM.view.writes (Elt F) g (highs A)) (ctx A X W K V) (by decide) (fun y h0 h1 => by
      rw [highs_in A g y h0]; unfold ctx; rw [if_neg (by omega), if_pos h0])]
  exact Entails.of_eq (bigR_split 0 fullShare 1792 128 128 (ctx A X W K V) (by decide)).symm

/-! The stores of the eight heads. -/

set_option maxHeartbeats 4000000 in
theorem part23_run (f g : BigC F) (Q : (Σ' (v537 : FVec F S160x128 .bf16), FVec F S32x128 .bf16) → sProp (MT nD τ sig ℕ (Elt F) ℕ UU ℕ)) :
    iprop(bigR 0 fullShare 0 256 f ∗ bigR 0 fullShare 1920 128 g ∗ (aM.view.loc ((0 : Dev nD) : Thread nD τ) ↦{fullShare} A))
      ⊢ iprop((iprop(bigR 0 fullShare 0 256 (bM.view.writes (Elt F) f [lowP A 1, lowP A 0]) ∗ bigR 0 fullShare 1920 128 (bM.view.writes (Elt F) g [highP A 1, highP A 0]) ∗ (aM.view.loc ((0 : Dev nD) : Thread nD τ) ↦{fullShare} A)) -∗ Q ⟨k0_pay75 (accN A 2) (accL A 2), k0_pay76 (accN A 2) (accL A 2)⟩)
        -∗ wp frame (wpE (defs₀ (F := F)) 𝒱₀ ((0 : Dev nD) : Thread nD τ) none) Set.univ (k0_part23 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) Q) := by
  unfold bigR rows
  iintro ⟨Hf, Hg, HA⟩ Hk
  simp -proj only [k0_part23_eq_skeleton]; unfold k0_part23_skel
  sl_exec
  rw [wp_ret]; imodintro
  iapply Hk
  isplitl [Hf]; · iexact Hf
  isplitl [Hg]; · iexact Hg
  iexact HA

set_option maxHeartbeats 4000000 in
theorem part24_run (f g : BigC F) (Q : Vec F S160x128 .f32 → sProp (MT nD τ sig ℕ (Elt F) ℕ UU ℕ)) :
    iprop(bigR 0 fullShare 0 256 f ∗ bigR 0 fullShare 1920 128 g ∗ (aM.view.loc ((0 : Dev nD) : Thread nD τ) ↦{fullShare} A))
      ⊢ iprop((iprop(bigR 0 fullShare 0 256 (bM.view.writes (Elt F) f [lowP A 4, lowP A 3, lowP A 2]) ∗ bigR 0 fullShare 1920 128 (bM.view.writes (Elt F) g [highP A 4, highP A 3, highP A 2]) ∗ (aM.view.loc ((0 : Dev nD) : Thread nD τ) ↦{fullShare} A)) -∗ Q (accN A 5))
        -∗ wp frame (wpE (defs₀ (F := F)) 𝒱₀ ((0 : Dev nD) : Thread nD τ) none) Set.univ (k0_part24 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 (k0_pay75 (accN A 2) (accL A 2)) (k0_pay76 (accN A 2) (accL A 2))) Q) := by
  unfold bigR rows
  iintro ⟨Hf, Hg, HA⟩ Hk
  simp -proj only [k0_part24_eq_skeleton]; unfold k0_part24_skel
  sl_exec
  rw [wp_ret]; imodintro
  iapply Hk
  isplitl [Hf]; · iexact Hf
  isplitl [Hg]; · iexact Hg
  iexact HA

set_option maxHeartbeats 4000000 in
theorem part25_run (f g : BigC F) (Q : FVec F S128x128 .bf16 → sProp (MT nD τ sig ℕ (Elt F) ℕ UU ℕ)) :
    iprop(bigR 0 fullShare 0 256 f ∗ bigR 0 fullShare 1920 128 g ∗ (aM.view.loc ((0 : Dev nD) : Thread nD τ) ↦{fullShare} A))
      ⊢ iprop((iprop(bigR 0 fullShare 0 256 (bM.view.writes (Elt F) f [lowP A 7, lowP A 6, lowP A 5]) ∗ bigR 0 fullShare 1920 128 (bM.view.writes (Elt F) g [highP A 6, highP A 5]) ∗ (aM.view.loc ((0 : Dev nD) : Thread nD τ) ↦{fullShare} A)) -∗ Q (k0_pay93 (accN A 7) (accL A 7)))
        -∗ wp frame (wpE (defs₀ (F := F)) 𝒱₀ ((0 : Dev nD) : Thread nD τ) none) Set.univ (k0_part25 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 (accN A 5)) Q) := by
  unfold bigR rows
  iintro ⟨Hf, Hg, HA⟩ Hk
  simp -proj only [k0_part25_eq_skeleton]; unfold k0_part25_skel
  sl_exec
  rw [wp_ret]; imodintro
  iapply Hk
  isplitl [Hf]; · iexact Hf
  isplitl [Hg]; · iexact Hg
  iexact HA

theorem bigR_eq (c : Dev nD) (q : PosShare TreeShare) (lo n : ℕ) (f g : BigC F) (h : lo + n ≤ 2048) (e : f = g) : (bigR c q lo n f h : sProp 𝕄) = bigR c q lo n g h := by rw [e]
theorem chunk_back (B : BigC F) (k : Fin 8) (c : Dev nD) : iprop(chPts k c fullShare.left B ∗ chPts k c fullShare.right B) ⊢ (chPts k c fullShare B : sProp 𝕄) := by
  unfold chPts; exact (pointsTo_share (PosShare.mem_left_op_right fullShare)).2

variable (T : Dev nD → TinyC F) (B : BigC F) (N : Dev nD × Fin 43 → ℕ) (O : OC F)

set_option maxHeartbeats 8000000 in
theorem part30_run (hB : B = ctx A X W K V) (hc : k0_cond4 0 = 1#1) (f f1 f2 : BigC F) (hf : Good X W K V 0 256 f) (hf1 : Good X W K V 1792 1920 f1)
    (Q : FVec F S2048x1024 .f32 → sProp (MT nD τ sig ℕ (Elt F) ℕ UU ℕ)) :
    iprop(recs T B N ∗ St 0 [6, 3, 1, 5, 4, 0, 6, 3, 2] (TXT 0) (XT 0) (U3 0 ++ CT 0) ∗ (wM.view.loc ((0 : Dev nD) : Thread nD τ) ↦{fullShare} O) ∗ (aM.view.loc ((0 : Dev nD) : Thread nD τ) ↦{fullShare} A)
        ∗ bigR 0 fullShare 0 256 f ∗ bigR 0 fullShare 1792 128 f1 ∗ bigR 0 fullShare 1920 128 f2
        ∗ chAny (F := F) 0 1 ∗ chAny (F := F) 7 1 ∗ chAny (F := F) 7 3 ∗ chAny (F := F) 0 3)
      ⊢ iprop((iprop(St 0 [22, 14, 21, 13, 20, 12, 19, 11, 18, 10, 17, 9, 16, 8, 15, 7, 6, 3, 1, 5, 4, 0, 6, 3, 2] [] [] [] ∗ (wM.view.loc ((0 : Dev nD) : Thread nD τ) ↦{fullShare} O) ∗ (aM.view.loc ((0 : Dev nD) : Thread nD τ) ↦{fullShare} A)
          ∗ bigR 0 fullShare 0 2048 B) -∗ Q (outWhole O B))
        -∗ wp frame (wpE (defs₀ (F := F)) 𝒱₀ ((0 : Dev nD) : Thread nD τ) none) Set.univ (k0_part30 xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11 0 hc) Q) := by
  iintro ⟨#HR, HS, HW, HA, H0, H7, H7', Hd01, Hd71, Hd73, Hd03⟩ Hk
  simp -proj only [k0_part30_eq_skeleton]; unfold k0_part30_skel
  ihave HS := (Entails.of_eq (show St 0 [6, 3, 1, 5, 4, 0, 6, 3, 2] (TXT 0) (XT 0) (U3 0 ++ CT 0) = (St 0 [6, 3, 1, 5, 4, 0, 6, 3, 2] [(0, 7, 0, false), (1, 23, 0, false), (0, 22, 0, false), (3, 30, 0, false), (0, 14, 0, false), (1, 30, 0, false), (0, 15, 0, false), (3, 23, 0, false)] [(1, 23, 0), (3, 30, 0), (1, 30, 0), (3, 23, 0)] [(0, 21, 0), (0, 13, 0), (0, 20, 0), (0, 12, 0), (0, 19, 0), (0, 11, 0), (0, 18, 0), (0, 10, 0), (0, 17, 0), (0, 9, 0), (0, 16, 0), (0, 8, 0)] : sProp 𝕄) from rfl)) $$ HS
  rw [wp_bind]
  iapply (part23_run A f f2 _) $$ [H0 H7' HA]
  · isplitl [H0]; · iexact H0
    isplitl [H7']; · iexact H7'
    iexact HA
  iintro ⟨H0, H7', HA⟩
  rw [wp_bind]
  iapply (part24_run A (bM.view.writes (Elt F) f [lowP A 1, lowP A 0]) (bM.view.writes (Elt F) f2 [highP A 1, highP A 0]) _) $$ [H0 H7' HA]
  · isplitl [H0]; · iexact H0
    isplitl [H7']; · iexact H7'
    iexact HA
  iintro ⟨H0, H7', HA⟩
  rw [wp_bind]
  iapply (part25_run A (bM.view.writes (Elt F) f [lowP A 4, lowP A 3, lowP A 2, lowP A 1, lowP A 0]) (bM.view.writes (Elt F) f2 [highP A 4, highP A 3, highP A 2, highP A 1, highP A 0]) _) $$ [H0 H7' HA]
  · isplitl [H0]; · iexact H0
    isplitl [H7']; · iexact H7'
    iexact HA
  iintro ⟨H0, H7', HA⟩
  ihave H0 := (Entails.of_eq (bigR_eq 0 fullShare 0 256 (bM.view.writes (Elt F) (bM.view.writes (Elt F) f [lowP A 4, lowP A 3, lowP A 2, lowP A 1, lowP A 0]) [lowP A 7, lowP A 6, lowP A 5]) (bM.view.writes (Elt F) f (lows A)) _ rfl)) $$ H0
  ihave H0 := (first_rows A X W K V B hB f hf) $$ H0
  ihave Hs := (fwd_split B 0 0) $$ H0
  icases Hs with ⟨Hs0A, Hs0B⟩
  ihave H7' := (Entails.of_eq (bigR_eq 0 fullShare 1920 128 (bM.view.writes (Elt F) (bM.view.writes (Elt F) f2 [highP A 4, highP A 3, highP A 2, highP A 1, highP A 0]) [highP A 6, highP A 5]) (bM.view.writes (Elt F) f2 [highP A 6, highP A 5, highP A 4, highP A 3, highP A 2, highP A 1, highP A 0]) _ rfl)) $$ H7'
  unfold bigR rows
  sl_exec
  ihave H7 := (last_rows A X W K V B hB f1 f2 hf1) $$ [H7 H7']
  · isplitl [H7]; · iexact H7
    iexact H7'
  ihave Hs := (fwd_split B 7 0) $$ H7
  icases Hs with ⟨Hs7A, Hs7B⟩
  iapply (send_chunk (T := T) (B := B) N 0 1 0 7 23 fullShare.left (w := [6, 3, 1, 5, 4, 0, 6, 3, 2]) (Tk := [(0, 22, 0, false), (3, 30, 0, false), (0, 14, 0, false), (1, 30, 0, false), (0, 15, 0, false), (3, 23, 0, false)]) (D := [(3, 30, 0), (1, 30, 0), (3, 23, 0)]) (C := [(0, 21, 0), (0, 13, 0), (0, 20, 0), (0, 12, 0), (0, 19, 0), (0, 11, 0), (0, 18, 0), (0, 10, 0), (0, 17, 0), (0, 9, 0), (0, 16, 0), (0, 8, 0)]) rfl rfl (Fin.ext k0_dev20_eq) rfl rfl (by decide) (by decide) (by decide) (by decide) rfl rfl) $$ [Hs0A Hd01 HS]
  · isplitr; · iexact HR
    isplitl [Hs0A]; · iexact Hs0A
    isplitl [Hd01]; · iexact Hd01
    iexact HS
  iintro HS
  simp -proj only [Prog.bind]
  iapply (send_chunk (T := T) (B := B) N 0 3 7 22 30 fullShare.right (w := [6, 3, 1, 5, 4, 0, 6, 3, 2]) (Tk := [(0, 14, 0, false), (1, 30, 0, false), (0, 15, 0, false), (3, 23, 0, false)]) (D := [(1, 30, 0), (3, 23, 0)]) (C := [(0, 7, 0), (0, 21, 0), (0, 13, 0), (0, 20, 0), (0, 12, 0), (0, 19, 0), (0, 11, 0), (0, 18, 0), (0, 10, 0), (0, 17, 0), (0, 9, 0), (0, 16, 0), (0, 8, 0)]) rfl rfl (Fin.ext k0_dev21_eq) rfl rfl (by decide) (by decide) (by decide) (by decide) rfl rfl) $$ [Hs7B Hd73 HS]
  · isplitr; · iexact HR
    isplitl [Hs7B]; · iexact Hs7B
    isplitl [Hd73]; · iexact Hd73
    iexact HS
  iintro HS
  simp -proj only [Prog.bind]
  iapply (send_chunk (T := T) (B := B) N 0 1 7 14 30 fullShare.left (w := [6, 3, 1, 5, 4, 0, 6, 3, 2]) (Tk := [(0, 15, 0, false), (3, 23, 0, false)]) (D := [(3, 23, 0)]) (C := [(0, 22, 0), (0, 7, 0), (0, 21, 0), (0, 13, 0), (0, 20, 0), (0, 12, 0), (0, 19, 0), (0, 11, 0), (0, 18, 0), (0, 10, 0), (0, 17, 0), (0, 9, 0), (0, 16, 0), (0, 8, 0)]) rfl rfl (Fin.ext k0_dev22_eq) rfl rfl (by decide) (by decide) (by decide) (by decide) rfl rfl) $$ [Hs7A Hd71 HS]
  · isplitr; · iexact HR
    isplitl [Hs7A]; · iexact Hs7A
    isplitl [Hd71]; · iexact Hd71
    iexact HS
  iintro HS
  simp -proj only [Prog.bind]
  sl_exec
  iapply (send_chunk (T := T) (B := B) N 0 3 0 15 23 fullShare.right (w := [6, 3, 1, 5, 4, 0, 6, 3, 2]) (Tk := []) (D := []) (C := [(0, 14, 0), (0, 22, 0), (0, 7, 0), (0, 21, 0), (0, 13, 0), (0, 20, 0), (0, 12, 0), (0, 19, 0), (0, 11, 0), (0, 18, 0), (0, 10, 0), (0, 17, 0), (0, 9, 0), (0, 16, 0), (0, 8, 0)]) rfl rfl (Fin.ext k0_dev23_eq) rfl rfl (by decide) (by decide) (by decide) (by decide) rfl rfl) $$ [Hs0B Hd03 HS]
  · isplitr; · iexact HR
    isplitl [Hs0B]; · iexact Hs0B
    isplitl [Hd03]; · iexact Hd03
    iexact HS
  iintro HS
  simp -proj only [Prog.bind]
  iapply (step_waitD T B N 0 7 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [6, 3, 1, 5, 4, 0, 6, 3, 2]) (Tk := []) (D := []) [(0, 15, 0), (0, 14, 0), (0, 22, 0)] [(0, 21, 0), (0, 13, 0), (0, 20, 0), (0, 12, 0), (0, 19, 0), (0, 11, 0), (0, 18, 0), (0, 10, 0), (0, 17, 0), (0, 9, 0), (0, 16, 0), (0, 8, 0)] (by decide) (by decide) (by decide) (by decide) ((NB_chM 0).trans (am_big 7 (by decide)).symm) rfl (by decide)) $$ [HS]
  · isplitr; · iexact HR
    iexact HS
  iintro ⟨HS, -, Hp⟩
  ihave Hl0 := (Entails.of_eq (show pay T B 0 ((7 : Fin 43) : ℕ) 0 false = (chPts 0 0 fullShare.left B : sProp 𝕄) from rfl)) $$ Hp
  ihave HS := (Entails.of_eq (show St 0 [7, 6, 3, 1, 5, 4, 0, 6, 3, 2] [] [] ([(0, 15, 0), (0, 14, 0), (0, 22, 0)] ++ [(0, 21, 0), (0, 13, 0), (0, 20, 0), (0, 12, 0), (0, 19, 0), (0, 11, 0), (0, 18, 0), (0, 10, 0), (0, 17, 0), (0, 9, 0), (0, 16, 0), (0, 8, 0)]) = (St 0 [7, 6, 3, 1, 5, 4, 0, 6, 3, 2] [] [] [(0, 15, 0), (0, 14, 0), (0, 22, 0), (0, 21, 0), (0, 13, 0), (0, 20, 0), (0, 12, 0), (0, 19, 0), (0, 11, 0), (0, 18, 0), (0, 10, 0), (0, 17, 0), (0, 9, 0), (0, 16, 0), (0, 8, 0)] : sProp 𝕄) from rfl)) $$ HS
  iapply (step_waitD T B N 0 15 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [7, 6, 3, 1, 5, 4, 0, 6, 3, 2]) (Tk := []) (D := []) [] [(0, 14, 0), (0, 22, 0), (0, 21, 0), (0, 13, 0), (0, 20, 0), (0, 12, 0), (0, 19, 0), (0, 11, 0), (0, 18, 0), (0, 10, 0), (0, 17, 0), (0, 9, 0), (0, 16, 0), (0, 8, 0)] (by decide) (by decide) (by decide) (by decide) ((NB_chM 0).trans (am_big 15 (by decide)).symm) rfl (by decide)) $$ [HS]
  · isplitr; · iexact HR
    iexact HS
  iintro ⟨HS, -, Hp⟩
  ihave Hr0 := (Entails.of_eq (show pay T B 0 ((15 : Fin 43) : ℕ) 0 false = (chPts 0 0 fullShare.right B : sProp 𝕄) from rfl)) $$ Hp
  ihave HS := (Entails.of_eq (show St 0 [15, 7, 6, 3, 1, 5, 4, 0, 6, 3, 2] [] [] ([] ++ [(0, 14, 0), (0, 22, 0), (0, 21, 0), (0, 13, 0), (0, 20, 0), (0, 12, 0), (0, 19, 0), (0, 11, 0), (0, 18, 0), (0, 10, 0), (0, 17, 0), (0, 9, 0), (0, 16, 0), (0, 8, 0)]) = (St 0 [15, 7, 6, 3, 1, 5, 4, 0, 6, 3, 2] [] [] [(0, 14, 0), (0, 22, 0), (0, 21, 0), (0, 13, 0), (0, 20, 0), (0, 12, 0), (0, 19, 0), (0, 11, 0), (0, 18, 0), (0, 10, 0), (0, 17, 0), (0, 9, 0), (0, 16, 0), (0, 8, 0)] : sProp 𝕄) from rfl)) $$ HS
  ihave H0 := (chunk_back B 0 0) $$ [Hl0 Hr0]
  · isplitl [Hl0]; · iexact Hl0
    iexact Hr0
  iapply (step_waitD T B N 0 8 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := [15, 7, 6, 3, 1, 5, 4, 0, 6, 3, 2]) (Tk := []) (D := []) [(0, 14, 0), (0, 22, 0), (0, 21, 0), (0, 13, 0), (0, 20, 0), (0, 12, 0), (0, 19, 0), (0, 11, 0), (0, 18, 0), (0, 10, 0), (0, 17, 0), (0, 9, 0), (0, 16, 0)] [] (by decide) (by decide) (by decide) (by decide) ((NB_chM 1).trans (am_big 8 (by decide)).symm) rfl (by decide)) $$ [HS]
  · isplitr; · iexact HR
    iexact HS
  iintro ⟨HS, -, Hp⟩
  ihave Hl1 := (Entails.of_eq (show pay T B 0 ((8 : Fin 43) : ℕ) 0 false = (chPts 1 0 fullShare.left B : sProp 𝕄) from rfl)) $$ Hp
  ihave HS := (Entails.of_eq (show St 0 [8, 15, 7, 6, 3, 1, 5, 4, 0, 6, 3, 2] [] [] ([(0, 14, 0), (0, 22, 0), (0, 21, 0), (0, 13, 0), (0, 20, 0), (0, 12, 0), (0, 19, 0), (0, 11, 0), (0, 18, 0), (0, 10, 0), (0, 17, 0), (0, 9, 0), (0, 16, 0)] ++ []) = (St 0 [8, 15, 7, 6, 3, 1, 5, 4, 0, 6, 3, 2] [] [] [(0, 14, 0), (0, 22, 0), (0, 21, 0), (0, 13, 0), (0, 20, 0), (0, 12, 0), (0, 19, 0), (0, 11, 0), (0, 18, 0), (0, 10, 0), (0, 17, 0), (0, 9, 0), (0, 16, 0)] : sProp 𝕄) from rfl)) $$ HS
  simp -proj only [Prog.bind]
  sl_exec
  iapply (step_waitD T B N 0 16 0 0 (src := (bM.slice (Rect.unit (s := S2048x1024) ![256, 0] S256x1024.size inb_S2048x1024_S256x1024_256_0) (fun _ => rfl))) (dst := (bM.slice (Rect.unit (s := S2048x1024) ![256, 0] S256x1024.size inb_S2048x1024_S256x1024_256_0) (fun _ => rfl))) (w := [8, 15, 7, 6, 3, 1, 5, 4, 0, 6, 3, 2]) (Tk := []) (D := []) [(0, 14, 0), (0, 22, 0), (0, 21, 0), (0, 13, 0), (0, 20, 0), (0, 12, 0), (0, 19, 0), (0, 11, 0), (0, 18, 0), (0, 10, 0), (0, 17, 0), (0, 9, 0)] [] (by decide) (by decide) (by decide) (by decide) ((NB_chM 1).trans (am_big 16 (by decide)).symm) rfl (by decide)) $$ [HS]
  · isplitr; · iexact HR
    iexact HS
  iintro ⟨HS, -, Hp⟩
  ihave Hr1 := (Entails.of_eq (show pay T B 0 ((16 : Fin 43) : ℕ) 0 false = (chPts 1 0 fullShare.right B : sProp 𝕄) from rfl)) $$ Hp
  ihave HS := (Entails.of_eq (show St 0 [16, 8, 15, 7, 6, 3, 1, 5, 4, 0, 6, 3, 2] [] [] ([(0, 14, 0), (0, 22, 0), (0, 21, 0), (0, 13, 0), (0, 20, 0), (0, 12, 0), (0, 19, 0), (0, 11, 0), (0, 18, 0), (0, 10, 0), (0, 17, 0), (0, 9, 0)] ++ []) = (St 0 [16, 8, 15, 7, 6, 3, 1, 5, 4, 0, 6, 3, 2] [] [] [(0, 14, 0), (0, 22, 0), (0, 21, 0), (0, 13, 0), (0, 20, 0), (0, 12, 0), (0, 19, 0), (0, 11, 0), (0, 18, 0), (0, 10, 0), (0, 17, 0), (0, 9, 0)] : sProp 𝕄) from rfl)) $$ HS
  ihave H1 := (chunk_back B 1 0) $$ [Hl1 Hr1]
  · isplitl [Hl1]; · iexact Hl1
    iexact Hr1
  iapply (step_waitD T B N 0 9 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := [16, 8, 15, 7, 6, 3, 1, 5, 4, 0, 6, 3, 2]) (Tk := []) (D := []) [(0, 14, 0), (0, 22, 0), (0, 21, 0), (0, 13, 0), (0, 20, 0), (0, 12, 0), (0, 19, 0), (0, 11, 0), (0, 18, 0), (0, 10, 0), (0, 17, 0)] [] (by decide) (by decide) (by decide) (by decide) ((NB_chM 2).trans (am_big 9 (by decide)).symm) rfl (by decide)) $$ [HS]
  · isplitr; · iexact HR
    iexact HS
  iintro ⟨HS, -, Hp⟩
  ihave Hl2 := (Entails.of_eq (show pay T B 0 ((9 : Fin 43) : ℕ) 0 false = (chPts 2 0 fullShare.left B : sProp 𝕄) from rfl)) $$ Hp
  ihave HS := (Entails.of_eq (show St 0 [9, 16, 8, 15, 7, 6, 3, 1, 5, 4, 0, 6, 3, 2] [] [] ([(0, 14, 0), (0, 22, 0), (0, 21, 0), (0, 13, 0), (0, 20, 0), (0, 12, 0), (0, 19, 0), (0, 11, 0), (0, 18, 0), (0, 10, 0), (0, 17, 0)] ++ []) = (St 0 [9, 16, 8, 15, 7, 6, 3, 1, 5, 4, 0, 6, 3, 2] [] [] [(0, 14, 0), (0, 22, 0), (0, 21, 0), (0, 13, 0), (0, 20, 0), (0, 12, 0), (0, 19, 0), (0, 11, 0), (0, 18, 0), (0, 10, 0), (0, 17, 0)] : sProp 𝕄) from rfl)) $$ HS
  iapply (step_waitD T B N 0 17 0 0 (src := (bM.slice (Rect.unit (s := S2048x1024) ![512, 0] S256x1024.size inb_S2048x1024_S256x1024_512_0) (fun _ => rfl))) (dst := (bM.slice (Rect.unit (s := S2048x1024) ![512, 0] S256x1024.size inb_S2048x1024_S256x1024_512_0) (fun _ => rfl))) (w := [9, 16, 8, 15, 7, 6, 3, 1, 5, 4, 0, 6, 3, 2]) (Tk := []) (D := []) [(0, 14, 0), (0, 22, 0), (0, 21, 0), (0, 13, 0), (0, 20, 0), (0, 12, 0), (0, 19, 0), (0, 11, 0), (0, 18, 0), (0, 10, 0)] [] (by decide) (by decide) (by decide) (by decide) ((NB_chM 2).trans (am_big 17 (by decide)).symm) rfl (by decide)) $$ [HS]
  · isplitr; · iexact HR
    iexact HS
  iintro ⟨HS, -, Hp⟩
  ihave Hr2 := (Entails.of_eq (show pay T B 0 ((17 : Fin 43) : ℕ) 0 false = (chPts 2 0 fullShare.right B : sProp 𝕄) from rfl)) $$ Hp
  ihave HS := (Entails.of_eq (show St 0 [17, 9, 16, 8, 15, 7, 6, 3, 1, 5, 4, 0, 6, 3, 2] [] [] ([(0, 14, 0), (0, 22, 0), (0, 21, 0), (0, 13, 0), (0, 20, 0), (0, 12, 0), (0, 19, 0), (0, 11, 0), (0, 18, 0), (0, 10, 0)] ++ []) = (St 0 [17, 9, 16, 8, 15, 7, 6, 3, 1, 5, 4, 0, 6, 3, 2] [] [] [(0, 14, 0), (0, 22, 0), (0, 21, 0), (0, 13, 0), (0, 20, 0), (0, 12, 0), (0, 19, 0), (0, 11, 0), (0, 18, 0), (0, 10, 0)] : sProp 𝕄) from rfl)) $$ HS
  ihave H2 := (chunk_back B 2 0) $$ [Hl2 Hr2]
  · isplitl [Hl2]; · iexact Hl2
    iexact Hr2
  iapply (step_waitD T B N 0 10 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := [17, 9, 16, 8, 15, 7, 6, 3, 1, 5, 4, 0, 6, 3, 2]) (Tk := []) (D := []) [(0, 14, 0), (0, 22, 0), (0, 21, 0), (0, 13, 0), (0, 20, 0), (0, 12, 0), (0, 19, 0), (0, 11, 0), (0, 18, 0)] [] (by decide) (by decide) (by decide) (by decide) ((NB_chM 3).trans (am_big 10 (by decide)).symm) rfl (by decide)) $$ [HS]
  · isplitr; · iexact HR
    iexact HS
  iintro ⟨HS, -, Hp⟩
  ihave Hl3 := (Entails.of_eq (show pay T B 0 ((10 : Fin 43) : ℕ) 0 false = (chPts 3 0 fullShare.left B : sProp 𝕄) from rfl)) $$ Hp
  ihave HS := (Entails.of_eq (show St 0 [10, 17, 9, 16, 8, 15, 7, 6, 3, 1, 5, 4, 0, 6, 3, 2] [] [] ([(0, 14, 0), (0, 22, 0), (0, 21, 0), (0, 13, 0), (0, 20, 0), (0, 12, 0), (0, 19, 0), (0, 11, 0), (0, 18, 0)] ++ []) = (St 0 [10, 17, 9, 16, 8, 15, 7, 6, 3, 1, 5, 4, 0, 6, 3, 2] [] [] [(0, 14, 0), (0, 22, 0), (0, 21, 0), (0, 13, 0), (0, 20, 0), (0, 12, 0), (0, 19, 0), (0, 11, 0), (0, 18, 0)] : sProp 𝕄) from rfl)) $$ HS
  iapply (step_waitD T B N 0 18 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := [10, 17, 9, 16, 8, 15, 7, 6, 3, 1, 5, 4, 0, 6, 3, 2]) (Tk := []) (D := []) [(0, 14, 0), (0, 22, 0), (0, 21, 0), (0, 13, 0), (0, 20, 0), (0, 12, 0), (0, 19, 0), (0, 11, 0)] [] (by decide) (by decide) (by decide) (by decide) ((NB_chM 3).trans (am_big 18 (by decide)).symm) rfl (by decide)) $$ [HS]
  · isplitr; · iexact HR
    iexact HS
  iintro ⟨HS, -, Hp⟩
  ihave Hr3 := (Entails.of_eq (show pay T B 0 ((18 : Fin 43) : ℕ) 0 false = (chPts 3 0 fullShare.right B : sProp 𝕄) from rfl)) $$ Hp
  ihave HS := (Entails.of_eq (show St 0 [18, 10, 17, 9, 16, 8, 15, 7, 6, 3, 1, 5, 4, 0, 6, 3, 2] [] [] ([(0, 14, 0), (0, 22, 0), (0, 21, 0), (0, 13, 0), (0, 20, 0), (0, 12, 0), (0, 19, 0), (0, 11, 0)] ++ []) = (St 0 [18, 10, 17, 9, 16, 8, 15, 7, 6, 3, 1, 5, 4, 0, 6, 3, 2] [] [] [(0, 14, 0), (0, 22, 0), (0, 21, 0), (0, 13, 0), (0, 20, 0), (0, 12, 0), (0, 19, 0), (0, 11, 0)] : sProp 𝕄) from rfl)) $$ HS
  simp -proj only [Prog.bind]
  sl_exec
  ihave H3 := (chunk_back B 3 0) $$ [Hl3 Hr3]
  · isplitl [Hl3]; · iexact Hl3
    iexact Hr3
  iapply (step_waitD T B N 0 11 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := [18, 10, 17, 9, 16, 8, 15, 7, 6, 3, 1, 5, 4, 0, 6, 3, 2]) (Tk := []) (D := []) [(0, 14, 0), (0, 22, 0), (0, 21, 0), (0, 13, 0), (0, 20, 0), (0, 12, 0), (0, 19, 0)] [] (by decide) (by decide) (by decide) (by decide) ((NB_chM 4).trans (am_big 11 (by decide)).symm) rfl (by decide)) $$ [HS]
  · isplitr; · iexact HR
    iexact HS
  iintro ⟨HS, -, Hp⟩
  ihave Hl4 := (Entails.of_eq (show pay T B 0 ((11 : Fin 43) : ℕ) 0 false = (chPts 4 0 fullShare.left B : sProp 𝕄) from rfl)) $$ Hp
  ihave HS := (Entails.of_eq (show St 0 [11, 18, 10, 17, 9, 16, 8, 15, 7, 6, 3, 1, 5, 4, 0, 6, 3, 2] [] [] ([(0, 14, 0), (0, 22, 0), (0, 21, 0), (0, 13, 0), (0, 20, 0), (0, 12, 0), (0, 19, 0)] ++ []) = (St 0 [11, 18, 10, 17, 9, 16, 8, 15, 7, 6, 3, 1, 5, 4, 0, 6, 3, 2] [] [] [(0, 14, 0), (0, 22, 0), (0, 21, 0), (0, 13, 0), (0, 20, 0), (0, 12, 0), (0, 19, 0)] : sProp 𝕄) from rfl)) $$ HS
  iapply (step_waitD T B N 0 19 0 0 (src := (bM.slice (Rect.unit (s := S2048x1024) ![1024, 0] S256x1024.size inb_S2048x1024_S256x1024_1024_0) (fun _ => rfl))) (dst := (bM.slice (Rect.unit (s := S2048x1024) ![1024, 0] S256x1024.size inb_S2048x1024_S256x1024_1024_0) (fun _ => rfl))) (w := [11, 18, 10, 17, 9, 16, 8, 15, 7, 6, 3, 1, 5, 4, 0, 6, 3, 2]) (Tk := []) (D := []) [(0, 14, 0), (0, 22, 0), (0, 21, 0), (0, 13, 0), (0, 20, 0), (0, 12, 0)] [] (by decide) (by decide) (by decide) (by decide) ((NB_chM 4).trans (am_big 19 (by decide)).symm) rfl (by decide)) $$ [HS]
  · isplitr; · iexact HR
    iexact HS
  iintro ⟨HS, -, Hp⟩
  ihave Hr4 := (Entails.of_eq (show pay T B 0 ((19 : Fin 43) : ℕ) 0 false = (chPts 4 0 fullShare.right B : sProp 𝕄) from rfl)) $$ Hp
  ihave HS := (Entails.of_eq (show St 0 [19, 11, 18, 10, 17, 9, 16, 8, 15, 7, 6, 3, 1, 5, 4, 0, 6, 3, 2] [] [] ([(0, 14, 0), (0, 22, 0), (0, 21, 0), (0, 13, 0), (0, 20, 0), (0, 12, 0)] ++ []) = (St 0 [19, 11, 18, 10, 17, 9, 16, 8, 15, 7, 6, 3, 1, 5, 4, 0, 6, 3, 2] [] [] [(0, 14, 0), (0, 22, 0), (0, 21, 0), (0, 13, 0), (0, 20, 0), (0, 12, 0)] : sProp 𝕄) from rfl)) $$ HS
  ihave H4 := (chunk_back B 4 0) $$ [Hl4 Hr4]
  · isplitl [Hl4]; · iexact Hl4
    iexact Hr4
  iapply (step_waitD T B N 0 12 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := [19, 11, 18, 10, 17, 9, 16, 8, 15, 7, 6, 3, 1, 5, 4, 0, 6, 3, 2]) (Tk := []) (D := []) [(0, 14, 0), (0, 22, 0), (0, 21, 0), (0, 13, 0), (0, 20, 0)] [] (by decide) (by decide) (by decide) (by decide) ((NB_chM 5).trans (am_big 12 (by decide)).symm) rfl (by decide)) $$ [HS]
  · isplitr; · iexact HR
    iexact HS
  iintro ⟨HS, -, Hp⟩
  ihave Hl5 := (Entails.of_eq (show pay T B 0 ((12 : Fin 43) : ℕ) 0 false = (chPts 5 0 fullShare.left B : sProp 𝕄) from rfl)) $$ Hp
  ihave HS := (Entails.of_eq (show St 0 [12, 19, 11, 18, 10, 17, 9, 16, 8, 15, 7, 6, 3, 1, 5, 4, 0, 6, 3, 2] [] [] ([(0, 14, 0), (0, 22, 0), (0, 21, 0), (0, 13, 0), (0, 20, 0)] ++ []) = (St 0 [12, 19, 11, 18, 10, 17, 9, 16, 8, 15, 7, 6, 3, 1, 5, 4, 0, 6, 3, 2] [] [] [(0, 14, 0), (0, 22, 0), (0, 21, 0), (0, 13, 0), (0, 20, 0)] : sProp 𝕄) from rfl)) $$ HS
  iapply (step_waitD T B N 0 20 0 0 (src := (bM.slice (Rect.unit (s := S2048x1024) ![1280, 0] S256x1024.size inb_S2048x1024_S256x1024_1280_0) (fun _ => rfl))) (dst := (bM.slice (Rect.unit (s := S2048x1024) ![1280, 0] S256x1024.size inb_S2048x1024_S256x1024_1280_0) (fun _ => rfl))) (w := [12, 19, 11, 18, 10, 17, 9, 16, 8, 15, 7, 6, 3, 1, 5, 4, 0, 6, 3, 2]) (Tk := []) (D := []) [(0, 14, 0), (0, 22, 0), (0, 21, 0), (0, 13, 0)] [] (by decide) (by decide) (by decide) (by decide) ((NB_chM 5).trans (am_big 20 (by decide)).symm) rfl (by decide)) $$ [HS]
  · isplitr; · iexact HR
    iexact HS
  iintro ⟨HS, -, Hp⟩
  ihave Hr5 := (Entails.of_eq (show pay T B 0 ((20 : Fin 43) : ℕ) 0 false = (chPts 5 0 fullShare.right B : sProp 𝕄) from rfl)) $$ Hp
  ihave HS := (Entails.of_eq (show St 0 [20, 12, 19, 11, 18, 10, 17, 9, 16, 8, 15, 7, 6, 3, 1, 5, 4, 0, 6, 3, 2] [] [] ([(0, 14, 0), (0, 22, 0), (0, 21, 0), (0, 13, 0)] ++ []) = (St 0 [20, 12, 19, 11, 18, 10, 17, 9, 16, 8, 15, 7, 6, 3, 1, 5, 4, 0, 6, 3, 2] [] [] [(0, 14, 0), (0, 22, 0), (0, 21, 0), (0, 13, 0)] : sProp 𝕄) from rfl)) $$ HS
  simp -proj only [Prog.bind]
  sl_exec
  ihave H5 := (chunk_back B 5 0) $$ [Hl5 Hr5]
  · isplitl [Hl5]; · iexact Hl5
    iexact Hr5
  iapply (step_waitD T B N 0 13 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := [20, 12, 19, 11, 18, 10, 17, 9, 16, 8, 15, 7, 6, 3, 1, 5, 4, 0, 6, 3, 2]) (Tk := []) (D := []) [(0, 14, 0), (0, 22, 0), (0, 21, 0)] [] (by decide) (by decide) (by decide) (by decide) ((NB_chM 6).trans (am_big 13 (by decide)).symm) rfl (by decide)) $$ [HS]
  · isplitr; · iexact HR
    iexact HS
  iintro ⟨HS, -, Hp⟩
  ihave Hl6 := (Entails.of_eq (show pay T B 0 ((13 : Fin 43) : ℕ) 0 false = (chPts 6 0 fullShare.left B : sProp 𝕄) from rfl)) $$ Hp
  ihave HS := (Entails.of_eq (show St 0 [13, 20, 12, 19, 11, 18, 10, 17, 9, 16, 8, 15, 7, 6, 3, 1, 5, 4, 0, 6, 3, 2] [] [] ([(0, 14, 0), (0, 22, 0), (0, 21, 0)] ++ []) = (St 0 [13, 20, 12, 19, 11, 18, 10, 17, 9, 16, 8, 15, 7, 6, 3, 1, 5, 4, 0, 6, 3, 2] [] [] [(0, 14, 0), (0, 22, 0), (0, 21, 0)] : sProp 𝕄) from rfl)) $$ HS
  iapply (step_waitD T B N 0 21 0 0 (src := (bM.slice (Rect.unit (s := S2048x1024) ![1536, 0] S256x1024.size inb_S2048x1024_S256x1024_1536_0) (fun _ => rfl))) (dst := (bM.slice (Rect.unit (s := S2048x1024) ![1536, 0] S256x1024.size inb_S2048x1024_S256x1024_1536_0) (fun _ => rfl))) (w := [13, 20, 12, 19, 11, 18, 10, 17, 9, 16, 8, 15, 7, 6, 3, 1, 5, 4, 0, 6, 3, 2]) (Tk := []) (D := []) [(0, 14, 0), (0, 22, 0)] [] (by decide) (by decide) (by decide) (by decide) ((NB_chM 6).trans (am_big 21 (by decide)).symm) rfl (by decide)) $$ [HS]
  · isplitr; · iexact HR
    iexact HS
  iintro ⟨HS, -, Hp⟩
  ihave Hr6 := (Entails.of_eq (show pay T B 0 ((21 : Fin 43) : ℕ) 0 false = (chPts 6 0 fullShare.right B : sProp 𝕄) from rfl)) $$ Hp
  ihave HS := (Entails.of_eq (show St 0 [21, 13, 20, 12, 19, 11, 18, 10, 17, 9, 16, 8, 15, 7, 6, 3, 1, 5, 4, 0, 6, 3, 2] [] [] ([(0, 14, 0), (0, 22, 0)] ++ []) = (St 0 [21, 13, 20, 12, 19, 11, 18, 10, 17, 9, 16, 8, 15, 7, 6, 3, 1, 5, 4, 0, 6, 3, 2] [] [] [(0, 14, 0), (0, 22, 0)] : sProp 𝕄) from rfl)) $$ HS
  ihave H6 := (chunk_back B 6 0) $$ [Hl6 Hr6]
  · isplitl [Hl6]; · iexact Hl6
    iexact Hr6
  iapply (step_waitD T B N 0 14 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [21, 13, 20, 12, 19, 11, 18, 10, 17, 9, 16, 8, 15, 7, 6, 3, 1, 5, 4, 0, 6, 3, 2]) (Tk := []) (D := []) [] [(0, 22, 0)] (by decide) (by decide) (by decide) (by decide) ((NB_chM 7).trans (am_big 14 (by decide)).symm) rfl (by decide)) $$ [HS]
  · isplitr; · iexact HR
    iexact HS
  iintro ⟨HS, -, Hp⟩
  ihave Hl7 := (Entails.of_eq (show pay T B 0 ((14 : Fin 43) : ℕ) 0 false = (chPts 7 0 fullShare.left B : sProp 𝕄) from rfl)) $$ Hp
  ihave HS := (Entails.of_eq (show St 0 [14, 21, 13, 20, 12, 19, 11, 18, 10, 17, 9, 16, 8, 15, 7, 6, 3, 1, 5, 4, 0, 6, 3, 2] [] [] ([] ++ [(0, 22, 0)]) = (St 0 [14, 21, 13, 20, 12, 19, 11, 18, 10, 17, 9, 16, 8, 15, 7, 6, 3, 1, 5, 4, 0, 6, 3, 2] [] [] [(0, 22, 0)] : sProp 𝕄) from rfl)) $$ HS
  iapply (step_waitD T B N 0 22 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [14, 21, 13, 20, 12, 19, 11, 18, 10, 17, 9, 16, 8, 15, 7, 6, 3, 1, 5, 4, 0, 6, 3, 2]) (Tk := []) (D := []) [] [] (by decide) (by decide) (by decide) (by decide) ((NB_chM 7).trans (am_big 22 (by decide)).symm) rfl (by decide)) $$ [HS]
  · isplitr; · iexact HR
    iexact HS
  iintro ⟨HS, -, Hp⟩
  ihave Hr7 := (Entails.of_eq (show pay T B 0 ((22 : Fin 43) : ℕ) 0 false = (chPts 7 0 fullShare.right B : sProp 𝕄) from rfl)) $$ Hp
  ihave HS := (Entails.of_eq (show St 0 [22, 14, 21, 13, 20, 12, 19, 11, 18, 10, 17, 9, 16, 8, 15, 7, 6, 3, 1, 5, 4, 0, 6, 3, 2] [] [] ([] ++ []) = (St 0 [22, 14, 21, 13, 20, 12, 19, 11, 18, 10, 17, 9, 16, 8, 15, 7, 6, 3, 1, 5, 4, 0, 6, 3, 2] [] [] [] : sProp 𝕄) from rfl)) $$ HS
  ihave H7 := (chunk_back B 7 0) $$ [Hl7 Hr7]
  · isplitl [Hl7]; · iexact Hl7
    iexact Hr7
  ihave HB := (chunks_whole B 0 fullShare) $$ [H0 H1 H2 H3 H4 H5 H6 H7]
  · isplitl [H0]; · iapply (Entails.of_eq (chPts_rows 0 0 fullShare B)); iexact H0
    isplitl [H1]; · iapply (Entails.of_eq (chPts_rows 1 0 fullShare B)); iexact H1
    isplitl [H2]; · iapply (Entails.of_eq (chPts_rows 2 0 fullShare B)); iexact H2
    isplitl [H3]; · iapply (Entails.of_eq (chPts_rows 3 0 fullShare B)); iexact H3
    isplitl [H4]; · iapply (Entails.of_eq (chPts_rows 4 0 fullShare B)); iexact H4
    isplitl [H5]; · iapply (Entails.of_eq (chPts_rows 5 0 fullShare B)); iexact H5
    isplitl [H6]; · iapply (Entails.of_eq (chPts_rows 6 0 fullShare B)); iexact H6
    iapply (Entails.of_eq (chPts_rows 7 0 fullShare B)); iexact H7
  simp -proj only [Prog.bind]
  unfold bigR rows
  sl_exec
  rw [wp_ret]; imodintro
  rw [show k0_pay95 (bM.view.readAt (Elt F) (Rect.unit (s := S2048x1024) ![0, 0] S2048x1024.size inb_S2048x1024_S2048x1024_0_0).toLoadRect B)
    (wM.view.readAt (Elt F) (Rect.unit (s := S1024x1024) ![0, 0] S1024x1024.size inb_S1024x1024_S1024x1024_0_0).toLoadRect O) = outWhole O B from rfl]
  iapply Hk
  isplitl [HS]; · iexact HS
  isplitl [HW]; · iexact HW
  isplitl [HA]; · iexact HA
  iexact HB

end
end Cert.Ring
end
-- ==== Proof.Run.lean ====
module

public import proofs.«01_k».proof.Proof.Tail0

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## One device's whole run -/

section
variable (T : Dev nD → TinyC F) (B : BigC F) (N : Dev nD × Fin 43 → ℕ)

/-- Every round a device waits for, in the order of its run, the last first. -/
def wfin (c : Dev nD) : List (Fin 43) :=
  if c = 0 then [22, 14, 21, 13, 20, 12, 19, 11, 18, 10, 17, 9, 16, 8, 15, 7, 6, 3, 1, 5, 4, 0, 6, 3, 2]
  else if c = 2 then [42, 35, 41, 40, 39, 38, 37, 36, 6, 3, 1, 5, 4, 0, 6, 3, 2]
  else [34, 33, 32, 31, 30, 23, 29, 28, 27, 26, 25, 24, 6, 3, 1, 5, 4, 0, 6, 3, 2]

theorem wfin_count (c : Dev nD) (k : Fin 43) : (wfin c).count k = rounds c k := by revert c k; decide

theorem bigSep_lsep {I : Type} [DecidableEq I] (Φ : I → sProp 𝕄) : ∀ l : List I, l.Nodup → bigSep l.toFinset Φ = lsep l Φ
  | [], _ => bigSep_empty
  | i :: l, h => by
    rw [List.toFinset_cons, bigSep_insert (by rw [List.mem_toFinset]; exact (List.nodup_cons.mp h).1), lsep_cons, bigSep_lsep Φ l (List.nodup_cons.mp h).2]; rfl

theorem gifts8 (n : Dev nD) (l : List (Fin 8)) (h : l.Nodup) (hu : l.toFinset = Finset.univ) :
    (bigSep Finset.univ fun k : Fin 8 => (chAny (F := F) k n : sProp 𝕄)) = gL n l := by
  rw [← hu]; exact bigSep_lsep _ l h

theorem gifts4 (n : Dev nD) (g : Fin 4 → Fin 8) (l : List (Fin 4)) (h : l.Nodup) (hu : l.toFinset = Finset.univ) :
    (bigSep Finset.univ fun k : Fin 4 => (chAny (F := F) (g k) n : sProp 𝕄)) = lsep l fun k => chAny (g k) n := by
  rw [← hu]; exact bigSep_lsep _ l h

/-- Device 0 starts with its whole context buffer. -/
def big0 (c : Dev nD) : sProp 𝕄 := if c = 0 then iprop(∃ f, bigR (F := F) 0 fullShare 0 2048 f) else iprop(emp)

theorem zr_start (c : Dev nD) : iprop(giftT (F := F) c ∗ barF (F := F) c ∗ big0 (F := F) c) ⊢ (Zr c P0 : sProp 𝕄) := by
  unfold Zr
  by_cases hc : c = 0
  · subst hc
    rw [if_pos rfl]
    unfold P0 giftT barF big0
    rw [if_pos rfl, if_pos rfl, if_pos rfl, gifts8 1 [1, 2, 3, 4, 5, 6, 0, 7] (by decide) (by decide), gifts8 3 [1, 2, 3, 4, 5, 6, 7, 0] (by decide) (by decide)]
  · rw [if_neg hc]
    iintro ⟨Ha, Hb, -⟩
    isplitl [Ha]; · iexact Ha
    iexact Hb

theorem barT_eq (c : Dev nD) : (barT (F := F) c : sProp 𝕄) = iprop(slotAny true (nxt c) ∗ giftT (F := F) c) := rfl

theorem ctx_mid (A : AC F) (X : XC F) (W : WC F) (K : KC F) (V : VC F) (y : S2048x1024.Idx) (h1 : 32 ≤ (y 0).val) (h2 : (y 0).val < 1920) : ctx A X W K V y = mid X W K V y := by
  unfold ctx; rw [if_neg (by omega), if_neg (by omega)]

theorem top_of (X : XC F) (W : WC F) (K : KC F) (V : VC F) (c : Dev nD) (h0 : c = 0) (h : Fin 8) : k0_pay21 (num0 X W K V (koffOf c) h) (sum0 X W K (koffOf c) h) = top X W K V h := by
  subst h0; rw [show koffOf (0 : Dev nD) = 0#32 from by decide +kernel]; rfl

/-- Device 0's first row block, head by head. -/
theorem tops_all (X : XC F) (W : WC F) (K : KC F) (V : VC F) (c : Dev nD) (h0 : c = 0) :
    k0_pay21 (num0 X W K V (koffOf c) 0) (sum0 X W K (koffOf c) 0) = top X W K V 0 ∧ k0_pay22 (num0 X W K V (koffOf c) 1) (sum0 X W K (koffOf c) 1) = top X W K V 1
    ∧ k0_pay23 (num0 X W K V (koffOf c) 2) (sum0 X W K (koffOf c) 2) = top X W K V 2 ∧ k0_pay24 (num0 X W K V (koffOf c) 3) (sum0 X W K (koffOf c) 3) = top X W K V 3
    ∧ k0_pay25 (num0 X W K V (koffOf c) 4) (sum0 X W K (koffOf c) 4) = top X W K V 4 ∧ k0_pay26 (num0 X W K V (koffOf c) 5) (sum0 X W K (koffOf c) 5) = top X W K V 5
    ∧ k0_pay28 (k0_pay27 (num0 X W K V (koffOf c) 6) (sum0 X W K (koffOf c) 6)) = top X W K V 6 ∧ k0_pay29 (num0 X W K V (koffOf c) 7) (sum0 X W K (koffOf c) 7) = top X W K V 7 := by
  have h := top_of X W K V c h0
  exact ⟨h 0, h 1, h 2, h 3, h 4, h 5, h 6, h 7⟩

theorem dev_cases (c : Dev nD) : c = 0 ∨ c = 1 ∨ c = 3 ∨ c = 2 := by revert c; decide

/-- A store over the whole output leaves just what is stored. -/
theorem out_write (f : RC F) (w : FVec F S2048x1024 .f32) :
    oM.view.writes (Elt F) f [⟨Rect.unit (s := S2048x1024) ![0, 0] S2048x1024.size inb_S2048x1024_S2048x1024_0_0, w⟩] = w := by
  funext y
  have h := View.read_writes_apply_of_pieces (Val := Elt F) oM.view f w
    [⟨Rect.unit (s := S2048x1024) ![0, 0] S2048x1024.size inb_S2048x1024_S2048x1024_0_0, w⟩] ?_ y ?_
  · exact (read_oM _ y).symm.trans h
  · intro p hp x
    rw [List.mem_singleton] at hp
    subst hp
    refine congrArg w (funext fun a => Fin.ext ?_)
    match a with
    | 0 => show (x 0).val = 0 + 1 * (x 0).val; omega
    | 1 => show (x 1).val = 0 + 1 * (x 1).val; omega
  · refine ⟨_, List.mem_singleton.mpr rfl, ?_⟩
    rw [Rect.mem_set_unit]
    intro a
    match a with
    | 0 => exact ⟨Nat.zero_le _, Nat.lt_of_lt_of_eq (y 0).isLt (Nat.zero_add _).symm⟩
    | 1 => exact ⟨Nat.zero_le _, Nat.lt_of_lt_of_eq (y 1).isLt (Nat.zero_add _).symm⟩

/-- What a device holds when its run is over. -/
def fin1 (c : Dev nD) (X : XC F) (W : WC F) (K : KC F) (V : VC F) (O : OC F) : sProp 𝕄 :=
  iprop(St c (wfin c) [] [] [] ∗ bufs c X W K V ∗ (wM.view.loc (c : Thread nD τ) ↦{fullShare} O) ∗ (oM.view.loc (c : Thread nD τ) ↦{fullShare} outOf c O B)
    ∗ slotAny (F := F) false c ∗ slotAny (F := F) true c ∗ (∃ a : AC F, aM.view.loc (c : Thread nD τ) ↦{fullShare} a) ∗ bigR c fullShare 0 2048 B)

/-- Slot 0 holds the packed tile. -/
theorem tile_held (c : Dev nD) (X : XC F) (W : WC F) (K : KC F) (V : VC F) (t : TinyC F) {L : List (View.Piece (Elt F) S2x160x1152 .bf16)} (hL : L = tilesP X W K V (koffOf c)) :
    (tM.view.loc (c : Thread nD τ) ↦[tM.view.setOn (Rect.unit (s := S2x160x1152) ![0, 0, 0] S1x160x1152.size inb_S2x160x1152_S1x160x1152_0_0_0).set]{fullShare} tM.view.writes (Elt F) t L : sProp 𝕄)
      ⊢ slotPts false c (packed X W K V (koffOf c)) := by
  rw [slotPts_false, hL]
  refine Entails.of_eq (pointsTo_congr fun y hy => tiles_read X W K V (koffOf c) t y ?_)
  obtain ⟨x, hx, rfl⟩ := Finset.mem_map.mp hy
  have := (Rect.mem_set_unit.mp hx) 0
  have h0 : (x 0).val < 0 + 1 := this.2
  show (x 0).val = 0
  omega

theorem slot0_congr (f g : TinyC F) (h : ∀ y : S2x160x1152.Idx, (y 0).val = 0 → f y = g y) : slotV false f = slotV false g := by
  funext x
  have h0 : (x 0).val < 1 := (x 0).isLt
  refine h _ ?_
  show 0 + 1 * (x 0).val = 0
  omega

theorem tile_cov (c : Dev nD) (X : XC F) (W : WC F) (K : KC F) (V : VC F) (t : TinyC F) (ht : t = packed X W K V (koffOf c)) {L : List (View.Piece (Elt F) S2x160x1152 .bf16)} (hL : L = tilesP X W K V (koffOf c)) :
    tM.view.readCov L (Rect.unit (s := S2x160x1152) ![0, 0, 0] S1x160x1152.size inb_S2x160x1152_S1x160x1152_0_0_0).toLoadRect = slotV false t := by
  subst hL ht
  exact slot0_congr (tM.view.writes (Elt F) tM.view.junk (tilesP X W K V (koffOf c))) _ (fun y h0 => tiles_read X W K V (koffOf c) _ y h0)

set_option pp.maxSteps 400 in
set_option maxHeartbeats 4000000 in
theorem body_run (c : Dev nD) (X : XC F) (W : WC F) (K : KC F) (V : VC F) (O : OC F) (f : RC F) (t : TinyC F) (a : AC F)
    (hT : Flat T) (hc : T c = packed X W K V (koffOf c)) (hB : c = 0 → B = ctx (acc3 T 0) X W K V) (Q : PUnit → sProp (MT nD τ sig ℕ (Elt F) ℕ UU ℕ)) :
    iprop(recs T B N ∗ reached ER (kcell (c, 3)) 0 ∗ reached ER (kcell (nxt c, 6)) 0 ∗ St c [] (Tk0 c) (D0 c) (C0 c) ∗ barT (F := F) (prv c) ∗ barF (F := F) (nxt c) ∗ big0 (F := F) c
      ∗ bufs c X W K V ∗ (wM.view.loc (c : Thread nD τ) ↦{fullShare} O) ∗ (oM.view.loc (c : Thread nD τ) ↦{fullShare} f)
      ∗ slotPts false c t ∗ (aM.view.loc (c : Thread nD τ) ↦{fullShare} a))
    ⊢ iprop((fin1 B c X W K V O -∗ Q ⟨⟩) -∗ wp frame (wpE (defs₀ (F := F)) 𝒱₀ (c : Thread nD τ) none) Set.univ (cc0_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) Q) := by
  have hm : c = 0 → ∀ y : S2048x1024.Idx, 32 ≤ (y 0).val → (y 0).val < 1920 → B y = mid X W K V y := fun h y h1 h2 => by
    rw [hB h]; exact ctx_mid _ _ _ _ _ y h1 h2
  unfold bufs
  rw [slotPts_false]
  iintro ⟨#HR, #Hr3, #Hr6, HS, HbT, HbF, Hbig, ⟨HX, HW, HK, HV⟩, HO, HF, Ht, Ha⟩ Hk
  simp -proj only [cc0_body_eq_skeleton]; unfold cc0_body_skel
  rw [wp_bind]
  iapply (part46_run T B N c _) $$ [HS HbT HbF]
  · isplitr; · iexact HR
    isplitl [HS]; · iexact HS
    isplitl [HbT]; · iexact HbT
    iexact HbF
  iintro %v13 %v24 ⟨HS, HbT, HbF⟩
  sl_exec
  ihave Ht := (tile_held c X W K V t (show body_run.sl.Ht_18 c X W K V = tilesP X W K V (koffOf c) from rfl)) $$ Ht
  rw [acc_write, ← hc]
  have hv : body_run.sl.v372 c X W K V = slotV false (T c) := tile_cov c X W K V (T c) hc (show body_run.sl.Ht_18 c X W K V = tilesP X W K V (koffOf c) from rfl)
  have ha : k0_pay197 (body_run.sl.v372 c X W K V) = acc0 T c := by rw [hv]; rfl
  rw [ha]
  ihave HbT := (Entails.of_eq (barT_eq c)) $$ HbT
  icases HbT with ⟨Hn, Hg⟩
  iapply (send_slot0 (T := T) (B := B) N c c hT 3 6 0 0 0 (Tk := Tk1' c) (D := D1' c) (dev3_eq c) rfl rfl (by rw [show dts c ((3 : Fin 43) : ℕ) 0 = {false} from (dR c).2.2.1]; decide)
      (by rw [show dts (nxt c) ((6 : Fin 43) : ℕ) 0 = {false} from (dR (nxt c)).2.2.2.2.2.2.1]; decide) (by decide) (by decide) .rfl
      (Entails.of_eq (show slotPts true (nxt c) (T c) = pay T B (nxt c) ((6 : Fin 43) : ℕ) 0 false from by show _ = slotPts true (nxt c) (T (prv (nxt c))); rw [prv_nxt]))) $$ [HS Ht Hn]
  · isplitr; · iexact HR
    isplitr; · iexact Hr3
    isplitr; · iexact Hr6
    isplitl [Ht]; · iexact Ht
    isplitl [Hn]; · iexact Hn
    iexact HS
  iintro HS
  simp -proj only [Prog.bind]
  ihave HZ := (zr_start c) $$ [Hg HbF Hbig]
  · isplitl [Hg]; · iexact Hg
    isplitl [HbF]; · iexact HbF
    iexact Hbig
  ihave HB := (show iprop((xM.view.loc (c : Thread nD τ) ↦{fullShare} X) ∗ (qM.view.loc (c : Thread nD τ) ↦{fullShare} W) ∗ (kM.view.loc (c : Thread nD τ) ↦{fullShare} K)
      ∗ (vM.view.loc (c : Thread nD τ) ↦{fullShare} V)) ⊢ bufs c X W K V from by unfold bufs; exact .rfl) $$ [HX HW HK HV]
  · isplitl [HX]; · iexact HX
    isplitl [HW]; · iexact HW
    isplitl [HK]; · iexact HK
    iexact HV
  have n0 : body_run.sl.r_2 c X W K V = num0 X W K V (koffOf c) 0 := rfl
  have s0 : body_run.sl.r_3 c X W K = sum0 X W K (koffOf c) 0 := rfl
  have n1 : body_run.sl.r_6 c X W K V = num0 X W K V (koffOf c) 1 := rfl
  have s1 : body_run.sl.r_7 c X W K = sum0 X W K (koffOf c) 1 := rfl
  have n2 : body_run.sl.r_8 c X W K V = num0 X W K V (koffOf c) 2 := rfl
  have s2 : body_run.sl.r_9 c X W K = sum0 X W K (koffOf c) 2 := rfl
  have n3 : body_run.sl.r_10 c X W K V = num0 X W K V (koffOf c) 3 := rfl
  have s3 : body_run.sl.r_11 c X W K = sum0 X W K (koffOf c) 3 := rfl
  have n4 : body_run.sl.r_13 c X W K V = num0 X W K V (koffOf c) 4 := rfl
  have s4 : body_run.sl.r_14 c X W K = sum0 X W K (koffOf c) 4 := rfl
  have n5 : body_run.sl.r_15 c X W K V = num0 X W K V (koffOf c) 5 := rfl
  have s5 : body_run.sl.r_16 c X W K = sum0 X W K (koffOf c) 5 := rfl
  have n6 : body_run.sl.r_17 c X W K V = num0 X W K V (koffOf c) 6 := rfl
  have s6 : body_run.sl.r_19 c X W K = sum0 X W K (koffOf c) 6 := rfl
  have n7 : body_run.sl.r_20 c X W K V = num0 X W K V (koffOf c) 7 := rfl
  have s7 : body_run.sl.r_21 c X W K = sum0 X W K (koffOf c) 7 := rfl
  rw [n0, s0, n1, s1, n2, s2, n3, s3, n4, s4, n5, s5, n6, s6, n7, s7]
  rw [Prog.pure_eq_ret, wp_ret]; imodintro
  rw [wp_bind]
  iapply (part57_run T B N X W K V c hm v13 v24 _ _ _ _ _ _ _ _ _ _ _ _ _ _ _ _ _ _ (tops_all X W K V c) _) $$ [HS HZ HB Ha]
  · isplitr; · iexact HR
    isplitl [HS]; · iexact HS
    isplitl [HZ]; · iexact HZ
    isplitl [HB]; · iexact HB
    iexact Ha
  iintro ⟨HS, HZ, Ht, #Hr6', #Hr3', HB, Ha⟩
  rw [wp_bind]
  iapply (part58_run T B N X W K V hT c hm _ _ _) $$ [HS HZ Ht HB Ha]
  · isplitr; · iexact HR
    isplitl [HS]; · iexact HS
    isplitl [HZ]; · iexact HZ
    isplitl [Ht]; · iexact Ht
    isplitl [HB]; · iexact HB
    iexact Ha
  iintro ⟨HS, HZ, Ht, HB, Ha⟩
  rw [wp_bind]
  iapply (part59_run T B N c _ _ _) $$ [HS Ht Ha]
  · isplitr; · iexact HR
    isplitl [HS]; · iexact HS
    isplitl [Ht]; · iexact Ht
    isplitr; · iexact Hr6'
    iexact Ha
  iintro ⟨HS, Ht, Hn, #Hrn, Ha⟩
  rw [wp_bind]
  iapply (part60_run T B N X W K V hT c hm _ _ _) $$ [HS HZ Ht Hn HB Ha]
  · isplitr; · iexact HR
    isplitl [HS]; · iexact HS
    isplitl [HZ]; · iexact HZ
    isplitl [Ht]; · iexact Ht
    isplitl [Hn]; · iexact Hn
    isplitr; · iexact Hr3'
    isplitr; · iexact Hrn
    isplitl [HB]; · iexact HB
    iexact Ha
  iintro ⟨HS, HZ, Hs0, Hs1, HB, Ha⟩
  rcases dev_cases c with hd | hd | hd | hd
  · subst hd
    have hC : k0_cond4 0 = 1#1 := by decide +kernel
    have hC5 : ¬ k0_cond5 0 = 1#1 := by decide +kernel
    have hC6 : ¬ k0_cond6 0 = 1#1 := by decide +kernel
    have hC7 : ¬ Scalar.cmpi .ne (Scalar.extui (Scalar.cmpi .eq (rank 0) 2#32)) 0#32 = 1#1 := by decide +kernel
    simp -proj only [dif_pos hC, dif_neg hC5, dif_neg hC6, dif_neg hC7]
    ihave HZ := (Entails.of_eq (Zr_zero 0 rfl (P3 X W K V))) $$ HZ
    simp -proj only [P3, gL, lsep, List.foldr_cons, List.foldr_nil]
    icases HZ with ⟨⟨Hg01, Hg71, -⟩, ⟨Hg73, Hg03, -⟩, ⟨%g0, Hb0, %h0⟩, ⟨%g1, Hb1, %h1⟩, %g2, Hb2⟩
    rw [wp_bind]
    iapply (part30_run (acc3 T 0) X W K V T B N O (hB rfl) hC g0 g1 g2 h0 h1 _) $$ [HS HO Ha Hb0 Hb1 Hb2 Hg01 Hg71 Hg73 Hg03]
    · isplitr; · iexact HR
      isplitl [HS]; · iexact HS
      isplitl [HO]; · iexact HO
      isplitl [Ha]; · iexact Ha
      isplitl [Hb0]; · iexact Hb0
      isplitl [Hb1]; · iexact Hb1
      isplitl [Hb2]; · iexact Hb2
      isplitl [Hg01]; · iexact Hg01
      isplitl [Hg71]; · iexact Hg71
      isplitl [Hg73]; · iexact Hg73
      iexact Hg03
    iintro ⟨HS, HO, Ha, Hbig⟩
    sl_exec
    rw [out_write]
    rw [wp_ret]; imodintro
    iapply Hk
    unfold fin1
    isplitl [HS]; · iexact HS
    isplitl [HB]; · iexact HB
    isplitl [HO]; · iexact HO
    isplitl [HF]; · iexact HF
    isplitl [Hs0]; · iexact Hs0
    isplitl [Hs1]; · unfold slotAny; iexists _; iexact Hs1
    isplitl [Ha]; · iexists _; iexact Ha
    iexact Hbig
  · subst hd
    have hC4 : ¬ k0_cond4 1 = 1#1 := by decide +kernel
    have hC : k0_cond5 1 = 1#1 := by decide +kernel
    have hC6 : ¬ k0_cond6 1 = 1#1 := by decide +kernel
    have hC7 : ¬ Scalar.cmpi .ne (Scalar.extui (Scalar.cmpi .eq (rank 1) 2#32)) 0#32 = 1#1 := by decide +kernel
    simp -proj only [dif_pos hC, dif_neg hC4, dif_neg hC6, dif_neg hC7]
    ihave HZ := (Entails.of_eq (show Zr (1 : Dev nD) (P3 X W K V) = iprop(giftT (F := F) 1 ∗ barF (F := F) 1) from if_neg (by decide))) $$ HZ
    icases HZ with ⟨HgT, HgF⟩
    ihave Hg := (Entails.of_eq (show giftT (F := F) 1 = (lsep [1, 2, 3, 0] (fun k : Fin 4 => chAny (F := F) ⟨k.val, by omega⟩ 2) : sProp 𝕄) from by unfold giftT; rw [if_neg (by decide), if_pos rfl]; exact gifts4 2 _ [1, 2, 3, 0] (by decide) (by decide))) $$ HgT
    simp -proj only [lsep, List.foldr_cons, List.foldr_nil]
    icases Hg with ⟨Hg1, Hg2, Hg3, Hg4, -⟩
    rw [wp_bind]
    iapply (part36_run T B N O hC f _) $$ [HS HO HF Hg1 Hg2 Hg3 Hg4]
    · isplitr; · iexact HR
      isplitl [HS]; · iexact HS
      isplitl [HO]; · iexact HO
      isplitl [HF]; · iexact HF
      isplitl [Hg1]; · iexact Hg1
      isplitl [Hg2]; · iexact Hg2
      isplitl [Hg3]; · iexact Hg3
      iexact Hg4
    iintro ⟨HS, HO, HF, Hc0, Hc1, Hc2, Hc3, Hc4, Hc5, Hc6, Hc7⟩
    simp -proj only [Prog.lift, Prog.bind_op, Prog.bind_ret, Prog.pure_eq_ret]
    iapply (step_waitD T B N 1 34 0 0 (src := (bM.slice (Rect.unit (s := S2048x1024) ![768, 0] S256x1024.size inb_S2048x1024_S256x1024_768_0) (fun _ => rfl))) (dst := (bM.slice (Rect.unit (s := S2048x1024) ![768, 0] S256x1024.size inb_S2048x1024_S256x1024_768_0) (fun _ => rfl))) (w := [33, 32, 31, 30, 23, 29, 28, 27, 26, 25, 24, 6, 3, 1, 5, 4, 0, 6, 3, 2]) (Tk := []) (D := []) [] [] (by decide) (by decide) (by decide) (by decide) ((NB_chM 3).trans (am_big 34 (by decide)).symm) rfl (by decide)) $$ [HS]
    · isplitr; · iexact HR
      iexact HS
    iintro ⟨HS, -, Hp⟩
    ihave Hl := (Entails.of_eq (show pay T B 1 ((34 : Fin 43) : ℕ) 0 false = (chPts 3 1 fullShare.left B : sProp 𝕄) from rfl)) $$ Hp
    ihave Hr := (Entails.of_eq (chPts_rows 3 1 fullShare.right B).symm) $$ Hc3
    ihave Hc3 := (fwd_join B 3 1) $$ [Hl Hr]
    · isplitl [Hl]; · iexact Hl
      iexact Hr
    try simp -proj only [Prog.bind, Prog.pure_eq_ret]
    rw [wp_ret]; imodintro
    iapply Hk
    unfold fin1
    isplitl [HS]; · iexact HS
    isplitl [HB]; · iexact HB
    isplitl [HO]; · iexact HO
    isplitl [HF]; · iexact HF
    isplitl [Hs0]; · iexact Hs0
    isplitl [Hs1]; · unfold slotAny; iexists _; iexact Hs1
    isplitl [Ha]; · iexists _; iexact Ha
    iapply (chunks_whole B 1 fullShare)
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  · subst hd
    have hC4 : ¬ k0_cond4 3 = 1#1 := by decide +kernel
    have hC5 : ¬ k0_cond5 3 = 1#1 := by decide +kernel
    have hC : k0_cond6 3 = 1#1 := by decide +kernel
    have hC7 : ¬ Scalar.cmpi .ne (Scalar.extui (Scalar.cmpi .eq (rank 3) 2#32)) 0#32 = 1#1 := by decide +kernel
    simp -proj only [dif_pos hC, dif_neg hC4, dif_neg hC5, dif_neg hC7]
    ihave HZ := (Entails.of_eq (show Zr (3 : Dev nD) (P3 X W K V) = iprop(giftT (F := F) 3 ∗ barF (F := F) 3) from if_neg (by decide))) $$ HZ
    icases HZ with ⟨HgT, HgF⟩
    ihave Hg := (Entails.of_eq (show barF (F := F) 3 = (lsep [0, 1, 2, 3] (fun k : Fin 4 => chAny (F := F) ⟨k.val + 4, by omega⟩ 2) : sProp 𝕄) from by unfold barF; rw [if_neg (by decide), if_pos rfl]; exact gifts4 2 _ [0, 1, 2, 3] (by decide) (by decide))) $$ HgF
    simp -proj only [lsep, List.foldr_cons, List.foldr_nil]
    icases Hg with ⟨Hg1, Hg2, Hg3, Hg4, -⟩
    rw [wp_bind]
    iapply (part42_run T B N O hC f _) $$ [HS HO HF Hg1 Hg2 Hg3 Hg4]
    · isplitr; · iexact HR
      isplitl [HS]; · iexact HS
      isplitl [HO]; · iexact HO
      isplitl [HF]; · iexact HF
      isplitl [Hg1]; · iexact Hg1
      isplitl [Hg2]; · iexact Hg2
      isplitl [Hg3]; · iexact Hg3
      iexact Hg4
    iintro ⟨HS, HO, HF, Hc0, Hc1, Hc2, Hc3, Hc4, Hc5, Hc6, Hc7⟩
    simp -proj only [Prog.lift, Prog.bind_op, Prog.bind_ret, Prog.pure_eq_ret]
    iapply (step_waitD T B N 3 34 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [33, 32, 31, 30, 23, 29, 28, 27, 26, 25, 24, 6, 3, 1, 5, 4, 0, 6, 3, 2]) (Tk := []) (D := []) [] [] (by decide) (by decide) (by decide) (by decide) ((NB_chM 7).trans (am_big 34 (by decide)).symm) rfl (by decide)) $$ [HS]
    · isplitr; · iexact HR
      iexact HS
    iintro ⟨HS, -, Hp⟩
    ihave Hl := (Entails.of_eq (show pay T B 3 ((34 : Fin 43) : ℕ) 0 false = (chPts 7 3 fullShare.left B : sProp 𝕄) from rfl)) $$ Hp
    ihave Hr := (Entails.of_eq (chPts_rows 7 3 fullShare.right B).symm) $$ Hc7
    ihave Hc7 := (fwd_join B 7 3) $$ [Hl Hr]
    · isplitl [Hl]; · iexact Hl
      iexact Hr
    try simp -proj only [Prog.bind, Prog.pure_eq_ret]
    rw [wp_ret]; imodintro
    iapply Hk
    unfold fin1
    isplitl [HS]; · iexact HS
    isplitl [HB]; · iexact HB
    isplitl [HO]; · iexact HO
    isplitl [HF]; · iexact HF
    isplitl [Hs0]; · iexact Hs0
    isplitl [Hs1]; · unfold slotAny; iexists _; iexact Hs1
    isplitl [Ha]; · iexists _; iexact Ha
    iapply (chunks_whole B 3 fullShare)
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  · subst hd
    have hC4 : ¬ k0_cond4 2 = 1#1 := by decide +kernel
    have hC5 : ¬ k0_cond5 2 = 1#1 := by decide +kernel
    have hC6 : ¬ k0_cond6 2 = 1#1 := by decide +kernel
    have hC : Scalar.cmpi .ne (Scalar.extui (Scalar.cmpi .eq (rank 2) 2#32)) 0#32 = 1#1 := by decide +kernel
    simp -proj only [dif_pos hC, dif_neg hC4, dif_neg hC5, dif_neg hC6]
    rw [wp_bind]
    iapply (part43_run T B N O f (w := [6, 3, 1, 5, 4, 0, 6, 3, 2]) (Tk := []) (C := [(2, 38, 0), (2, 39, 0), (2, 40, 0), (2, 41, 0), (2, 35, 0), (2, 42, 0)]) (by decide) (by decide) _) $$ [HS HO HF]
    · isplitr; · iexact HR
      isplitl [HS]; · iexact HS
      isplitl [HO]; · iexact HO
      iexact HF
    iintro ⟨HS, HO, HF, Hc1, Hc2⟩
    rw [wp_bind]
    iapply (part44_run T B N O _ (w := [37, 36, 6, 3, 1, 5, 4, 0, 6, 3, 2]) (Tk := []) (C := [(2, 40, 0), (2, 41, 0), (2, 35, 0), (2, 42, 0)]) (by decide) (by decide) _) $$ [HS HO HF]
    · isplitr; · iexact HR
      isplitl [HS]; · iexact HS
      isplitl [HO]; · iexact HO
      iexact HF
    iintro ⟨HS, HO, HF, Hc3, Hc4⟩
    rw [wp_bind]
    iapply (part45_run T B N O _ _ _ (w := [39, 38, 37, 36, 6, 3, 1, 5, 4, 0, 6, 3, 2]) (Tk := []) (C := [(2, 35, 0), (2, 42, 0)]) (by decide) (by decide) _) $$ [HS HO HF]
    · isplitr; · iexact HR
      isplitl [HS]; · iexact HS
      isplitl [HO]; · iexact HO
      iexact HF
    iintro ⟨HS, HO, HF, Hc5, Hc6⟩
    simp -proj only [Prog.lift, Prog.bind_op, Prog.bind_ret, Prog.pure_eq_ret]
    iapply (step_waitD T B N 2 35 0 0 (src := (bM.slice (Rect.unit (s := S2048x1024) ![0, 0] S256x1024.size inb_S2048x1024_S256x1024_0_0) (fun _ => rfl))) (dst := (bM.slice (Rect.unit (s := S2048x1024) ![0, 0] S256x1024.size inb_S2048x1024_S256x1024_0_0) (fun _ => rfl))) (w := [41, 40, 39, 38, 37, 36, 6, 3, 1, 5, 4, 0, 6, 3, 2]) (Tk := []) (D := []) [] [(2, 42, 0)] (by decide) (by decide) (by decide) (by decide) ((NB_chM 0).trans (am_big 35 (by decide)).symm) rfl (by decide)) $$ [HS]
    · isplitr; · iexact HR
      iexact HS
    iintro ⟨HS, -, Hp⟩
    ihave Hc0 := (Entails.of_eq (show pay T B 2 ((35 : Fin 43) : ℕ) 0 false = (bigR 2 fullShare 0 256 B (by decide) : sProp 𝕄) from chPts_rows 0 2 fullShare B)) $$ Hp
    unfold bigR rows
    sl_exec
    iapply (step_waitD T B N 2 42 0 0 (src := (bM.slice (Rect.unit (s := S2048x1024) ![1792, 0] S256x1024.size inb_S2048x1024_S256x1024_1792_0) (fun _ => rfl))) (dst := (bM.slice (Rect.unit (s := S2048x1024) ![1792, 0] S256x1024.size inb_S2048x1024_S256x1024_1792_0) (fun _ => rfl))) (w := [35, 41, 40, 39, 38, 37, 36, 6, 3, 1, 5, 4, 0, 6, 3, 2]) (Tk := []) (D := []) [] [] (by decide) (by decide) (by decide) (by decide) ((NB_chM 7).trans (am_big 42 (by decide)).symm) rfl (by decide)) $$ [HS]
    · isplitr; · iexact HR
      iexact HS
    iintro ⟨HS, -, Hp⟩
    ihave Hc7 := (Entails.of_eq (show pay T B 2 ((42 : Fin 43) : ℕ) 0 false = (bigR 2 fullShare 1792 256 B (by decide) : sProp 𝕄) from chPts_rows 7 2 fullShare B)) $$ Hp
    unfold bigR rows
    sl_exec
    rw [wp_ret]; imodintro
    iapply Hk
    unfold fin1
    isplitl [HS]; · iexact HS
    isplitl [HB]; · iexact HB
    isplitl [HO]; · iexact HO
    isplitl [HF]; · iapply (Entails.of_eq (congrArg (fun g => (oM.view.loc ((2 : Dev nD) : Thread nD τ) ↦{fullShare} g : sProp 𝕄)) (outs_eq O B f))); iexact HF
    isplitl [Hs0]; · iexact Hs0
    isplitl [Hs1]; · unfold slotAny; iexists _; iexact Hs1
    isplitl [Ha]; · iexists _; iexact Ha
    iapply (chunks_whole B 2 fullShare)
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7

end
end Cert.Ring
end
-- ==== Proof.Mem.lean ====
module

public import proofs.«01_k».proof.Proof.Run
public import proofs.«01_k».proof.Proof.Gen.KernelIdeal.Launch
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What a device hands its neighbours at the entrance, out of its own scratch buffers -/

theorem rows_all : rows 0 2048 (by decide) = Finset.univ := by
  ext y; rw [mem_rows]
  have : (y 0).val < 2048 := (y 0).isLt
  exact ⟨fun _ => Finset.mem_univ _, fun _ => ⟨Nat.zero_le _, by omega⟩⟩

theorem big_whole (c : Dev nD) (f : BigC F) : (bigR c fullShare 0 2048 f : sProp 𝕄) = (bM.view.loc (c : Thread nD τ) ↦{fullShare} f) := by
  unfold bigR; rw [rows_all]

/-- The whole buffer is its eight chunks. -/
theorem chunks_of (c : Dev nD) (f : BigC F) :
    (bigR c fullShare 0 2048 f : sProp 𝕄) ⊢ lsep [0, 1, 2, 3, 4, 5, 6, 7] fun k : Fin 8 => chAny k c := by
  rw [bigR_split c fullShare 0 256 1792 f (by decide), bigR_split c fullShare 256 256 1536 f (by decide), bigR_split c fullShare 512 256 1280 f (by decide),
    bigR_split c fullShare 768 256 1024 f (by decide), bigR_split c fullShare 1024 256 768 f (by decide), bigR_split c fullShare 1280 256 512 f (by decide),
    bigR_split c fullShare 1536 256 256 f (by decide)]
  have hk : ∀ k : Fin 8, bigR c fullShare (256 * k.val) 256 f (by omega) ⊢ (chAny k c : sProp 𝕄) := fun k => by
    rw [← chPts_rows]; unfold chAny; iintro H; iexists f; iexact H
  simp only [lsep_cons, show ∀ Φ : Fin 8 → sProp (MT nD τ sig ℕ (Elt F) ℕ UU ℕ), lsep [] Φ = iprop(emp) from fun _ => rfl, show ∀ Φ : Fin 4 → sProp (MT nD τ sig ℕ (Elt F) ℕ UU ℕ), lsep [] Φ = iprop(emp) from fun _ => rfl]
  iintro ⟨H0, H1, H2, H3, H4, H5, H6, H7⟩
  isplitl [H0]; · iapply (hk 0); iexact H0
  isplitl [H1]; · iapply (hk 1); iexact H1
  isplitl [H2]; · iapply (hk 2); iexact H2
  isplitl [H3]; · iapply (hk 3); iexact H3
  isplitl [H4]; · iapply (hk 4); iexact H4
  isplitl [H5]; · iapply (hk 5); iexact H5
  isplitl [H6]; · iapply (hk 6); iexact H6
  isplitl [H7]; · iapply (hk 7); iexact H7
  iempintro

/-- A device's context buffer, given to whichever neighbours write it. -/
theorem big_give (c : Dev nD) (f : BigC F) :
    (bigR c fullShare 0 2048 f : sProp 𝕄) ⊢ iprop(giftT (F := F) (prv c) ∗ barF (F := F) (nxt c) ∗ big0 (F := F) c) := by
  unfold giftT barF big0
  rcases dev_cases c with rfl | rfl | rfl | rfl
  · rw [if_neg (by decide), if_neg (by decide), if_neg (by decide), if_neg (by decide), if_pos rfl]
    iintro H
    isplitr; · iempintro
    isplitr; · iempintro
    iexists f; iexact H
  · rw [if_pos (by decide), if_neg (by decide), if_neg (by decide), if_neg (by decide), gifts8 1 [0, 1, 2, 3, 4, 5, 6, 7] (by decide) (by decide)]
    iintro H
    isplitl [H]; · iapply (chunks_of 1 f); iexact H
    isplitr; · iempintro
    iempintro
  · rw [if_neg (by decide), if_neg (by decide), if_pos (by decide), if_neg (by decide), gifts8 3 [0, 1, 2, 3, 4, 5, 6, 7] (by decide) (by decide)]
    iintro H
    isplitr; · iempintro
    isplitl [H]; · iapply (chunks_of 3 f); iexact H
    iempintro
  · rw [if_neg (by decide), if_pos (by decide), if_neg (by decide), if_pos (by decide), if_neg (by decide),
      gifts4 2 (fun k => ⟨k.val, by omega⟩) [0, 1, 2, 3] (by decide) (by decide), gifts4 2 (fun k => ⟨k.val + 4, by omega⟩) [0, 1, 2, 3] (by decide) (by decide)]
    iintro H
    ihave H := (chunks_of 2 f) $$ H
    simp only [lsep_cons, show ∀ Φ : Fin 8 → sProp (MT nD τ sig ℕ (Elt F) ℕ UU ℕ), lsep [] Φ = iprop(emp) from fun _ => rfl, show ∀ Φ : Fin 4 → sProp (MT nD τ sig ℕ (Elt F) ℕ UU ℕ), lsep [] Φ = iprop(emp) from fun _ => rfl]
    icases H with ⟨H0, H1, H2, H3, H4, H5, H6, H7, -⟩
    isplitl [H0 H1 H2 H3]
    · isplitl [H0]; · iexact H0
      isplitl [H1]; · iexact H1
      isplitl [H2]; · iexact H2
      isplitl [H3]; · iexact H3
      iempintro
    isplitl [H4 H5 H6 H7]
    · isplitl [H4]; · iexact H4
      isplitl [H5]; · iexact H5
      isplitl [H6]; · iexact H6
      isplitl [H7]; · iexact H7
      iempintro
    iempintro

/-! ## The two slots are the tile buffer -/

theorem inb_slot (s : ℕ) (h : s < 2) : ∀ a, ![s, 0, 0] a + S1x160x1152.size a ≤ S2x160x1152.size a := by
  rcases (by omega : s = 0 ∨ s = 1) with rfl | rfl <;> decide

theorem mem_slot (s : ℕ) (h : s < 2) (y : S2x160x1152.Idx) :
    y ∈ tM.view.setOn (Rect.unit (s := S2x160x1152) ![s, 0, 0] S1x160x1152.size (inb_slot s h)).set ↔ (y 0).val = s := by
  have h1 : (y 1).val < 160 := (y 1).isLt
  have h2 : (y 2).val < 1152 := (y 2).isLt
  have e : y ∈ tM.view.setOn (Rect.unit (s := S2x160x1152) ![s, 0, 0] S1x160x1152.size (inb_slot s h)).set ↔ y ∈ (Rect.unit (s := S2x160x1152) ![s, 0, 0] S1x160x1152.size (inb_slot s h)).set := by
    unfold View.setOn
    rw [Finset.mem_map]
    exact ⟨fun ⟨x, hx, he⟩ => by have : x = y := he; rwa [← this], fun hy => ⟨y, hy, rfl⟩⟩
  rw [e, Rect.mem_set_unit]
  constructor
  · intro ha
    have h0 : s ≤ (y 0).val ∧ (y 0).val < s + 1 := ha 0
    omega
  · intro ha a
    match a with
    | 0 => exact ⟨by show s ≤ (y 0).val; omega, by show (y 0).val < s + 1; omega⟩
    | 1 => exact ⟨Nat.zero_le _, by show (y 1).val < 0 + 160; omega⟩
    | 2 => exact ⟨Nat.zero_le _, by show (y 2).val < 0 + 1152; omega⟩

theorem slots_disj : Disjoint (tM.view.setOn (Rect.unit (s := S2x160x1152) ![0, 0, 0] S1x160x1152.size inb_S2x160x1152_S1x160x1152_0_0_0).set)
    (tM.view.setOn (Rect.unit (s := S2x160x1152) ![1, 0, 0] S1x160x1152.size inb_S2x160x1152_S1x160x1152_1_0_0).set) := by
  rw [Finset.disjoint_left]; intro y hy hy'
  have h0 := (mem_slot 0 (by decide) y).mp hy
  have h1 := (mem_slot 1 (by decide) y).mp hy'
  omega

theorem slots_union : tM.view.setOn (Rect.unit (s := S2x160x1152) ![0, 0, 0] S1x160x1152.size inb_S2x160x1152_S1x160x1152_0_0_0).set
    ∪ tM.view.setOn (Rect.unit (s := S2x160x1152) ![1, 0, 0] S1x160x1152.size inb_S2x160x1152_S1x160x1152_1_0_0).set = Finset.univ := by
  refine Finset.eq_univ_iff_forall.mpr fun y => ?_
  have h : (y 0).val < 2 := (y 0).isLt
  rw [Finset.mem_union]
  rcases (by omega : (y 0).val = 0 ∨ (y 0).val = 1) with h0 | h1
  · exact Or.inl ((mem_slot 0 (by decide) y).mpr h0)
  · exact Or.inr ((mem_slot 1 (by decide) y).mpr h1)

theorem slots_split (c : Dev nD) (f : TinyC F) : (tM.view.loc (c : Thread nD τ) ↦{fullShare} f : sProp 𝕄) ⊢ iprop(slotPts false c f ∗ slotPts true c f) := by
  rw [slotPts_false, slotPts_true]
  have h := (pointsTo_union (sig := sig) (Ix := ℕ) (Val := Elt F) (Name := ℕ) (U := UU) (Lvl := ℕ) (ℓ := tM.view.loc (c : Thread nD τ)) (q := fullShare) (f := f) slots_disj).1
  rw [slots_union] at h
  exact h

theorem slots_join (c : Dev nD) : iprop(slotAny (F := F) false c ∗ slotAny (F := F) true c) ⊢ (∃ f, tM.view.loc (c : Thread nD τ) ↦{fullShare} f : sProp 𝕄) := by
  unfold slotAny
  iintro ⟨⟨%f, Hf⟩, %g, Hg⟩
  ihave Hf := (Entails.of_eq (slotPts_false c f)) $$ Hf
  ihave Hg := (Entails.of_eq (slotPts_true c g)) $$ Hg
  ihave H := (pointsTo_join (sig := sig) (Ix := ℕ) (Val := Elt F) (Name := ℕ) (U := UU) (Lvl := ℕ) (ℓ := tM.view.loc (c : Thread nD τ)) (q := fullShare) (f := f) (g := g) slots_disj) $$ [Hf Hg]
  · isplitl [Hf] <;> iassumption
  iexists _
  iapply (Entails.of_eq (by rw [slots_union])) $$ H

/-! ## The launch credit -/

theorem dl_all : dl ((D0 0) ++ ((D0 1) ++ ((D0 2) ++ D0 3))) = dl ((C0 0) ++ ((C0 1) ++ ((C0 2) ++ C0 3))) :=
  dl_perm (by decide)

theorem C0_own (d : Dev nD) : ∀ e ∈ C0 d, e.1 = d := by revert d; decide

theorem dl_C0_ne (d : Dev nD) (g : GSem nD τ sig) (h : g.1 ≠ (d : Thread nD τ)) (i : ℕ) : dl (C0 d) g i = 0 := by
  by_contra hne
  obtain ⟨e, he, hg, -⟩ := dl_pos (Nat.pos_of_ne_zero hne)
  refine h ?_
  rw [hg, ← C0_own d e he]

theorem dl_sum (c : Dev nD) (sm : SemLoc sig) (i : ℕ) :
    (∑ d : Dev nD, dl (D0 d) ((c : Thread nD τ), sm) i) = dl (C0 c) ((c : Thread nD τ), sm) i := by
  have h := congrArg (fun t : CellTallies nD τ sig ℕ => t ((c : Thread nD τ), sm) i) dl_all
  simp only [dl_append, Pi.add_apply, Finsupp.add_apply] at h
  have e : (∑ d : Dev nD, dl (D0 d) ((c : Thread nD τ), sm) i) = dl (D0 0) ((c : Thread nD τ), sm) i + (dl (D0 1) ((c : Thread nD τ), sm) i + (dl (D0 2) ((c : Thread nD τ), sm) i + dl (D0 3) ((c : Thread nD τ), sm) i)) := by
    rw [Fin.sum_univ_four]; omega
  have n : ∀ d : Dev nD, d ≠ c → dl (C0 d) ((c : Thread nD τ), sm) i = 0 := fun d hd => dl_C0_ne d _ (fun he => hd (congrArg Prod.fst he).symm) i
  rw [e, h]
  rcases dev_cases c with rfl | rfl | rfl | rfl
  · rw [n 1 (by decide), n 2 (by decide), n 3 (by decide)]; omega
  · rw [n 0 (by decide), n 2 (by decide), n 3 (by decide)]; omega
  · rw [n 0 (by decide), n 1 (by decide), n 2 (by decide)]; omega
  · rw [n 0 (by decide), n 1 (by decide), n 3 (by decide)]; omega

theorem creds (c : Dev nD) : (Pipeline.launchCred (fun d => dl (D0 d)) c : sProp 𝕄) ⊢ cred (dl (C0 c)) := by
  rw [Pipeline.cred_core (T := dl (C0 c)) (c := c) fun g hg => by
    by_contra hne
    exact hg (Finsupp.ext fun i => dl_C0_ne c g hne i)]
  unfold Pipeline.launchCred
  refine Entails.of_eq (bigSep_congr fun sm _ => ?_)
  congr 2
  refine Finsupp.ext fun i => ?_
  rw [Pipeline.launchCredit_owing]
  exact dl_sum c sm i

end Cert.Ring
end
-- ==== Proof.Launch.lean ====
module

public import proofs.«01_k».proof.Proof.Mem
public import proofs.«01_k».proof.Proof.Gen.KernelIdeal.Launch
public import proofs.«01_k».proof.Proof.Gen.KernelIdeal.Points
public import Idealize.ShloMosaic.Lib.Rounds.Family
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (m : (ℓ : Loc nD τ sig) → Buf (Elt F) ℓ) (ρ : Dev nD → PrngReg)

def s₀ : MemSt nD τ sig (Elt F) := ⟨m, fun _ => 0, ρ⟩

/-! ## Contents -/

def Xm (c : Dev nD) : XC F := (win0_0.blk (0 : Fin 1)).view.read (Elt F) ((s₀ m ρ).mem ((c : Thread nD τ).loc main_arg0))
def Wm (c : Dev nD) : WC F := (win0_1.blk (0 : Fin 1)).view.read (Elt F) ((s₀ m ρ).mem ((c : Thread nD τ).loc main_arg1))
def Km (c : Dev nD) : KC F := (win0_2.blk (0 : Fin 1)).view.read (Elt F) ((s₀ m ρ).mem ((c : Thread nD τ).loc main_arg2))
def Vm (c : Dev nD) : VC F := (win0_3.blk (0 : Fin 1)).view.read (Elt F) ((s₀ m ρ).mem ((c : Thread nD τ).loc main_arg3))
def Om (c : Dev nD) : OC F := (win0_4.blk (0 : Fin 1)).view.read (Elt F) ((s₀ m ρ).mem ((c : Thread nD τ).loc main_arg4))
/-- The tile each device sends around, -/
def Tm (d : Dev nD) : TinyC F := packed (Xm m ρ d) (Wm m ρ d) (Km m ρ d) (Vm m ρ d) (koffOf d)
/-- and the context every device ends up holding. -/
def Bm : BigC F := ctx (acc3 (Tm m ρ) 0) (Xm m ρ 0) (Wm m ρ 0) (Km m ρ 0) (Vm m ρ 0)
def outm (c : Dev nD) : RC F := outOf c (Om m ρ c) (Bm m ρ)

theorem flat_packed (X : XC F) (W : WC F) (K : KC F) (V : VC F) (k : BitVec 32) :
    slot0.view.read (Elt F) (packed X W K V k : TinyC F) = slot1.view.read (Elt F) (packed X W K V k : TinyC F) := by
  funext x
  rfl

theorem flat_Tm : Flat (Tm m ρ) := fun d => flat_packed _ _ _ _ _

/-! ## What the body starts from and ends with -/

def start (c : Dev nD) : sProp 𝕄 :=
  iprop((∃ N, recs (Tm m ρ) (Bm m ρ) N) ∗ pos c [] ∗ lsep (Tk0 c) tk ∗ cred (dl (C0 c)))

def Φ₀ (c : Dev nD) : sProp 𝕄 :=
  iprop(start m ρ c ∗ (∃ f : BigC F, bM.view.loc (c : Thread nD τ) ↦{fullShare} f) ∗ (∃ f : TinyC F, tM.view.loc (c : Thread nD τ) ↦{fullShare} f)
    ∗ (∃ f : AC F, aM.view.loc (c : Thread nD τ) ↦{fullShare} f))

def Φ₁ (c : Dev nD) : sProp 𝕄 :=
  iprop((bigSep Finset.univ fun k : Fin 43 => semVal (kcell (c, k)) 0) ∗ (∃ f : BigC F, bM.view.loc (c : Thread nD τ) ↦{fullShare} f)
    ∗ (∃ f : TinyC F, tM.view.loc (c : Thread nD τ) ↦{fullShare} f) ∗ (∃ f : AC F, aM.view.loc (c : Thread nD τ) ↦{fullShare} f))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => Xm m ρ c
    | ⟨1, _⟩ => Wm m ρ c
    | ⟨2, _⟩ => Km m ρ c
    | ⟨3, _⟩ => Vm m ρ c
    | ⟨4, _⟩ => Om m ρ c
    | ⟨5, _⟩ => outm m ρ c
  Φ t := match t with
    | ⟨0, _⟩ => Φ₀ m ρ c
    | ⟨_ + 1, _⟩ => Φ₁ (F := F) c
  q _ := fullShare
  owed t := match t with
    | ⟨0, _⟩ => dl (D0 c)
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt 0 t0_0.succ ∗ stg c cc0_stg0_0 (Xm m ρ c) ∗ stg c cc0_stg1_0 (Wm m ρ c) ∗ stg c cc0_stg2_0 (Km m ρ c)
    ∗ stg c cc0_stg3_0 (Vm m ρ c) ∗ stg c cc0_stg4_0 (Om m ρ c) ∗ stg c cc0_stg5_0 (outm m ρ c))

/-- The positions at the end close every cell of the device. -/
theorem close_cells (N : Dev nD × Fin 43 → ℕ) (c : Dev nD) :
    iprop(recs (Tm m ρ) (Bm m ρ) N ∗ pos c (wfin c)) ⊢ (|={Set.univ}=> bigSep Finset.univ fun k : Fin 43 => semVal (kcell (c, k)) 0 : sProp 𝕄) := by
  have hb : iprop(recs (Tm m ρ) (Bm m ρ) N ∗ pos c (wfin c))
      ⊢ (bigSep Finset.univ fun k : Fin 43 => iprop(cellInv ER (Rd (Tm m ρ) (Bm m ρ)) (N (c, k)) (kcell (c, k)) ∗ atPos ER (kcell (c, k)) (rounds c k) ∅ 0) : sProp 𝕄) := by
    unfold pos
    refine (sep_mono_left (BI.bigSep_of_persistent (Finset.univ : Finset (Fin 43)) _)).trans ?_
    rw [← bigSep_sep']
    refine bigSep_mono fun k _ => ?_
    rw [wfin_count]
    exact sep_mono_left (inv_at N (c, k))
  exact hb.trans (Rounds.cells_close ER (Rd (Tm m ρ) (Bm m ρ)) Finset.univ (fun k => kcell (c, k)) (fun k => N (c, k)) (fun k _ => Set.mem_univ _) (fun k _ h => h)
    (fun k => rounds c k) (fun k _ r h => duties_later (Tm m ρ) (Bm m ρ) c k r h))

set_option maxHeartbeats 1000000 in
theorem sound_body (c : Dev nD) :
    bodyPre m ρ c ⊢ wp frame (wpE (defs₀ (F := F)) 𝒱₀ (c : Thread nD τ) none) Set.univ (cc0_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) (fun _ => bodyPost m ρ c) := by
  refine BIBase.Entails.trans ?_ (wp_fupd frame (wpE (defs₀ (F := F)) 𝒱₀ (c : Thread nD τ) none) Set.univ _ (fun _ => bodyPost m ρ c))
  unfold bodyPre Φ₀ start
  iintro ⟨⟨⟨⟨%N, #HR⟩, Hpos, Htk, Hcr⟩, ⟨%fb, Hb⟩, ⟨%ft, Ht⟩, ⟨%fa, Ha⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = Xm m ρ c := by rw [hg0]; unfold Dat.before; rw [if_pos (fetch0_0 t0_0)]; rfl
  have h1 : g1 = Wm m ρ c := by rw [hg1]; unfold Dat.before; rw [if_pos (fetch0_1 t0_0)]; rfl
  have h2 : g2 = Km m ρ c := by rw [hg2]; unfold Dat.before; rw [if_pos (fetch0_2 t0_0)]; rfl
  have h3 : g3 = Vm m ρ c := by rw [hg3]; unfold Dat.before; rw [if_pos (fetch0_3 t0_0)]; rfl
  have h4 : g4 = Om m ρ c := by rw [hg4]; unfold Dat.before; rw [if_pos (fetch0_4 t0_0)]; rfl
  subst h0 h1 h2 h3 h4
  unfold Dat.owesAt Pipeline.owesWithin
  icases Ho with ⟨%W, %hW, HO⟩
  rw [show (dats m ρ 0 c).owed t0_0.castSucc = dl (D0 c) from rfl]
  ihave Hb := (Entails.of_eq (big_whole c fb).symm) $$ Hb
  ihave Hb := (big_give c fb) $$ Hb
  icases Hb with ⟨HgT, HbF, Hb0⟩
  ihave Ht := (slots_split c ft) $$ Ht
  icases Ht with ⟨Ht0, Ht1⟩
  iapply (body_run (Tm m ρ) (Bm m ρ) N c (Xm m ρ c) (Wm m ρ c) (Km m ρ c) (Vm m ρ c) (Om m ρ c) g5 ft fa (flat_Tm m ρ) rfl (fun h => by subst h; rfl) _)
    $$ [Hpos Htk Hcr HO HgT HbF Hb0 Ht0 Ht1 Ha H0 H1 H2 H3 H4 H5]
  · isplitr; · iexact HR
    isplitr; · iapply (reached_at N (c, 3)); iexact HR
    isplitr; · iapply (reached_at N (nxt c, 6)); iexact HR
    isplitl [Hpos Htk Hcr HO]
    · unfold St
      iexists W
      isplitl [HO]; · iexact HO
      isplitl [Hpos]; · iexact Hpos
      isplitl [Htk]; · iexact Htk
      iexact Hcr
    isplitl [HgT Ht1]
    · rw [barT_eq, nxt_prv]
      isplitl [Ht1]; · unfold slotAny; iexists ft; iexact Ht1
      iexact HgT
    isplitl [HbF]; · iexact HbF
    isplitl [Hb0]; · iexact Hb0
    isplitl [H0 H1 H2 H3]
    · isplitl [H0]; · iexact H0
      isplitl [H1]; · iexact H1
      isplitl [H2]; · iexact H2
      iexact H3
    isplitl [H4]; · iexact H4
    isplitl [H5]; · iexact H5
    isplitl [Ht0]; · iexact Ht0
    iexact Ha
  unfold fin1 St bufs
  iintro ⟨⟨%W', HO, Hpos, -, -⟩, ⟨H0, H1, H2, H3⟩, H4, H5, Hs0, Hs1, Ha, Hb⟩
  imod (close_cells m ρ N c) $$ [Hpos] with Hz
  · isplitr; · iexact HR
    iexact Hpos
  imodintro
  unfold bodyPost Φ₁ Dat.owesAt Pipeline.owesWithin
  rw [show (dats m ρ 0 c).owed t0_0.succ = 0 from rfl]
  isplitl [Hz Hs0 Hs1 Ha Hb]
  · isplitl [Hz]; · iexact Hz
    isplitl [Hb]; · iexists (Bm m ρ); iapply (Entails.of_eq (big_whole c (Bm m ρ))); iexact Hb
    isplitl [Hs0 Hs1]
    · iapply (slots_join (F := F) c)
      isplitl [Hs0] <;> iassumption
    iexact Ha
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 8000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0_body xM (Memref.isWhole_whole _) qM (Memref.isWhole_whole _) kM (Memref.isWhole_whole _) vM (Memref.isWhole_whole _) wM (Memref.isWhole_whole _) oM (Memref.isWhole_whole _) bM (Memref.isWhole_whole _) tM (Memref.isWhole_whole _) aM (Memref.isWhole_whole _) cc0_scratch3 cc0_scratch4 cc0_scratch5 cc0_scratch6 cc0_scratch7 cc0_scratch8 cc0_scratch9 cc0_scratch10 cc0_scratch11) (fun _ => bodyPost m ρ c)
  exact sound_body m ρ c

/-! ## The launch -/

/-- The kernel's own semaphores: every one of the protocol's but the barrier. -/
def osem (k : Fin 42) : SemLoc sig := ks ((2 : Fin 43).succAbove k)

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

def allTk : List Tok := Tk0 0 ++ (Tk0 1 ++ (Tk0 2 ++ Tk0 3))
theorem allTk_nodup : allTk.Nodup := by decide +kernel

def tokOf (t : Tok) : GSem nD τ sig × ℕ × Bool := (kcell (t.1, t.2.1), t.2.2.1, t.2.2.2)
theorem tokOf_injective : Function.Injective tokOf := by
  rintro ⟨c, k, r, d⟩ ⟨c', k', r', d'⟩ h
  have h1 := kcell_injective (congrArg Prod.fst h)
  have h2 : (r, d) = (r', d') := congrArg Prod.snd h
  cases h1; cases h2; rfl
def ringToks : Finset (GSem nD τ sig × ℕ × Bool) := allTk.toFinset.map ⟨tokOf, tokOf_injective⟩

def u₀ : UU :=
  (initOf (Pipeline.cells cfgs cellOf_inj) (Pipeline.launchToks cfgs cellOf_inj), initOf ringCells ringToks)

/-- What the launch element deals device `c`: its cells at round 0, its positions, and the tokens of the duties it pays. -/
def G (c : Dev nD) : sProp 𝕄 :=
  iprop((bigSep Finset.univ fun k : Fin 43 => roundState ER (Rd (Tm m ρ) (Bm m ρ)) (kcell (c, k)) 0)
    ∗ (bigSep Finset.univ fun k : Fin 43 => iprop(atPos ER (kcell (c, k)) 0 ∅ 0 ∗ reached ER (kcell (c, k)) 0)) ∗ lsep (Tk0 c) tk)

def records (N : Dev nD × Fin 43 → ℕ) : sProp 𝕄 :=
  iprop((bigSep Finset.univ fun ck : Dev nD × Fin 43 => cellInv ER (Rd (Tm m ρ) (Bm m ρ)) (N ck) (kcell ck))
    ∗ bigSep Finset.univ fun ck : Dev nD × Fin 43 => reached ER (kcell ck) 0)
instance records_persistent (N : Dev nD × Fin 43 → ℕ) : BI.Persistent (records m ρ N) := by unfold records; infer_instance

def G' (c : Dev nD) : sProp 𝕄 := iprop((∃ N, records m ρ N) ∗ pos c [] ∗ lsep (Tk0 c) tk)

theorem toks_deal : bigSep ringToks (fun x => (dutyTok ER x.1 x.2.1 x.2.2 : sProp 𝕄)) = bigSep Finset.univ fun c : Dev nD => lsep (Tk0 c) tk := by
  unfold ringToks
  rw [bigSep_map]
  refine (bigSep_lsep (fun t : Tok => (tk t : sProp 𝕄)) allTk allTk_nodup).trans ?_
  unfold allTk
  rw [lsep_append, lsep_append, lsep_append]
  exact (bigSep_univ_eq_bigSepL [0, 1, 2, 3] (by decide) (by decide) (fun c : Dev nD => (lsep (Tk0 c) tk : sProp 𝕄))).symm

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 43 => Φ (kcell (c, k)) := by
    unfold ringCells; rw [bigSep_map, bigSep_univ_prod]; rfl
  iintro HX
  imod (Rounds.fund ER (Rd (Tm m ρ) (Bm m ρ)) ringCells ringToks) $$ HX with ⟨Hst, Hr, Hat, Htok⟩
  imodintro
  ihave Hst' := (Entails.of_eq (hX fun g => roundState ER (Rd (Tm m ρ) (Bm m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq toks_deal) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (kcell (c, 2)) 0 := by
  unfold unscopedSems0; rw [bigSep_eq_bigSepL_of_eq [ks 2] (by decide +kernel) (by decide)]; rfl

theorem sems0_eq (c : Dev nD) :
    iprop(unscopedSems0 c ∗ Pipeline.ownSems0 (Ix := ℕ) (Name := ℕ) (U := UU) (Lvl := ℕ) (Val := Elt F) (τ := τ) osem c)
      = (bigSep Finset.univ fun k : Fin 43 => semVal (kcell (c, k)) 0 : sProp 𝕄) := by
  rw [bigSep_split (i := (2 : Fin 43)) (Finset.mem_univ _), unscopedSems0_eq,
    show (Finset.univ : Finset (Fin 43)).erase 2 = Finset.univ.map (Fin.succAboveEmb (2 : Fin 43)) from by decide, bigSep_map]
  rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Fin 43 => iprop(∃ κ : ℕ, cellInv ER (Rd (Tm m ρ) (Bm m ρ)) κ (kcell (c, k))))
          ∗ (bigSep Finset.univ fun k : Fin 43 => iprop(atPos ER (kcell (c, k)) 0 ∅ 0 ∗ reached ER (kcell (c, k)) 0)) ∗ lsep (Tk0 c) tk) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 43 => semVal (kcell (c, k)) 0) ∗ bigSep Finset.univ fun k : Fin 43 => roundState ER (Rd (Tm m ρ) (Bm m ρ)) (kcell (c, k)) 0)
      ⊢ (|={Set.univ}=> bigSep Finset.univ fun k : Fin 43 => iprop(∃ κ : ℕ, cellInv ER (Rd (Tm m ρ) (Bm m ρ)) κ (kcell (c, k))) : sProp 𝕄) from by
        rw [← bigSep_sep']
        exact (bigSep_mono fun k _ => (Rounds.body_intro ER (Rd (Tm m ρ) (Bm m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Fin 43 => iprop(∃ κ : ℕ, cellInv ER (Rd (Tm m ρ) (Bm m ρ)) κ (kcell (c, k))))
          ∗ (bigSep Finset.univ fun k : Fin 43 => iprop(atPos ER (kcell (c, k)) 0 ∅ 0 ∗ reached ER (kcell (c, k)) 0)) ∗ lsep (Tk0 c) tk) : sProp 𝕄)
      ⊢ bigSep Finset.univ (G' m ρ) := by
  rw [bigSep_sep', bigSep_sep', ← bigSep_univ_prod (fun ck : Dev nD × Fin 43 => iprop(∃ κ : ℕ, cellInv ER (Rd (Tm m ρ) (Bm m ρ)) κ (kcell ck))),
    bigSep_congr (s := Finset.univ) (fun (c : Dev nD) _ => bigSep_sep' Finset.univ (fun k : Fin 43 => (atPos ER (kcell (c, k)) 0 ∅ 0 : sProp 𝕄)) (fun k => reached ER (kcell (c, k)) 0)),
    bigSep_sep', ← bigSep_univ_prod (fun ck : Dev nD × Fin 43 => (reached ER (kcell ck) 0 : sProp 𝕄))]
  iintro ⟨HI, ⟨Hat, #HR⟩, Htok⟩
  ihave HK := (BI.bigSep_exists_pi Finset.univ (fun (ck : Dev nD × Fin 43) (κ : ℕ) => (cellInv ER (Rd (Tm m ρ) (Bm m ρ)) κ (kcell ck) : sProp 𝕄))) $$ HI
  icases HK with ⟨%N, #HI⟩
  have hrec : records m ρ N ⊢ (bigSep Finset.univ fun _ : Dev nD => iprop(∃ N, records m ρ N) : sProp 𝕄) :=
    (BI.bigSep_of_persistent (Finset.univ : Finset (Dev nD)) _).trans (bigSep_mono fun _ _ => exists_intro (Φ := fun N => records m ρ N) N)
  unfold G'
  rw [bigSep_sep', bigSep_sep']
  isplitr
  · iapply hrec
    unfold records
    isplitl; · iexact HI
    iexact HR
  isplitl [Hat]; · iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred (fun d => dl (D0 d)) c ∗ prngReg c (ρ c) ∗ G' m ρ c)
      ⊢ |={Set.univ}=> iprop(start m ρ c ∗ emp) := by
  unfold start G' records
  iintro ⟨-, #Hlev, Hcr, -, ⟨%N, #HI, #HR⟩, Hpos, Htk⟩
  ihave Hc := (creds (F := F) c) $$ Hcr
  imodintro
  isplitl
  · isplitr
    · iexists N
      unfold recs
      isplitr; · iexact HI
      isplitr; · iexact HR
      iexact Hlev
    isplitl [Hpos]; · iexact Hpos
    isplitl [Htk]; · iexact Htk
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [← sems0_eq]
  iintro ⟨⟨Hu, Ho⟩, Hr⟩
  isplitl [Hu]; · iexact Hu
  isplitl [Ho]; · iexact Ho
  iexact Hr

theorem stage_waits (c : Dev nD) : above 0 (D0 c) = true := by revert c; decide

theorem waits (c : Dev nD) : (levAts L lv : sProp 𝕄) ⊢ Pipeline.cellsWaits cfgs (dats m ρ) 0 0 c :=
  Pipeline.cellsWaits_intro cfgs (dats m ρ) 0 0 c fun w s t => by
    have hl : ∀ sm : SemLoc sig, num sm = 100 → ∀ l, above 0 l = true → above (lvl (num sm) 0) l = true := fun sm h l hl => by
      rw [h]; exact hl
    have hn : num (.dma ((cfg0.win w).sem s)) = 100 := by fin_cases w <;> fin_cases s <;> rfl
    rcases t with ⟨_ | _, ht⟩
    · exact mayWait_list c _ 0 (by decide) (D0 c) (hl _ hn _ (stage_waits c))
    · exact mayWait_list c _ 0 (by decide) [] rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four devices ends, each
    device's output array holds the computed contents, its arguments what they held, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => dl (D0 d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array after the run holds what it held. -/
theorem finalA_in (c : Dev nD) (w : Fin 6) (h : (cfg0.win w).isOut = false) : finalA m ρ c w = (s₀ m ρ).mem ((cfg0.win w).arr.view.loc (c : Thread nD τ)) :=
  (dats (F := F) m ρ 0 c).arrAt_in w h _

/-- The output array's one block read back is what the body stored. -/
theorem finalA_out (c : Dev nD) : (win0_5.blk (0 : Fin 1)).view.read (Elt F) (finalA m ρ c (5 : Fin 6)) = outm m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end
end Cert.Ring
end
-- ==== Proof.Frames.lean ====
module

public import proofs.«01_k».proof.Defs
public import proofs.«01_k».proof.Proof.Gen.Kernel
public import proofs.«01_k».proof.Proof.Gen.ReferenceIdeal.Run
public import Idealize.ShloMosaic.Adequacy
public import proofs.«01_k».proof.Proof.Launch
public import proofs.«01_k».proof.Proof.Gen.KernelIdeal.Launch
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The five arguments end as they began and every counter is zero, over any floats: the run of `Launch.lean` read at
the arguments. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono
    (fun _ h => ⟨fun c => ⟨(h.1 c 0).trans (finalA_in m ρ c 0 rfl), (h.1 c 1).trans (finalA_in m ρ c 1 rfl),
      (h.1 c 2).trans (finalA_in m ρ c 2 rfl), (h.1 c 3).trans (finalA_in m ρ c 3 rfl),
      (h.1 c 4).trans (finalA_in m ρ c 4 rfl)⟩, h.2⟩)
    (run_main m ρ)

theorem frame_ideal : Cert.quiescent_KernelIdeal := fun m ρ _ => frame_any (F := Ideal) m ρ

open Cert.Kernel.Gen in
/-- The two printed programs' body labels have the same text. -/
theorem defs₀_same : Cert.Kernel.defs₀ (F := Bits) = Cert.KernelIdeal.defs₀ (F := Bits) := by
  unfold Cert.Kernel.defs₀ Cert.KernelIdeal.defs₀
  refine congrArg Defs.onTc ?_
  funext l x
  match l with
  | 0 => rfl

open Cert.Kernel.Gen in
theorem defs_same : Cert.Kernel.defs (F := Bits) = Cert.KernelIdeal.defs (F := Bits) :=
  congrArg (Pipeline.defs _) defs₀_same

open Cert.Kernel.Gen in
/-- The same for the kernel as printed. -/
theorem frame_kernel : Cert.quiescent_Kernel := by
  intro m ρ _
  rw [defs_same]
  exact frame_any (F := Bits) m ρ

/-- The reference's run leaves its arguments, and it declares no semaphore. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Ring

end
-- ==== Proof.Read1.lean ====
module

public import proofs.«01_k».proof.Proof.Val
public import Idealize.ShloMosaic.Lib.Pointwise
public import Idealize.ShloMosaic.PureOps.Ideal.Laws

@[expose] public section

noncomputable section

namespace Cert.Ring

open Cert.KernelIdeal Cert.KernelIdeal.Gen
open Idealize.ShloMosaic
open Idealize.ShloMosaic.TcCoe
open scoped BigOperators

/-! ## What is loaded, at an index -/

/-- The row `128 b + r`. -/
abbrev row (b : Fin 16) (r : Fin 128) : Fin 2048 := ⟨128 * b.val + r.val, by omega⟩
/-- The column `128 h + d`. -/
abbrev col (h : Fin 8) (d : Fin 128) : Fin 1024 := ⟨128 * h.val + d.val, by omega⟩

theorem xRows_at (X : XC Ideal) (b : Fin 16) (r : Fin 128) (e : Fin 1024) : xRows X b (ix2 r e) = X (ix2 (row b r) e) := by
  refine congrArg X (funext fun a => Fin.ext ?_)
  match a with
  | 0 => show 128 * b.val + 1 * r.val = 128 * b.val + r.val; omega
  | 1 => show 0 + 1 * e.val = e.val; omega
theorem wAll_at (W : WC Ideal) (e c : Fin 1024) : wAll W (ix2 e c) = W (ix2 e c) := by
  refine congrArg W (funext fun a => Fin.ext ?_)
  match a with
  | 0 => show 0 + 1 * e.val = e.val; omega
  | 1 => show 0 + 1 * c.val = c.val; omega
theorem kCols_at (K : KC Ideal) (h : Fin 8) (j : Fin 2048) (d : Fin 128) : kCols K h (ix2 j d) = K (ix2 j (col h d)) := by
  refine congrArg K (funext fun a => Fin.ext ?_)
  match a with
  | 0 => show 0 + 1 * j.val = j.val; omega
  | 1 => show 128 * h.val + 1 * d.val = 128 * h.val + d.val; omega
theorem vCols_at (K : VC Ideal) (h : Fin 8) (j : Fin 2048) (d : Fin 128) : vCols K h (ix2 j d) = K (ix2 j (col h d)) := by
  refine congrArg K (funext fun a => Fin.ext ?_)
  match a with
  | 0 => show 0 + 1 * j.val = j.val; omega
  | 1 => show 128 * h.val + 1 * d.val = 128 * h.val + d.val; omega
theorem kHead_at (K : KC Ideal) (h : Fin 8) (j : Fin 128) (d : Fin 128) : kHead K h (ix2 j d) = K (ix2 ⟨j.val, by omega⟩ (col h d)) := by
  refine congrArg K (funext fun a => Fin.ext ?_)
  match a with
  | 0 => show 0 + 1 * j.val = j.val; omega
  | 1 => show 128 * h.val + 1 * d.val = 128 * h.val + d.val; omega
theorem vHead_at (K : VC Ideal) (h : Fin 8) (j : Fin 128) (d : Fin 128) : vHead K h (ix2 j d) = K (ix2 ⟨j.val, by omega⟩ (col h d)) := by
  refine congrArg K (funext fun a => Fin.ext ?_)
  match a with
  | 0 => show 0 + 1 * j.val = j.val; omega
  | 1 => show 128 * h.val + 1 * d.val = 128 * h.val + d.val; omega
theorem kSlab_at (K : KC Ideal) (b : Fin 14) (h : Fin 8) (j : Fin 384) (d : Fin 128) :
    kSlab K b h (ix2 j d) = K (ix2 ⟨128 * b.val + j.val, by omega⟩ (col h d)) := by
  refine congrArg K (funext fun a => Fin.ext ?_)
  match a with
  | 0 => show 128 * b.val + 1 * j.val = 128 * b.val + j.val; omega
  | 1 => show 128 * h.val + 1 * d.val = 128 * h.val + d.val; omega
theorem vSlab_at (K : VC Ideal) (b : Fin 14) (h : Fin 8) (j : Fin 384) (d : Fin 128) :
    vSlab K b h (ix2 j d) = K (ix2 ⟨128 * b.val + j.val, by omega⟩ (col h d)) := by
  refine congrArg K (funext fun a => Fin.ext ?_)
  match a with
  | 0 => show 128 * b.val + 1 * j.val = 128 * b.val + j.val; omega
  | 1 => show 128 * h.val + 1 * d.val = 128 * h.val + d.val; omega

/-! ## The products and sums, at an index -/

/-- The scale as the programs write it. -/
abbrev scale : EReal := Ideal.ofBits .f32 0x3DB504F3#32

theorem pay118_at (x : Vec Ideal S128x1024 .bf16) (w : Vec Ideal S1024x1024 .bf16) (r : Fin 128) (c : Fin 1024) :
    k0_pay118 x w (ix2 r c) = (∑ e : Fin 1024, x (ix2 r e) * w (ix2 e c)) * scale := by
  pointwise [k0_pay118]

theorem qHead_at (q : FVec Ideal S128x1024 .bf16) (h : Fin 8) (r d : Fin 128) : qHead q h (ix2 r d) = q (ix2 r (col h d)) := by
  unfold qHead
  refine congrArg q (funext fun a => Fin.ext ?_)
  match a with
  | 0 => show 0 + r.val = r.val; omega
  | 1 => rfl

/-- A buffer of 2048 rows, and a square one, as matrices of extended reals. -/
abbrev mA (X : S2048x1024.Idx → EReal) : Fin 2048 → Fin 1024 → EReal := fun i e => X (ix2 i e)
abbrev mW (W : S1024x1024.Idx → EReal) : Fin 1024 → Fin 1024 → EReal := fun i e => W (ix2 i e)

theorem qBlk_at (X : XC Ideal) (W : WC Ideal) (b : Fin 16) (h : Fin 8) (r d : Fin 128) :
    qHead (qBlk X W b) h (ix2 r d) = (∑ e : Fin 1024, mA X (row b r) e * mW W e (col h d)) * scale := by
  rw [qHead_at, qBlk, pay118_at]
  simp only [xRows_at, wAll_at]

theorem fullW_at (m : IVec S128x2048 1) (q : FVec Ideal S128x128 .bf16) (k : Vec Ideal S2048x128 .bf16) (r : Fin 128) (j : Fin 2048) :
    fullW m q k (ix2 r j) = if m (ix2 r j) = 1 then Ideal.exp (∑ d : Fin 128, q (ix2 r d) * k (ix2 j d)) else 0 := by
  pointwise [fullW]
  rfl

theorem fullNum_at (w : FVec Ideal S128x2048 .f32) (v : Vec Ideal S2048x128 .bf16) (r d : Fin 128) :
    fullNum w v (ix2 r d) = ∑ j : Fin 2048, w (ix2 r j) * v (ix2 j d) := by
  pointwise [fullNum]

theorem fullSum_at (w : FVec Ideal S128x2048 .f32) (r : Fin 128) (z : Fin 1) :
    fullSum w (ix2 r z) = ∑ j : Fin 2048, w (ix2 r j) := by
  pointwise [fullSum]

theorem bandW_at (m : IVec S128x512 1) (q : FVec Ideal S128x128 .bf16) (k : FVec Ideal S512x128 .bf16) (r : Fin 128) (j : Fin 512) :
    bandW m q k (ix2 r j) = if m (ix2 r j) = 1 then Ideal.exp (∑ d : Fin 128, q (ix2 r d) * k (ix2 j d)) else 0 := by
  pointwise [bandW]
  rfl

theorem bandOut_at (w : FVec Ideal S128x512 .f32) (v : FVec Ideal S512x128 .bf16) (r d : Fin 128) :
    bandOut w v (ix2 r d) = Ideal.div (∑ j : Fin 512, w (ix2 r j) * v (ix2 j d)) (∑ j : Fin 512, w (ix2 r j)) := by
  pointwise [bandOut]

theorem cat_at (a : Vec Ideal S128x128 .bf16) (b : Vec Ideal S384x128 .bf16) (j : Fin 512) (d : Fin 128) :
    cat a b (ix2 j d) = if h : j.val < 128 then a (ix2 ⟨j.val, h⟩ d) else b (ix2 ⟨j.val - 128, by omega⟩ d) := by
  pointwise [cat]

theorem pay21_at (n : FVec Ideal S128x128 .f32) (l : FVec Ideal S128x1 .f32) (r d : Fin 128) :
    k0_pay21 n l (ix2 r d) = Ideal.div (n (ix2 r d)) (l (ix2 r 0)) := by
  pointwise [k0_pay21]

theorem pay69_at (n : Vec Ideal S160x128 .f32) (l : Vec Ideal S160x1 .f32) (r : Fin 160) (d : Fin 128) :
    k0_pay69 n l (ix2 r d) = Ideal.div (n (ix2 r d)) (l (ix2 r 0)) := by
  pointwise [k0_pay69]

theorem pay95_at (x : Vec Ideal S2048x1024 .bf16) (w : Vec Ideal S1024x1024 .bf16) (r : Fin 2048) (c : Fin 1024) :
    k0_pay95 x w (ix2 r c) = ∑ e : Fin 1024, x (ix2 r e) * w (ix2 e c) := by
  pointwise [k0_pay95]

theorem pay96_at (x : Vec Ideal S256x1024 .bf16) (w : Vec Ideal S1024x1024 .bf16) (r : Fin 256) (c : Fin 1024) :
    k0_pay96 x w (ix2 r c) = ∑ e : Fin 1024, x (ix2 r e) * w (ix2 e c) := by
  pointwise [k0_pay96]

end Cert.Ring

end
-- ==== Proof.Read2.lean ====
module

public import proofs.«01_k».proof.Proof.Read1
public import Idealize.ShloMosaic.Lib.Pointwise
public import Idealize.ShloMosaic.Lib.WordArith
public import Idealize.ShloMosaic.PureOps.Ideal.Laws

@[expose] public section

noncomputable section

namespace Cert.Ring

open Cert.KernelIdeal Cert.KernelIdeal.Gen
open Idealize.ShloMosaic
open Idealize.ShloMosaic.TcCoe
open Idealize.ShloMosaic.WordArith
open scoped BigOperators

/-! ## The masks -/

/-- Which queries keep which keys. -/
def keep (i j : ℕ) : Prop := (i ≤ j + 128 ∧ j ≤ i + 128) ∨ j < 32 ∨ i < 32
instance (i j : ℕ) : Decidable (keep i j) := by unfold keep; infer_instance

theorem near_word (a b : ℕ) (ha : a < 2 ^ 30) (hb : b < 2 ^ 30) :
    IntOp.cmpi .sle (IntOp.absi (IntOp.subi (BitVec.ofNat 32 a) (BitVec.ofNat 32 b))) 128#32
      = BitVec.ofBool (decide (a ≤ b + 128 ∧ b ≤ a + 128)) := by
  have ea : (BitVec.ofNat 32 a).toInt = a := toInt_ofNat_small a (by omega)
  have eb : (BitVec.ofNat 32 b).toInt = b := toInt_ofNat_small b (by omega)
  have e : (IntOp.subi (BitVec.ofNat 32 a) (BitVec.ofNat 32 b)).toInt = (a : ℤ) - b := by
    have := toInt_sub_of_bounds (BitVec.ofNat 32 a) (BitVec.ofNat 32 b) (by rw [ea, eb]; omega) (by rw [ea, eb]; omega)
    rw [ea, eb] at this; exact this
  generalize IntOp.subi (BitVec.ofNat 32 a) (BitVec.ofNat 32 b) = x at e
  have hx : (IntOp.absi x).toInt = |(a : ℤ) - b| := by
    unfold IntOp.absi
    rw [BitVec.msb_eq_toInt]
    by_cases h : x.toInt < 0
    · rw [if_pos (by simpa using h), BitVec.toInt_neg_of_ne_intMin, e, abs_of_neg (by omega)]
      intro h'; rw [h'] at e; simp [BitVec.toInt_intMin] at e; omega
    · rw [if_neg (by simpa using h), e, abs_of_nonneg (by omega)]
  show BitVec.ofBool (decide ((IntOp.absi x).toInt ≤ (128#32).toInt)) = _
  rw [hx, show (128#32 : BitVec 32).toInt = 128 from by decide]
  congr 1
  rw [decide_eq_decide, abs_le]
  omega

theorem slt_word (a b : ℕ) (ha : a < 2 ^ 30) (hb : b < 2 ^ 30) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_ofNat_small a (by omega), toInt_ofNat_small b (by omega)]
  congr 1
  rw [decide_eq_decide]; omega

theorem add_word (a b : ℕ) : IntOp.addi (BitVec.ofNat 32 a) (BitVec.ofNat 32 b) = BitVec.ofNat 32 (a + b) :=
  (BitVec.ofNat_add a b).symm

/-- The three tests together, on words. -/
theorem keep_word (a b : ℕ) (ha : a < 2 ^ 30) (hb : b < 2 ^ 30) :
    IntOp.ori (IntOp.ori (IntOp.cmpi .sle (IntOp.absi (IntOp.subi (BitVec.ofNat 32 a) (BitVec.ofNat 32 b))) 128#32)
        (IntOp.cmpi .slt (BitVec.ofNat 32 b) 32#32)) (IntOp.cmpi .slt (BitVec.ofNat 32 a) 32#32)
      = BitVec.ofBool (decide (keep a b)) := by
  rw [near_word a b ha hb, show (32#32 : BitVec 32) = BitVec.ofNat 32 32 from rfl, slt_word b 32 hb (by omega), slt_word a 32 ha (by omega),
    ori_ofBool, ori_ofBool]
  congr 1
  rw [← Bool.decide_or, ← Bool.decide_or, decide_eq_decide]
  unfold keep; tauto

theorem one_iff (p : Prop) [Decidable p] : BitVec.ofBool (decide p) = 1 ↔ p := by
  by_cases h : p <;> simp [h]

theorem fullMask_at (qs ko : ℕ) (hq : qs < 2 ^ 20) (hk : ko < 2 ^ 20) (r : Fin 128) (j : Fin 2048) :
    fullMask (BitVec.ofNat 32 qs) (BitVec.ofNat 32 ko) (ix2 r j) = 1 ↔ keep (qs + r.val) (ko + j.val) := by
  have e : fullMask (BitVec.ofNat 32 qs) (BitVec.ofNat 32 ko) (ix2 r j) = BitVec.ofBool (decide (keep (qs + r.val) (ko + j.val))) := by
    rw [← keep_word _ _ (by omega) (by omega)]
    unfold fullMask
    pointwise []
    simp only [add_word]
  rw [e, one_iff]

theorem concat_at (x : IVec S128x128 32) (y : IVec S128x384 32) (r : Fin 128) (j : Fin 512) :
    concatenate S128x512 1 [⟨S128x128, x⟩, ⟨S128x384, y⟩] concatenates_S128x128_S128x384_S128x512_d1 (ix2 r j)
      = if h : j.val < 128 then x (ix2 r ⟨j.val, h⟩) else y (ix2 r ⟨j.val - 128, by omega⟩) := by
  pointwise []

/-- The key that column `j` of the band from key `128 b` stands for. -/
def bandKey (b : Fin 14) (j : Fin 512) : ℕ := if j.val < 128 then j.val else 128 * b.val + (j.val - 128)

theorem bandMask_at (b : Fin 14) (r : Fin 128) (j : Fin 512) :
    bandMask (BitVec.ofNat 32 (b.val + 1)) (ix2 r j) = 1
      ↔ keep (128 * (b.val + 1) + r.val) (bandKey b j) ∧ ¬ (j.val < 128 ∧ b.val = 0) := by
  have e0 : Scalar.minsi (Scalar.muli 128#32 (Scalar.subi (BitVec.ofNat 32 (b.val + 1)) 1#32)) 1664#32 = BitVec.ofNat 32 (128 * b.val) := by
    revert b; decide
  have e1 : Scalar.muli (BitVec.ofNat 32 (b.val + 1)) 128#32 = BitVec.ofNat 32 (128 * (b.val + 1)) := by
    clear e0; revert b; decide
  have e2 : Scalar.cmpi .eq (BitVec.ofNat 32 (128 * b.val)) 0#32 = BitVec.ofBool (decide (b.val = 0)) := by
    clear e0 e1; revert b; decide
  have e : bandMask (BitVec.ofNat 32 (b.val + 1)) (ix2 r j)
      = BitVec.ofBool (decide (keep (128 * (b.val + 1) + r.val) (bandKey b j) ∧ ¬ (j.val < 128 ∧ b.val = 0))) := by
    have ek : concatenate S128x512 1 [⟨S128x128, iota .tc S128x128 32 [1] iota_S128x128_d1_w32⟩,
        ⟨S128x384, (addi (broadcast S128x384 (BitVec.ofNat 32 (128 * b.val))) (iota .tc S128x384 32 [1] iota_S128x384_d1_w32) : IVec S128x384 32)⟩]
        concatenates_S128x128_S128x384_S128x512_d1 (ix2 r j) = BitVec.ofNat 32 (bandKey b j) := by
      rw [concat_at]
      unfold bandKey
      by_cases h : j.val < 128
      · rw [dif_pos h, if_pos h]; pointwise []
      · rw [dif_neg h, if_neg h]; pointwise []; rw [add_word]
    have hk : bandKey b j < 2 ^ 30 := by unfold bandKey; split <;> omega
    rw [Bool.decide_and, ← andi_ofBool, ← keep_word _ _ (by omega) hk]
    unfold bandMask
    dsimp only
    rw [e0, e1, e2]
    show IntOp.andi (IntOp.ori (IntOp.ori (IntOp.cmpi .sle (IntOp.absi (IntOp.subi _ (concatenate S128x512 1 _ _ (ix2 r j)))) _)
      (IntOp.cmpi .slt (concatenate S128x512 1 _ _ (ix2 r j)) _)) _) _ = _
    rw [ek]
    pointwise []
    simp only [add_word]
    congr 1
    rw [show (128#32 : BitVec 32) = BitVec.ofNat 32 128 from rfl, slt_word j.val 128 (by omega) (by omega), andi_ofBool]
    by_cases h1 : j.val < 128 <;> by_cases h2 : b.val = 0 <;> simp [h1, h2] <;> rfl
  rw [e, one_iff]

end Cert.Ring

end
-- ==== Proof.Read3.lean ====
module

public import proofs.«01_k».proof.Proof.Read2
public import Idealize.ShloMosaic.Lib.Pointwise
public import Idealize.ShloMosaic.Lib.WordArith
public import Idealize.ShloMosaic.PureOps.Ideal.Laws

@[expose] public section

noncomputable section

namespace Cert.Ring

open Cert.KernelIdeal Cert.KernelIdeal.Gen
open Idealize.ShloMosaic
open Idealize.ShloMosaic.TcCoe
open Idealize.ShloMosaic.WordArith
open scoped BigOperators

/-! ## The weights, in extended reals -/

abbrev MX : Type := Fin 2048 → Fin 1024 → EReal
abbrev MW : Type := Fin 1024 → Fin 1024 → EReal

/-- The weight that query `i` of head `h` gives to the key row `kr`, which stands at place `j` among all keys. -/
def wtOf (x : MX) (w : MW) (i : Fin 2048) (h : Fin 8) (kr : Fin 1024 → EReal) (j : ℕ) : EReal :=
  if keep i.val j then Ideal.exp (∑ d : Fin 128, ((∑ e : Fin 1024, x i e * w e (col h d)) * scale) * kr (col h d)) else 0

theorem wtOf_zero (x : MX) (w : MW) (i : Fin 2048) (h : Fin 8) (kr : Fin 1024 → EReal) (j : ℕ) (hk : ¬ keep i.val j) :
    wtOf x w i h kr j = 0 := if_neg hk

section Device

variable (X : XC Ideal) (W : WC Ideal) (K : KC Ideal) (V : VC Ideal)

theorem w0_at (c : ℕ) (hc : c < 4) (h : Fin 8) (r : Fin 128) (j : Fin 2048) :
    w0 X W K (BitVec.ofNat 32 (2048 * c)) h (ix2 r j) = wtOf (mA X) (mW W) (row 0 r) h (mA K j) (2048 * c + j.val) := by
  unfold w0 wtOf
  rw [fullW_at]
  simp only [qBlk_at, kCols_at]
  refine if_congr ?_ rfl rfl
  have := fullMask_at 0 (2048 * c) (by omega) (by omega) r j
  exact this

theorem w15_at (c : ℕ) (hc : c < 4) (h : Fin 8) (r : Fin 128) (j : Fin 2048) :
    w15 X W K (BitVec.ofNat 32 (2048 * c)) h (ix2 r j) = wtOf (mA X) (mW W) (row 15 r) h (mA K j) (2048 * c + j.val) := by
  unfold w15 wtOf
  rw [fullW_at]
  simp only [qBlk_at, kCols_at]
  refine if_congr ?_ rfl rfl
  exact fullMask_at 1920 (2048 * c) (by omega) (by omega) r j

/-- The part of a numerator, and of a denominator, that device `c`'s keys give. -/
def numD (x : MX) (w : MW) (k v : MX) (c : ℕ) (i : Fin 2048) (h : Fin 8) (d : Fin 128) : EReal :=
  ∑ j : Fin 2048, wtOf x w i h (k j) (2048 * c + j.val) * v j (col h d)
def denD (x : MX) (w : MW) (k : MX) (c : ℕ) (i : Fin 2048) (h : Fin 8) : EReal :=
  ∑ j : Fin 2048, wtOf x w i h (k j) (2048 * c + j.val)

theorem num0_at (c : ℕ) (hc : c < 4) (h : Fin 8) (r d : Fin 128) :
    num0 X W K V (BitVec.ofNat 32 (2048 * c)) h (ix2 r d) = numD (mA X) (mW W) (mA K) (mA V) c (row 0 r) h d := by
  unfold num0 numD
  rw [fullNum_at]
  simp only [w0_at X W K c hc, vCols_at]
theorem num15_at (c : ℕ) (hc : c < 4) (h : Fin 8) (r d : Fin 128) :
    num15 X W K V (BitVec.ofNat 32 (2048 * c)) h (ix2 r d) = numD (mA X) (mW W) (mA K) (mA V) c (row 15 r) h d := by
  unfold num15 numD
  rw [fullNum_at]
  simp only [w15_at X W K c hc, vCols_at]
theorem sum0_at (c : ℕ) (hc : c < 4) (h : Fin 8) (r : Fin 128) (z : Fin 1) :
    sum0 X W K (BitVec.ofNat 32 (2048 * c)) h (ix2 r z) = denD (mA X) (mW W) (mA K) c (row 0 r) h := by
  unfold sum0 denD
  rw [fullSum_at]
  simp only [w0_at X W K c hc]
theorem sum15_at (c : ℕ) (hc : c < 4) (h : Fin 8) (r : Fin 128) (z : Fin 1) :
    sum15 X W K (BitVec.ofNat 32 (2048 * c)) h (ix2 r z) = denD (mA X) (mW W) (mA K) c (row 15 r) h := by
  unfold sum15 denD
  rw [fullSum_at]
  simp only [w15_at X W K c hc]

theorem top_at (h : Fin 8) (r d : Fin 128) :
    top X W K V h (ix2 r d) = Ideal.div (numD (mA X) (mW W) (mA K) (mA V) 0 (row 0 r) h d) (denD (mA X) (mW W) (mA K) 0 (row 0 r) h) := by
  unfold top
  rw [pay21_at, show (0#32 : BitVec 32) = BitVec.ofNat 32 (2048 * 0) from rfl, num0_at X W K V 0 (by omega), sum0_at X W K 0 (by omega)]

theorem packS_at (s : Fin 8 → FVec Ideal S128x1 .f32) (r : Fin 128) (h : Fin 8) :
    packS s (ix2 r (⟨h.val, by omega⟩ : Fin 128)) = s h (ix2 r 0) := by
  fin_cases h <;> (pointwise [packS])

/-! ## The band -/

/-- The key row column `j` of the band stands for. -/
def bandRow (b : Fin 14) (j : Fin 512) : Fin 2048 := ⟨bandKey b j, by unfold bandKey; split <;> omega⟩

theorem catK_at (b : Fin 14) (h : Fin 8) (j : Fin 512) (d : Fin 128) :
    cat (kHead K h) (kSlab K b h) (ix2 j d) = mA K (bandRow b j) (col h d) := by
  rw [cat_at]
  by_cases hj : j.val < 128
  · rw [dif_pos hj, kHead_at]
    exact congrArg (fun t => mA K t (col h d)) (Fin.ext (by simp [bandRow, bandKey, hj]))
  · rw [dif_neg hj, kSlab_at]
    exact congrArg (fun t => mA K t (col h d)) (Fin.ext (by simp [bandRow, bandKey, hj]))
theorem catV_at (b : Fin 14) (h : Fin 8) (j : Fin 512) (d : Fin 128) :
    cat (vHead V h) (vSlab V b h) (ix2 j d) = mA V (bandRow b j) (col h d) := by
  rw [cat_at]
  by_cases hj : j.val < 128
  · rw [dif_pos hj, vHead_at]
    exact congrArg (fun t => mA V t (col h d)) (Fin.ext (by simp [bandRow, bandKey, hj]))
  · rw [dif_neg hj, vSlab_at]
    exact congrArg (fun t => mA V t (col h d)) (Fin.ext (by simp [bandRow, bandKey, hj]))

/-- The band's columns run once over every key its queries keep. -/
theorem band_sum (b : Fin 14) (r : Fin 128) (g : Fin 2048 → EReal)
    (hg : ∀ j : Fin 2048, ¬ keep (128 * (b.val + 1) + r.val) j.val → g j = 0) :
    (∑ j : Fin 512, if j.val < 128 ∧ b.val = 0 then 0 else g (bandRow b j)) = ∑ j : Fin 2048, g j := by
  let G : ℕ → EReal := fun n => if h : n < 2048 then g ⟨n, h⟩ else 0
  have hG : ∀ n, ¬ keep (128 * (b.val + 1) + r.val) n → G n = 0 := by
    intro n hn
    show (if h : n < 2048 then g ⟨n, h⟩ else 0) = 0
    split
    · exact hg _ hn
    · rfl
  have e1 : ∑ j : Fin 2048, g j = ∑ n ∈ Finset.range 2048, G n := by
    rw [← Fin.sum_univ_eq_sum_range]
    exact Finset.sum_congr rfl fun j _ => by show _ = (if h : j.val < 2048 then g ⟨j.val, h⟩ else 0); rw [dif_pos j.isLt]
  have hrow : ∀ (n : ℕ) (h : n < 2048) , g ⟨n, h⟩ = G n := fun n h => by
    show _ = (if h : n < 2048 then g ⟨n, h⟩ else 0); rw [dif_pos h]
  have e2 : (∑ j : Fin 512, if j.val < 128 ∧ b.val = 0 then 0 else g (bandRow b j))
      = (∑ n ∈ Finset.range 128, if b.val = 0 then 0 else G n) + ∑ n ∈ Finset.range 384, G (128 * b.val + n) := by
    have e3 : (∑ j : Fin 512, if j.val < 128 ∧ b.val = 0 then 0 else g (bandRow b j))
        = ∑ n ∈ Finset.range 512, if n < 128 then (if b.val = 0 then 0 else G n) else G (128 * b.val + (n - 128)) := by
      rw [← Fin.sum_univ_eq_sum_range]
      refine Finset.sum_congr rfl fun j _ => ?_
      rw [bandRow, hrow]
      by_cases h1 : j.val < 128 <;> by_cases h2 : b.val = 0 <;> simp [h1, h2, bandKey]
    rw [e3, Finset.sum_range_add _ 128 384]
    refine congrArg₂ (· + ·) (Finset.sum_congr rfl fun n hn => if_pos (Finset.mem_range.1 hn)) (Finset.sum_congr rfl fun n _ => ?_)
    rw [if_neg (by omega), Nat.add_sub_cancel_left]
  rw [e1, e2]
  have e4 : ∑ n ∈ Finset.range 384, G (128 * b.val + n) = ∑ n ∈ Finset.Ico (128 * b.val) (128 * b.val + 384), G n := by
    rw [Finset.sum_Ico_eq_sum_range, Nat.add_sub_cancel_left]
  rw [e4]
  by_cases hb : b.val = 0
  · rw [Finset.sum_eq_zero (fun n _ => if_pos hb), zero_add]
    refine Finset.sum_subset (fun n hn => ?_) (fun n hn h' => hG n ?_)
    · rw [Finset.mem_Ico] at hn; rw [Finset.mem_range]; omega
    · rw [Finset.mem_Ico] at h'; unfold keep; omega
  · rw [Finset.sum_congr rfl (fun n _ => if_neg hb), ← Finset.sum_union]
    · refine Finset.sum_subset (fun n hn => ?_) (fun n hn h' => hG n ?_)
      · rw [Finset.mem_union, Finset.mem_Ico, Finset.mem_range] at hn; rw [Finset.mem_range]; omega
      · rw [Finset.mem_union, Finset.mem_Ico, Finset.mem_range] at h'; unfold keep; omega
    · rw [Finset.disjoint_left]
      intro n h1 h2
      rw [Finset.mem_range] at h1; rw [Finset.mem_Ico] at h2; omega

theorem bandWt_at (b : Fin 14) (h : Fin 8) (r : Fin 128) (j : Fin 512) :
    bandW (bandMask (BitVec.ofNat 32 (b.val + 1))) (qHead (qBlk X W ⟨b.val + 1, by omega⟩) h) (cat (kHead K h) (kSlab K b h)) (ix2 r j)
      = if j.val < 128 ∧ b.val = 0 then 0
        else wtOf (mA X) (mW W) (row ⟨b.val + 1, by omega⟩ r) h (mA K (bandRow b j)) (bandRow b j).val := by
  rw [bandW_at]
  simp only [qBlk_at, catK_at]
  unfold wtOf
  by_cases h1 : j.val < 128 ∧ b.val = 0
  · rw [if_pos h1, if_neg]
    rw [bandMask_at]; exact fun h' => h'.2 h1
  · rw [if_neg h1]
    refine if_congr ?_ rfl rfl
    rw [bandMask_at]
    exact and_iff_left h1

theorem band_at (b : Fin 14) (h : Fin 8) (r d : Fin 128) :
    band X W K V b h (ix2 r d) = Ideal.div (numD (mA X) (mW W) (mA K) (mA V) 0 (row ⟨b.val + 1, by omega⟩ r) h d)
      (denD (mA X) (mW W) (mA K) 0 (row ⟨b.val + 1, by omega⟩ r) h) := by
  unfold band numD denD
  rw [bandOut_at]
  simp only [bandWt_at, catV_at]
  refine congrArg₂ Ideal.div ?_ ?_
  · refine Eq.trans ?_ ((band_sum b r (fun j => wtOf (mA X) (mW W) (row ⟨b.val + 1, by omega⟩ r) h (mA K j) j.val * mA V j (col h d)) ?_).trans ?_)
    · refine Finset.sum_congr rfl fun j _ => ?_
      split
      · exact zero_mul _
      · rfl
    · intro j hj; show _ * _ = _; rw [wtOf_zero _ _ _ _ _ _ hj, zero_mul]
    · refine Finset.sum_congr rfl fun j _ => ?_
      rw [Nat.mul_zero, Nat.zero_add]
  · refine (band_sum b r (fun j => wtOf (mA X) (mW W) (row ⟨b.val + 1, by omega⟩ r) h (mA K j) j.val) ?_).trans ?_
    · intro j hj; exact wtOf_zero _ _ _ _ _ _ hj
    · refine Finset.sum_congr rfl fun j _ => ?_
      rw [Nat.mul_zero, Nat.zero_add]

end Device

end Cert.Ring

end
-- ==== Proof.Read4.lean ====
module

public import proofs.«01_k».proof.Proof.Read3
public import proofs.«01_k».proof.Proof.Launch
public import Idealize.ShloMosaic.Lib.Pointwise
public import Idealize.ShloMosaic.Lib.WordArith
public import Idealize.ShloMosaic.PureOps.Ideal.Laws

@[expose] public section

noncomputable section

namespace Cert.Ring

open Cert.KernelIdeal Cert.KernelIdeal.Gen
open Idealize.ShloMosaic
open Idealize.ShloMosaic.TcCoe
open Idealize.ShloMosaic.WordArith
open scoped BigOperators

theorem koff_at (c : Dev nD) : koffOf c = BitVec.ofNat 32 (2048 * c.val) := by
  revert c; decide +kernel

/-! ## The packed tiles and their sum -/

theorem ix_eq (r j : ℕ) (a b : Fin 128) (ha : r % 128 = a.val) (hb : j % 128 = b.val) : ix r j = ix2 a b := by
  funext t
  match t with
  | 0 => exact Fin.ext ha
  | 1 => exact Fin.ext hb
theorem ixT_eq (r j : ℕ) (a : Fin 160) (b : Fin 128) (ha : r % 160 = a.val) (hb : j % 128 = b.val) : ixT r j = ix2 a b := by
  funext t
  match t with
  | 0 => exact Fin.ext ha
  | 1 => exact Fin.ext hb

/-- The token row that row `R` of the packed tile belongs to. -/
def rowT (R : Fin 160) : Fin 2048 := if R.val < 32 then ⟨R.val, by omega⟩ else ⟨R.val + 1888, by omega⟩
/-- The columns of head `h`: its numerator's column `d`, and its denominator. -/
abbrev colN (h : Fin 8) (d : Fin 128) : Fin 1152 := ⟨128 * h.val + d.val, by omega⟩
abbrev colL (h : Fin 8) : Fin 1152 := ⟨1024 + h.val, by omega⟩

section Device

variable (X : XC Ideal) (W : WC Ideal) (K : KC Ideal) (V : VC Ideal)

theorem packedN_at (c : ℕ) (hc : c < 4) (s : Fin 2) (R : Fin 160) (h : Fin 8) (d : Fin 128) :
    packed X W K V (BitVec.ofNat 32 (2048 * c)) (ix3 s R (colN h d)) = numD (mA X) (mW W) (mA K) (mA V) c (rowT R) h d := by
  show (if R.val < 32 then tile0 X W K V _ ((128 * h.val + d.val) / 128) (ix R.val (128 * h.val + d.val))
    else tile15 X W K V _ ((128 * h.val + d.val) / 128) (ix (R.val - 32) (128 * h.val + d.val))) = _
  have e : (128 * h.val + d.val) / 128 = h.val := by omega
  rw [e]
  unfold rowT
  by_cases hR : R.val < 32
  · rw [if_pos hR, if_pos hR, ix_eq R.val _ ⟨R.val, by omega⟩ d (Nat.mod_eq_of_lt (by omega)) (by omega)]
    unfold tile0
    rw [dif_pos h.isLt]
    refine (num0_at X W K V c hc h _ d).trans ?_
    exact congrArg (fun t => numD (mA X) (mW W) (mA K) (mA V) c t h d) (Fin.ext (by simp))
  · rw [if_neg hR, if_neg hR, ix_eq (R.val - 32) _ ⟨R.val - 32, by omega⟩ d (Nat.mod_eq_of_lt (by omega)) (by omega)]
    unfold tile15
    rw [dif_pos h.isLt]
    refine (num15_at X W K V c hc h _ d).trans ?_
    exact congrArg (fun t => numD (mA X) (mW W) (mA K) (mA V) c t h d) (Fin.ext (by show 128 * 15 + (R.val - 32) = R.val + 1888; omega))

theorem packedL_at (c : ℕ) (hc : c < 4) (s : Fin 2) (R : Fin 160) (h : Fin 8) :
    packed X W K V (BitVec.ofNat 32 (2048 * c)) (ix3 s R (colL h)) = denD (mA X) (mW W) (mA K) c (rowT R) h := by
  show (if R.val < 32 then tile0 X W K V _ ((1024 + h.val) / 128) (ix R.val (1024 + h.val))
    else tile15 X W K V _ ((1024 + h.val) / 128) (ix (R.val - 32) (1024 + h.val))) = _
  have e : (1024 + h.val) / 128 = 8 := by omega
  rw [e]
  unfold rowT
  by_cases hR : R.val < 32
  · rw [if_pos hR, if_pos hR, ix_eq R.val _ ⟨R.val, by omega⟩ ⟨h.val, by omega⟩ (Nat.mod_eq_of_lt (by omega)) (by show (1024 + h.val) % 128 = h.val; omega)]
    unfold tile0
    rw [dif_neg (by omega)]
    refine (packS_at _ _ h).trans ((sum0_at X W K c hc h _ 0).trans ?_)
    exact congrArg (fun t => denD (mA X) (mW W) (mA K) c t h) (Fin.ext (by simp))
  · rw [if_neg hR, if_neg hR, ix_eq (R.val - 32) _ ⟨R.val - 32, by omega⟩ ⟨h.val, by omega⟩ (Nat.mod_eq_of_lt (by omega)) (by show (1024 + h.val) % 128 = h.val; omega)]
    unfold tile15
    rw [dif_neg (by omega)]
    refine (packS_at _ _ h).trans ((sum15_at X W K c hc h _ 0).trans ?_)
    exact congrArg (fun t => denD (mA X) (mW W) (mA K) c t h) (Fin.ext (by show 128 * 15 + (R.val - 32) = R.val + 1888; omega))

end Device

theorem slotV_at (s : Bool) (t : TinyC Ideal) (R : Fin 160) (C : Fin 1152) :
    slotV s t (ix3 0 R C) = t (ix3 (if s then 1 else 0) R C) := by
  cases s
  · refine congrArg t (funext fun a => Fin.ext ?_)
    match a with
    | 0 => rfl
    | 1 => show 0 + 1 * R.val = R.val; omega
    | 2 => show 0 + 1 * C.val = C.val; omega
  · refine congrArg t (funext fun a => Fin.ext ?_)
    match a with
    | 0 => rfl
    | 1 => show 0 + 1 * R.val = R.val; omega
    | 2 => show 0 + 1 * C.val = C.val; omega

/-- A packed tile as an array of extended reals. -/
abbrev tA (t : S2x160x1152.Idx → EReal) : Fin 2 → Fin 160 → Fin 1152 → EReal := fun s R C => t (ix3 s R C)

theorem acc3_at (T : Dev nD → TinyC Ideal) (c : Dev nD) (R : Fin 160) (C : Fin 1152) :
    acc3 T c (ix2 R C) = tA (T c) 0 R C + tA (T (prv c)) 1 R C + tA (T (prv (prv c))) 0 R C + tA (T (prv (prv (prv c)))) 1 R C := by
  unfold acc3 acc2 acc1 acc0
  pointwise [k0_pay197, k0_pay198, k0_pay199, k0_pay200, k0_pay201]
  rw [slotV_at, slotV_at, slotV_at, slotV_at]
  rfl

theorem tail_at (A : AC Ideal) (h : Fin 8) (R : Fin 160) (d : Fin 128) :
    tail A h (ix2 R d) = Ideal.div (A (ix2 R (colN h d))) (A (ix2 R (colL h))) := by
  unfold tail
  rw [pay69_at]
  refine congrArg₂ Ideal.div ?_ ?_
  · refine congrArg A (funext fun a => Fin.ext ?_)
    match a with
    | 0 => show 0 + 1 * R.val = R.val; omega
    | 1 => show 128 * h.val + 1 * d.val = 128 * h.val + d.val; omega
  · refine congrArg A (funext fun a => Fin.ext ?_)
    match a with
    | 0 => show 0 + 1 * R.val = R.val; omega
    | 1 => rfl

/-! ## The context rows -/

/-- A numerator and a denominator over all keys: the devices' parts added. -/
def numG (x : MX) (w : MW) (k v : Fin 4 → MX) (i : Fin 2048) (h : Fin 8) (d : Fin 128) : EReal :=
  ∑ c : Fin 4, numD x w (k c) (v c) c.val i h d
def denG (x : MX) (w : MW) (k : Fin 4 → MX) (i : Fin 2048) (h : Fin 8) : EReal :=
  ∑ c : Fin 4, denD x w (k c) c.val i h

theorem numD_far (x : MX) (w : MW) (k v : MX) (c : ℕ) (hc : 1 ≤ c) (i : Fin 2048) (h1 : 32 ≤ i.val) (h2 : i.val < 1920) (h : Fin 8) (d : Fin 128) :
    numD x w k v c i h d = 0 := by
  refine Finset.sum_eq_zero fun j _ => ?_
  rw [wtOf_zero, zero_mul]
  unfold keep; omega
theorem denD_far (x : MX) (w : MW) (k : MX) (c : ℕ) (hc : 1 ≤ c) (i : Fin 2048) (h1 : 32 ≤ i.val) (h2 : i.val < 1920) (h : Fin 8) :
    denD x w k c i h = 0 := by
  refine Finset.sum_eq_zero fun j _ => ?_
  rw [wtOf_zero]
  unfold keep; omega

theorem numG_near (x : MX) (w : MW) (k v : Fin 4 → MX) (i : Fin 2048) (h1 : 32 ≤ i.val) (h2 : i.val < 1920) (h : Fin 8) (d : Fin 128) :
    numG x w k v i h d = numD x w (k 0) (v 0) 0 i h d := by
  unfold numG
  rw [Fin.sum_univ_four, numD_far x w (k 1) (v 1) _ (by decide) i h1 h2, numD_far x w (k 2) (v 2) _ (by decide) i h1 h2, numD_far x w (k 3) (v 3) _ (by decide) i h1 h2,
    add_zero, add_zero, add_zero]
  rfl
theorem denG_near (x : MX) (w : MW) (k : Fin 4 → MX) (i : Fin 2048) (h1 : 32 ≤ i.val) (h2 : i.val < 1920) (h : Fin 8) :
    denG x w k i h = denD x w (k 0) 0 i h := by
  unfold denG
  rw [Fin.sum_univ_four, denD_far x w (k 1) _ (by decide) i h1 h2, denD_far x w (k 2) _ (by decide) i h1 h2, denD_far x w (k 3) _ (by decide) i h1 h2,
    add_zero, add_zero, add_zero]
  rfl

/-- The head and the column within the head of a context column. -/
abbrev hC (c : Fin 1024) : Fin 8 := ⟨c.val / 128, by omega⟩
abbrev dC (c : Fin 1024) : Fin 128 := ⟨c.val % 128, by omega⟩

theorem tailG_at (X : XC Ideal) (W : WC Ideal) (K : Dev nD → KC Ideal) (V : Dev nD → VC Ideal) (T : Dev nD → TinyC Ideal)
    (hT : ∀ d, T d = packed X W (K d) (V d) (koffOf d)) (R : Fin 160) (h : Fin 8) (d : Fin 128) :
    tail (acc3 T 0) h (ix2 R d) = Ideal.div (numG (mA X) (mW W) (fun c => mA (K c)) (fun c => mA (V c)) (rowT R) h d)
      (denG (mA X) (mW W) (fun c => mA (K c)) (rowT R) h) := by
  have hN : ∀ (c : Dev nD) (s : Fin 2), tA (T c) s R (colN h d) = numD (mA X) (mW W) (mA (K c)) (mA (V c)) c.val (rowT R) h d := by
    intro c s; rw [hT c, koff_at]; exact packedN_at X W (K c) (V c) c.val c.isLt s R h d
  have hL : ∀ (c : Dev nD) (s : Fin 2), tA (T c) s R (colL h) = denD (mA X) (mW W) (mA (K c)) c.val (rowT R) h := by
    intro c s; rw [hT c, koff_at]; exact packedL_at X W (K c) (V c) c.val c.isLt s R h
  rw [tail_at, acc3_at, acc3_at, hN, hN, hN, hN, hL, hL, hL, hL]
  have e1 : prv 0 = 3 := rfl
  have e2 : prv 3 = 2 := rfl
  have e3 : prv 2 = 1 := rfl
  rw [e1, e2, e3]
  unfold numG denG
  rw [Fin.sum_univ_four, Fin.sum_univ_four]
  refine congrArg₂ Ideal.div ?_ ?_
  · generalize numD (mA X) (mW W) (mA (K 0)) (mA (V 0)) (0 : Dev nD).val (rowT R) h d = a
    abel
  · abel

theorem ctx_at (X : XC Ideal) (W : WC Ideal) (K : Dev nD → KC Ideal) (V : Dev nD → VC Ideal) (T : Dev nD → TinyC Ideal)
    (hT : ∀ d, T d = packed X W (K d) (V d) (koffOf d)) (i : Fin 2048) (c : Fin 1024) :
    ctx (acc3 T 0) X W (K 0) (V 0) (ix2 i c) = Ideal.div (numG (mA X) (mW W) (fun c => mA (K c)) (fun c => mA (V c)) i (hC c) (dC c))
      (denG (mA X) (mW W) (fun c => mA (K c)) i (hC c)) := by
  have hh : hd c.val = hC c := Fin.ext (Nat.mod_eq_of_lt (by omega))
  show (if i.val < 32 then tail (acc3 T 0) (hd c.val) (ixT i.val c.val)
    else if 1920 ≤ i.val then tail (acc3 T 0) (hd c.val) (ixT (i.val - 1888) c.val)
    else if i.val < 128 then top X W (K 0) (V 0) (hd c.val) (ix i.val c.val)
    else band X W (K 0) (V 0) ⟨(i.val / 128 - 1) % 14, Nat.mod_lt _ (by decide)⟩ (hd c.val) (ix i.val c.val)) = _
  rw [hh]
  by_cases h1 : i.val < 32
  · rw [if_pos h1, ixT_eq i.val c.val ⟨i.val, by omega⟩ (dC c) (Nat.mod_eq_of_lt (by omega)) rfl, tailG_at X W K V T hT]
    rw [show rowT ⟨i.val, by omega⟩ = i from Fin.ext (by simp [rowT, h1])]
  · rw [if_neg h1]
    by_cases h2 : 1920 ≤ i.val
    · rw [if_pos h2, ixT_eq (i.val - 1888) c.val ⟨i.val - 1888, by omega⟩ (dC c) (Nat.mod_eq_of_lt (by omega)) rfl, tailG_at X W K V T hT]
      rw [show rowT ⟨i.val - 1888, by omega⟩ = i from by
        unfold rowT; rw [if_neg (by show ¬ (i.val - 1888 < 32); omega)]; exact Fin.ext (by show i.val - 1888 + 1888 = i.val; omega)]
    · rw [if_neg h2, numG_near _ _ _ _ i (by omega) (by omega), denG_near _ _ _ i (by omega) (by omega)]
      by_cases h3 : i.val < 128
      · rw [if_pos h3, ix_eq i.val c.val ⟨i.val, h3⟩ (dC c) (Nat.mod_eq_of_lt h3) rfl, top_at]
        rw [show row 0 ⟨i.val, h3⟩ = i from Fin.ext (by show 128 * 0 + i.val = i.val; omega)]
      · rw [if_neg h3, ix_eq i.val c.val ⟨i.val % 128, Nat.mod_lt _ (by decide)⟩ (dC c) rfl rfl, band_at]
        rw [show row ⟨(i.val / 128 - 1) % 14 + 1, by omega⟩ ⟨i.val % 128, Nat.mod_lt _ (by decide)⟩ = i from
          Fin.ext (by show 128 * ((i.val / 128 - 1) % 14 + 1) + i.val % 128 = i.val; omega)]

/-! ## The result block -/

theorem out_at (c : Dev nD) (O : OC Ideal) (B : BigC Ideal) (i : Fin 2048) (n : Fin 1024) :
    mA (outOf c O B) i n = ∑ e : Fin 1024, mA B i e * mW O e n := by
  have hw : ∀ e n : Fin 1024, woAll O (ix2 e n) = O (ix2 e n) := fun e n => wAll_at O e n
  unfold outOf
  by_cases hc : c = 0
  · rw [if_pos hc]
    unfold outWhole
    refine (pay95_at _ _ i n).trans ?_
    simp only [hw]
    refine Finset.sum_congr rfl fun e _ => ?_
    refine congrArg (· * mW O e n) (congrArg B (funext fun a => Fin.ext ?_))
    match a with
    | 0 => show 0 + 1 * i.val = i.val; omega
    | 1 => show 0 + 1 * e.val = e.val; omega
  · rw [if_neg hc]
    show k0_pay96 (bChunk B ⟨(i.val / 256) % 8, Nat.mod_lt _ (by decide)⟩) (woAll O) (ix256 i.val n.val) = _
    have hi : ix256 i.val n.val = ix2 (⟨i.val % 256, Nat.mod_lt _ (by decide)⟩ : Fin 256) n := by
      funext t
      match t with
      | 0 => rfl
      | 1 => exact Fin.ext (Nat.mod_eq_of_lt n.isLt)
    rw [hi]
    refine (pay96_at _ _ _ n).trans ?_
    simp only [hw]
    refine Finset.sum_congr rfl fun e _ => ?_
    refine congrArg (· * mW O e n) (congrArg B (funext fun a => Fin.ext ?_))
    match a with
    | 0 => show 256 * ((i.val / 256) % 8) + 1 * (i.val % 256) = i.val; omega
    | 1 => show 0 + 1 * e.val = e.val; omega

end Cert.Ring

end
-- ==== Proof.RefRead.lean ====
module

public import proofs.«01_k».proof.Proof.Gen.ReferenceIdeal.Run
public import proofs.«01_k».proof.Proof.Read2
public import Idealize.ShloMosaic.Lib.Pointwise
public import Idealize.ShloMosaic.Lib.WordArith
public import Idealize.ShloMosaic.Lib.Routing.OpsOrder
public import Idealize.ShloMosaic.PureOps.Ideal.Laws

@[expose] public section

noncomputable section

namespace Cert.Ring.Ref

open Cert.ReferenceIdeal Cert.ReferenceIdeal.Gen
open Idealize.ShloMosaic
open Idealize.ShloMosaic.TcCoe
open Idealize.ShloMosaic.WordArith
open scoped BigOperators

variable {F : FTy → Type} [FloatOps F]

/-- The reference's mask. -/
def mask : IVec S2048x8192 1 :=
  ori (cmpi .sle (absi (subi (broadcastInDim S2048x8192 ![0, 1] bcast_S2048x1_S2048x8192_0_1 (broadcastInDim S2048x1 ![0] bcast_S2048_S2048x1_0 (iotaInDim S2048 32 0)))
      (broadcastInDim S2048x8192 ![0, 1] bcast_S1x8192_S2048x8192_0_1 (broadcastInDim S1x8192 ![1] bcast_S8192_S1x8192_1 (iotaInDim S8192 32 0)))))
      (broadcastInDim S2048x8192 ![] bcast_S_S2048x8192 (constantI S_ 32 128#32)))
    (ori (broadcastInDim S2048x8192 ![0, 1] bcast_S1x8192_S2048x8192_0_1 (cmpi .slt (broadcastInDim S1x8192 ![1] bcast_S8192_S1x8192_1 (iotaInDim S8192 32 0))
        (broadcastInDim S1x8192 ![] bcast_S_S1x8192 (constantI S_ 32 32#32))))
      (broadcastInDim S2048x8192 ![0, 1] bcast_S2048x1_S2048x8192_0_1 (cmpi .slt (broadcastInDim S2048x1 ![0] bcast_S2048_S2048x1_0 (iotaInDim S2048 32 0))
        (broadcastInDim S2048x1 ![] bcast_S_S2048x1 (constantI S_ 32 32#32)))))
/-- Whether a query keeps any key. -/
def rows : IVec S2048 1 := Host.reduce IntOp.ori mask (constantI S_ 1 0#1) reducesTo_S2048x8192_S2048_d1 h_S_

/-- The masked scores. -/
def sc (x : FVec F S2048x1024 .bf16) (w : FVec F S1024x1024 .bf16) (k : FVec F S8192x1024 .bf16) : FVec F S8x2048x8192 .f32 :=
  select (broadcastInDim S8x2048x8192 ![0, 1, 2] bcast_S1x2048x8192_S8x2048x8192_0_1_2 (broadcastInDim S1x2048x8192 ![1, 2] bcast_S2048x8192_S1x2048x8192_1_2 mask))
    (mulf (extf .f32 (truncf .bf16 (Host.dotGeneral dot_S2048x8x128_S8192x8x128_S8x2048x8192_2_2_0_0_1_1 none
        (shapeCast _ (truncf .bf16 (Host.dotGeneral dot_S2048x1024_S1024x1024_S2048x1024_1_0_0_1_n_n none x w : FVec F S2048x1024 .f32) bitsLt_bf16_f32 : FVec F S2048x1024 .bf16) shapeCasts_S2048x1024_S2048x8x128)
        (shapeCast _ k shapeCasts_S8192x1024_S8192x8x128) : FVec F S8x2048x8192 .f32) bitsLt_bf16_f32 : FVec F S8x2048x8192 .bf16) bitsLt_bf16_f32)
      (broadcastInDim S8x2048x8192 ![] bcast_S_S8x2048x8192 (constant S_ .f32 0x3DB504F3#32)))
    (broadcastInDim S8x2048x8192 ![] bcast_S_S8x2048x8192 (id (constant S_ .f32 0xFF800000#32)))
/-- Their maxima. -/
def mx (s : FVec F S8x2048x8192 .f32) : FVec F S8x2048 .f32 :=
  Host.reduce FloatOps.maximumf s (constant S_ .f32 0xFF800000#32) reducesTo_S8x2048x8192_S8x2048_d2 h_S_
/-- The exponentials. -/
def ex (s : FVec F S8x2048x8192 .f32) (b : FVec F S8x2048 .f32) : FVec F S8x2048x8192 .f32 :=
  Host.exp (subf s (broadcastInDim S8x2048x8192 ![0, 1, 2] bcast_S8x2048x1_S8x2048x8192_0_1_2 (broadcastInDim S8x2048x1 ![0, 1] bcast_S8x2048_S8x2048x1_0_1 b)))
/-- Their sums. -/
def sm (e : FVec F S8x2048x8192 .f32) : FVec F S8x2048 .f32 :=
  Host.reduceAdd e (constant S_ .f32 0x00000000#32) reducesTo_S8x2048x8192_S8x2048_d2 h_S_
/-- The normalised weights. -/
def wn (rk : IVec S2048 1) (e : FVec F S8x2048x8192 .f32) (l : FVec F S8x2048 .f32) : FVec F S8x2048x8192 .f32 :=
  select (broadcastInDim S8x2048x8192 ![0, 1, 2] bcast_S1x2048x1_S8x2048x8192_0_1_2 (broadcastInDim S1x2048x1 ![1] bcast_S2048_S1x2048x1_1 rk))
    (Host.divf e (broadcastInDim S8x2048x8192 ![0, 1, 2] bcast_S8x2048x1_S8x2048x8192_0_1_2
      (select (broadcastInDim S8x2048x1 ![0, 1, 2] bcast_S1x2048x1_S8x2048x1_0_1_2 (broadcastInDim S1x2048x1 ![1] bcast_S2048_S1x2048x1_1 rk))
        (broadcastInDim S8x2048x1 ![0, 1] bcast_S8x2048_S8x2048x1_0_1 l)
        (broadcastInDim S8x2048x1 ![] bcast_S_S8x2048x1 (id (constant S_ .f32 0x3F800000#32))))))
    (broadcastInDim S8x2048x8192 ![] bcast_S_S8x2048x8192 (id (constant S_ .f32 0x00000000#32)))
/-- The context rows and the result. -/
def cx (p : FVec F S8x2048x8192 .f32) (v : FVec F S8192x1024 .bf16) : FVec F S2048x1024 .f32 :=
  shapeCast _ (transpose S2048x8x128 [2, 0, 1] (Host.dotGeneral dot_S8192x8x128_S8x2048x8192_S8x128x2048_0_2_2_1_1_0 none
    (extf .f32 (shapeCast _ v shapeCasts_S8192x1024_S8192x8x128 : FVec F S8192x8x128 .bf16) bitsLt_bf16_f32) p : FVec F S8x128x2048 .f32)
    transposes_S8x128x2048_S2048x8x128_2_0_1) shapeCasts_S2048x8x128_S2048x1024
def res (c : FVec F S2048x1024 .f32) (o : FVec F S1024x1024 .bf16) : FVec F S2048x1024 .f32 :=
  Host.dotGeneral dot_S2048x1024_S1024x1024_S2048x1024_1_0_0_1_n_n none c (extf .f32 o bitsLt_bf16_f32)

/-- The exponentials of the masked scores less their maxima. -/
def es (x : FVec F S2048x1024 .bf16) (w : FVec F S1024x1024 .bf16) (k : FVec F S8192x1024 .bf16) : FVec F S8x2048x8192 .f32 :=
  ex (sc x w k) (mx (sc x w k))
/-- The whole result. -/
def all (x : FVec F S2048x1024 .bf16) (w : FVec F S1024x1024 .bf16) (k v : FVec F S8192x1024 .bf16) (o : FVec F S1024x1024 .bf16) : FVec F S2048x1024 .f32 :=
  res (cx (wn rows (es x w k) (sm (es x w k))) v) o

theorem res_eq (m : (ℓ : Loc nD τ sig) → Buf (Elt F) ℓ) (c : Dev nD) :
    Value.res_main_v49 m c = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v49 all es res cx wn sm ex mx sc rows mask
  rfl

/-! ## Each stage at an index -/

theorem mask_at (i : Fin 2048) (j : Fin 8192) : mask (ix2 i j) = BitVec.ofBool (decide (keep i.val j.val)) := by
  unfold mask
  pointwise []
  rw [near_word _ _ (by omega) (by omega), show (32#32 : BitVec 32) = BitVec.ofNat 32 32 from rfl, slt_word _ _ (by omega) (by omega),
    slt_word _ _ (by omega) (by omega), ori_ofBool, ori_ofBool]
  congr 1
  rw [← Bool.decide_or, ← Bool.decide_or, decide_eq_decide]
  unfold keep; tauto

theorem rows_at (i : Fin 2048) : rows (ix1 i) = 1 := by
  unfold rows
  pointwise []
  refine (Routing.fold_ori Finset.univ (fun x : Fin 8192 => mask (ix2 i x))).2 ⟨0, Finset.mem_univ _, ?_⟩
  rw [mask_at]
  exact (one_iff _).2 (by unfold keep; simp)

theorem bot_word : Ideal.ofBits .f32 0xFF800000#32 = ⊥ := by simp [Ideal.ofBits, Ideal.ieee]

/-- The column `128 h + d`, as the reshapes spell it. -/
abbrev colR (h : Fin 8) (d : Fin 128) : Fin 1024 := ⟨h.val * 128 + d.val, by omega⟩

theorem sc_at (x : FVec Ideal S2048x1024 .bf16) (w : FVec Ideal S1024x1024 .bf16) (k : FVec Ideal S8192x1024 .bf16) (h : Fin 8) (i : Fin 2048) (j : Fin 8192) :
    sc x w k (ix3 h i j) = if keep i.val j.val
      then (∑ d : Fin 128, (∑ e : Fin 1024, x (ix2 i e) * w (ix2 e (colR h d))) * k (ix2 j (colR h d))) * Ideal.ofBits .f32 0x3DB504F3#32 else ⊥ := by
  unfold sc
  pointwise []
  rw [mask_at]
  exact if_congr (one_iff _) rfl bot_word
theorem mx_at (s : FVec Ideal S8x2048x8192 .f32) (h : Fin 8) (i : Fin 2048) :
    mx s (ix2 h i) = Finset.univ.fold max ⊥ fun j : Fin 8192 => s (ix3 h i j) := by
  unfold mx
  pointwise []
  rw [bot_word]
theorem ex_at (s : FVec Ideal S8x2048x8192 .f32) (b : FVec Ideal S8x2048 .f32) (h : Fin 8) (i : Fin 2048) (j : Fin 8192)  :
    ex s b (ix3 h i j) = Ideal.exp (s (ix3 h i j) - b (ix2 h i)) := by
  unfold ex
  pointwise []
theorem sm_at (s : FVec Ideal S8x2048x8192 .f32) (h : Fin 8) (i : Fin 2048) :
    sm s (ix2 h i) = ∑ j : Fin 8192, s (ix3 h i j) := by
  unfold sm
  pointwise []
theorem wn_at (rk : IVec S2048 1) (s : FVec Ideal S8x2048x8192 .f32) (l : FVec Ideal S8x2048 .f32) (h : Fin 8) (i : Fin 2048) (j : Fin 8192) (hr : rk (ix1 i) = 1) :
    wn rk s l (ix3 h i j) = Ideal.div (s (ix3 h i j)) (l (ix2 h i)) := by
  unfold wn
  pointwise []
  rw [hr]
  rfl
theorem cx_at (p : FVec Ideal S8x2048x8192 .f32) (v : FVec Ideal S8192x1024 .bf16) (i : Fin 2048) (c : Fin 1024) :
    cx p v (ix2 i c) = ∑ j : Fin 8192, v (ix2 j c) * p (ix3 (⟨c.val / 128, by omega⟩ : Fin 8) i j) := by
  unfold cx
  pointwise []
theorem res_at (c : FVec Ideal S2048x1024 .f32) (o : FVec Ideal S1024x1024 .bf16) (i : Fin 2048) (n : Fin 1024) :
    res c o (ix2 i n) = ∑ e : Fin 1024, c (ix2 i e) * o (ix2 e n) := by
  unfold res
  pointwise []

/-- A context element: the values weighted by the exponentials over their sum. -/
theorem ctx_ref (x : FVec Ideal S2048x1024 .bf16) (w : FVec Ideal S1024x1024 .bf16) (k v : FVec Ideal S8192x1024 .bf16) (i : Fin 2048) (c : Fin 1024) (h : Fin 8)
    (hh : h.val = c.val / 128) :
    cx (wn rows (es x w k) (sm (es x w k))) v (ix2 i c)
      = ∑ j : Fin 8192, v (ix2 j c) * Ideal.div (es x w k (ix3 h i j)) (∑ j' : Fin 8192, es x w k (ix3 h i j')) := by
  rw [cx_at]
  have e : (⟨c.val / 128, by omega⟩ : Fin 8) = h := Fin.ext hh.symm
  rw [e]
  refine Finset.sum_congr rfl fun j _ => ?_
  rw [wn_at _ _ _ _ _ _ (rows_at i), sm_at]

theorem es_at (x : FVec Ideal S2048x1024 .bf16) (w : FVec Ideal S1024x1024 .bf16) (k : FVec Ideal S8192x1024 .bf16) (h : Fin 8) (i : Fin 2048) (j : Fin 8192) :
    es x w k (ix3 h i j) = Ideal.exp (sc x w k (ix3 h i j) - Finset.univ.fold max ⊥ fun j : Fin 8192 => sc x w k (ix3 h i j)) := by
  unfold es
  rw [ex_at, mx_at]

end Cert.Ring.Ref

end
-- ==== Proof.Softmax.lean ====
module

public import Idealize.ShloMosaic.PureOps.Ideal.Laws
public import Mathlib.Data.Finset.Fold
public import Mathlib.Data.EReal.Operations

@[expose] public section

noncomputable section

namespace Cert.Ring

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r),
      mul_comm (r : EReal), mul_comm (r : EReal)]

/-- Exponentials less the maximum and divided by their sum weigh as plain exponentials do with one division at the end. -/
theorem softmax_plain {ι : Type} [Fintype ι] (p : ι → Prop) [DecidablePred p] (a : ι → ℝ) (v : ι → EReal) (j0 : ι) (hj0 : p j0) (s e : ι → EReal)
    (hs : ∀ j, s j = if p j then (a j : EReal) else ⊥) (he : ∀ j, e j = Ideal.exp (s j - Finset.univ.fold max ⊥ s)) :
    (∑ j, v j * Ideal.div (e j) (∑ j', e j'))
      = Ideal.div (∑ j, (if p j then Ideal.exp (a j) else 0) * v j) (∑ j, if p j then Ideal.exp (a j) else 0) := by
  have hM : ∃ m : ℝ, Finset.univ.fold max ⊥ s = (m : EReal) := by
    have h1 : Finset.univ.fold max ⊥ s < ⊤ := by
      rw [Finset.fold_max_lt]
      refine ⟨bot_lt_top, fun j _ => ?_⟩
      rw [hs]; split
      · exact EReal.coe_lt_top _
      · exact bot_lt_top
    have h2 : (a j0 : EReal) ≤ Finset.univ.fold max ⊥ s := by
      rw [Finset.le_fold_max]
      exact Or.inr ⟨j0, Finset.mem_univ _, by rw [hs, if_pos hj0]⟩
    refine ⟨(Finset.univ.fold max ⊥ s).toReal, (EReal.coe_toReal h1.ne ?_).symm⟩
    exact (lt_of_lt_of_le (EReal.bot_lt_coe _) h2).ne'
  obtain ⟨m, hm⟩ := hM
  let t : ι → ℝ := fun j => if p j then Real.exp (a j) else 0
  have ht : ∀ j, (if p j then Ideal.exp (a j) else 0 : EReal) = (t j : EReal) := by
    intro j; show _ = ((if p j then Real.exp (a j) else 0 : ℝ) : EReal)
    split
    · exact Ideal.exp_coe _
    · rfl
  have hE : ∀ j, e j = ((t j * Real.exp (-m) : ℝ) : EReal) := by
    intro j
    rw [he, hs, hm]
    show _ = (((if p j then Real.exp (a j) else 0) * Real.exp (-m) : ℝ) : EReal)
    split
    · rw [← EReal.coe_sub, Ideal.exp_coe, ← Real.exp_add, sub_eq_add_neg]
    · rw [EReal.bot_sub, Ideal.exp_bot, zero_mul]; rfl
  have h0 : ∀ j, 0 ≤ t j := by
    intro j; show 0 ≤ (if p j then Real.exp (a j) else 0 : ℝ)
    split
    · exact (Real.exp_pos _).le
    · exact le_refl _
  have hS : 0 < ∑ j, t j := by
    refine Finset.sum_pos' (fun j _ => h0 j) ⟨j0, Finset.mem_univ _, ?_⟩
    show 0 < (if p j0 then Real.exp (a j0) else 0 : ℝ)
    rw [if_pos hj0]; exact Real.exp_pos _
  have hc : 0 < Real.exp (-m) := Real.exp_pos _
  have hL : ∑ j, e j = (((∑ j, t j) * Real.exp (-m) : ℝ) : EReal) := by
    rw [Finset.sum_mul, coe_sum]; exact Finset.sum_congr rfl fun j _ => hE j
  simp only [ht]
  rw [hL, ← coe_sum, Ideal.div_coe hS.ne', sum_mul_real _ _ _ (by positivity)]
  refine Finset.sum_congr rfl fun j _ => ?_
  have e : t j * Real.exp (-m) * (1 / ((∑ j, t j) * Real.exp (-m))) = t j * (1 / ∑ j, t j) := by field_simp
  rw [Ideal.div_coe (mul_pos hS hc).ne', hE, ← EReal.coe_mul, e, EReal.coe_mul, ← mul_assoc, mul_comm (v j)]

/-- Over the reals the scale may multiply each query or the whole score. -/
theorem scale_out {ι : Type} (s : Finset ι) (f g : ι → ℝ) (r : ℝ) :
    (∑ d ∈ s, ((f d : EReal) * (r : EReal)) * (g d : EReal)) = (∑ d ∈ s, (f d : EReal) * (g d : EReal)) * (r : EReal) := by
  simp only [← EReal.coe_mul, ← coe_sum]
  rw [Finset.sum_mul]
  congr 1
  exact Finset.sum_congr rfl fun d _ => by ring

theorem real_sum {ι : Type} (s : Finset ι) (f g : ι → ℝ) : (∑ d ∈ s, (f d : EReal) * (g d : EReal)) = ((∑ d ∈ s, f d * g d : ℝ) : EReal) := by
  simp only [← EReal.coe_mul, ← coe_sum]

theorem scale_real : ∃ r : ℝ, Ideal.ofBits .f32 0x3DB504F3#32 = (r : EReal) := by
  refine ⟨(Ideal.ofBits .f32 0x3DB504F3#32).toReal, (EReal.coe_toReal ?_ ?_).symm⟩
  · simp [Ideal.ofBits, Ideal.ieee, -EReal.coe_mul]
  · simp [Ideal.ofBits, Ideal.ieee, -EReal.coe_mul]

theorem top_word : Ideal.ofBits .f32 0x7F800000#32 = ⊤ := by simp [Ideal.ofBits, Ideal.ieee]

end Cert.Ring

end
-- ==== Proof.Value.lean ====
module

public import proofs.«01_k».proof.Proof.Read4
public import proofs.«01_k».proof.Proof.RefRead
public import proofs.«01_k».proof.Proof.Softmax

@[expose] public section

noncomputable section

namespace Cert.Ring

open Idealize.ShloMosaic
open Idealize.ShloMosaic.TcCoe
open scoped BigOperators

section Match

variable (x : Cert.ReferenceIdeal.S2048x1024.Idx → EReal) (w : Cert.ReferenceIdeal.S1024x1024.Idx → EReal)
  (k v : Cert.ReferenceIdeal.S8192x1024.Idx → EReal) (o : Cert.ReferenceIdeal.S1024x1024.Idx → EReal)
  (xr : Fin 2048 → Fin 1024 → ℝ) (wr : Fin 1024 → Fin 1024 → ℝ) (kr : Fin 8192 → Fin 1024 → ℝ)

/-- Place `2048 c + j` among all keys. -/
abbrev place (c : Fin 4) (j : Fin 2048) : Fin 8192 := ⟨c.val * 2048 + j.val, by omega⟩

/-- The real score of query `i`, head `h`, key `j`. -/
def scoreR (s : ℝ) (h : Fin 8) (i : Fin 2048) (j : Fin 8192) : ℝ :=
  (∑ d : Fin 128, (∑ e : Fin 1024, xr i e * wr e (col h d)) * kr j (col h d)) * s

theorem score_kernel (hx : ∀ i e, x (ix2 i e) = (xr i e : EReal)) (hw : ∀ i e, w (ix2 i e) = (wr i e : EReal)) (hk : ∀ i e, k (ix2 i e) = (kr i e : EReal))
    (s : ℝ) (hs : scale = (s : EReal)) (h : Fin 8) (i : Fin 2048) (j : Fin 8192) :
    (∑ d : Fin 128, ((∑ e : Fin 1024, mA x i e * mW w e (col h d)) * scale) * k (ix2 j (col h d))) = (scoreR xr wr kr s h i j : EReal) := by
  unfold scoreR
  simp only [hx, hw, hk, hs, real_sum]
  rw [scale_out, real_sum, ← EReal.coe_mul]

theorem score_ref (hx : ∀ i e, x (ix2 i e) = (xr i e : EReal)) (hw : ∀ i e, w (ix2 i e) = (wr i e : EReal)) (hk : ∀ i e, k (ix2 i e) = (kr i e : EReal))
    (s : ℝ) (hs : scale = (s : EReal)) (h : Fin 8) (i : Fin 2048) (j : Fin 8192) :
    (∑ d : Fin 128, (∑ e : Fin 1024, x (ix2 i e) * w (ix2 e (Ref.colR h d))) * k (ix2 j (Ref.colR h d))) * Ideal.ofBits .f32 0x3DB504F3#32
      = (scoreR xr wr kr s h i j : EReal) := by
  have e : ∀ d, Ref.colR h d = col h d := fun d => Fin.ext (by show h.val * 128 + d.val = 128 * h.val + d.val; omega)
  have hs' : Ideal.ofBits .f32 0x3DB504F3#32 = (s : EReal) := hs
  unfold scoreR
  simp only [e, hx, hw, hk, hs', real_sum]
  rw [← EReal.coe_mul]

theorem num_all (K V : Fin 4 → MX) (hK : ∀ c j e, K c j e = k (ix2 (place c j) e)) (hV : ∀ c j e, V c j e = v (ix2 (place c j) e))
    (i : Fin 2048) (h : Fin 8) (d : Fin 128) :
    numG (mA x) (mW w) K V i h d = ∑ j : Fin 8192, wtOf (mA x) (mW w) i h (fun e => k (ix2 j e)) j.val * v (ix2 j (col h d)) := by
  rw [Fin.sum_univ_tiles 4 2048 (by decide)]
  unfold numG numD
  refine Finset.sum_congr rfl fun c _ => Finset.sum_congr rfl fun j _ => ?_
  rw [hV, show K c j = fun e => k (ix2 (place c j) e) from funext fun e => hK c j e, Nat.mul_comm 2048]
theorem den_all (K : Fin 4 → MX) (hK : ∀ c j e, K c j e = k (ix2 (place c j) e)) (i : Fin 2048) (h : Fin 8) :
    denG (mA x) (mW w) K i h = ∑ j : Fin 8192, wtOf (mA x) (mW w) i h (fun e => k (ix2 j e)) j.val := by
  rw [Fin.sum_univ_tiles 4 2048 (by decide)]
  unfold denG denD
  refine Finset.sum_congr rfl fun c _ => Finset.sum_congr rfl fun j _ => ?_
  rw [show K c j = fun e => k (ix2 (place c j) e) from funext fun e => hK c j e, Nat.mul_comm 2048]

/-- A context element of the kernel is the reference's. -/
theorem ctx_match (hx : ∀ i e, x (ix2 i e) = (xr i e : EReal)) (hw : ∀ i e, w (ix2 i e) = (wr i e : EReal)) (hk : ∀ i e, k (ix2 i e) = (kr i e : EReal))
    (K V : Fin 4 → MX) (hK : ∀ c j e, K c j e = k (ix2 (place c j) e)) (hV : ∀ c j e, V c j e = v (ix2 (place c j) e)) (i : Fin 2048) (c : Fin 1024) :
    Ideal.div (numG (mA x) (mW w) K V i (hC c) (dC c)) (denG (mA x) (mW w) K i (hC c))
      = Ref.cx (F := Ideal) (Ref.wn Ref.rows (Ref.es (F := Ideal) x w k) (Ref.sm (Ref.es (F := Ideal) x w k))) v (ix2 i c) := by
  obtain ⟨s, hs⟩ := scale_real
  have hc : col (hC c) (dC c) = c := Fin.ext (by show 128 * (c.val / 128) + c.val % 128 = c.val; omega)
  have hwt : ∀ j : Fin 8192, wtOf (mA x) (mW w) i (hC c) (fun e => k (ix2 j e)) j.val
      = if keep i.val j.val then Ideal.exp (scoreR xr wr kr s (hC c) i j : EReal) else 0 := by
    intro j
    unfold wtOf
    rw [score_kernel x w k xr wr kr hx hw hk s hs]
  rw [num_all x w k v K V hK hV, den_all x w k K hK, Ref.ctx_ref x w k v i c (hC c) rfl, hc]
  simp only [hwt]
  refine (softmax_plain (fun j : Fin 8192 => keep i.val j.val) (fun j => scoreR xr wr kr s (hC c) i j) (fun j => v (ix2 j c)) 0
    (by unfold keep; simp) (fun j => Ref.sc (F := Ideal) x w k (ix3 (hC c) i j)) (fun j => Ref.es (F := Ideal) x w k (ix3 (hC c) i j)) (fun j => ?_) (fun j => ?_)).symm
  · rw [Ref.sc_at, score_ref x w k xr wr kr hx hw hk s hs]
  · exact Ref.es_at x w k (hC c) i j

end Match

end Cert.Ring

end
-- ==== Proof.Join.lean ====
module

public import proofs.«01_k».proof.Defs
public import proofs.«01_k».proof.Proof.Frames
public import proofs.«01_k».proof.Proof.Value
public import proofs.«01_k».proof.Proof.Gen.Pre_finite_KernelIdeal
public import proofs.«01_k».proof.Proof.Gen.Pre_finite_ReferenceIdeal
public import Idealize.ShloMosaic.Lib.ReduceAll
public import Idealize.ShloMosaic.Lib.Pointwise

@[expose] public section

noncomputable section

namespace Cert.Ring

open Cert.KernelIdeal Cert.KernelIdeal.Gen
open Idealize.ShloMosaic
open Idealize.ShloMosaic.TcCoe
open Idealize.SL.Sem
open scoped BigOperators

/-! ## The precondition: `x`, `Wq` and `K` are real -/

instance : Subsingleton (Cert.Pre_finite_KernelIdeal.S_).Idx := ⟨fun a b => funext fun i => i.elim0⟩

theorem real_of_lt (a : EReal) (h : BitVec.ofBool (decide (max a (-a) < Ideal.ofBits .f32 0x7F800000#32)) = 1#1) : ∃ r : ℝ, a = (r : EReal) := by
  have h' : max a (-a) < ⊤ := by rw [← top_word]; exact (one_iff _).1 h
  refine ⟨a.toReal, (EReal.coe_toReal ?_ ?_).symm⟩
  · rintro rfl; exact absurd ((le_max_left _ _).trans_lt h') (lt_irrefl _)
  · rintro rfl; exact absurd ((le_max_right _ _).trans_lt h') (by rw [EReal.neg_bot]; exact lt_irrefl _)

theorem pre_real (a : FVec Ideal Cert.Pre_finite_KernelIdeal.S2048x1024 .bf16) (b : FVec Ideal Cert.Pre_finite_KernelIdeal.S1024x1024 .bf16)
    (c d : FVec Ideal Cert.Pre_finite_KernelIdeal.S2048x1024 .bf16) (e : FVec Ideal Cert.Pre_finite_KernelIdeal.S1024x1024 .bf16)
    (h : Cert.Pre_finite_KernelIdeal.fn (F := Ideal) a b c d e = fun _ => 1#1) :
    (∀ i, ∃ r : ℝ, a i = (r : EReal)) ∧ (∀ i, ∃ r : ℝ, b i = (r : EReal)) ∧ (∀ i, ∃ r : ℝ, c i = (r : EReal)) := by
  have h0 := congrFun h (Shape.Idx.first (by decide))
  unfold Cert.Pre_finite_KernelIdeal.fn at h0
  have split : ∀ p q : BitVec 1, IntOp.andi p q = 1#1 → p = 1#1 ∧ q = 1#1 := by decide
  obtain ⟨h1, hc⟩ := split _ _ h0
  obtain ⟨ha, hb⟩ := split _ _ h1
  exact ⟨fun i => real_of_lt _ (Host.reduce_andi_all _ _ _ _ _ ha i), fun i => real_of_lt _ (Host.reduce_andi_all _ _ _ _ _ hb i),
    fun i => real_of_lt _ (Host.reduce_andi_all _ _ _ _ _ hc i)⟩

/-! ## The devices' blocks -/

theorem block_at (v : Cert.ReferenceIdeal.S8192x1024.Idx → EReal) (c : Fin 4) (j : Fin 2048) (e : Fin 1024) :
    (Layout.block ⟨2, ![2048, 1024]⟩ ⟨2, ![8192, 1024]⟩ 0 4 c v : S2048x1024.Idx → EReal) (ix2 j e) = v (ix2 (place c j) e) := by
  refine congrArg v (funext fun a => Fin.ext ?_)
  match a with
  | 0 => rfl
  | 1 => rfl

variable (m : (ℓ : Loc nD τ sig) → Buf (Elt Ideal) ℓ) (ρ : Dev nD → PrngReg)

theorem Xm_eq (c : Dev nD) : Xm m ρ c = m ((c.tc : Thread nD τ).loc main_arg0) :=
  Memref.read_access_unit_zero (Elt Ideal) main_arg0 (show (fun a => (win0_0.index (0 : Fin 1)) a * main_arg0.ty.shape.size a) = fun _ => 0 from
    funext fun a => by fin_cases a <;> decide) (fun a => by fin_cases a <;> decide) _
theorem Wm_eq (c : Dev nD) : Wm m ρ c = m ((c.tc : Thread nD τ).loc main_arg1) :=
  Memref.read_access_unit_zero (Elt Ideal) main_arg1 (show (fun a => (win0_1.index (0 : Fin 1)) a * main_arg1.ty.shape.size a) = fun _ => 0 from
    funext fun a => by fin_cases a <;> decide) (fun a => by fin_cases a <;> decide) _
theorem Km_eq (c : Dev nD) : Km m ρ c = m ((c.tc : Thread nD τ).loc main_arg2) :=
  Memref.read_access_unit_zero (Elt Ideal) main_arg2 (show (fun a => (win0_2.index (0 : Fin 1)) a * main_arg2.ty.shape.size a) = fun _ => 0 from
    funext fun a => by fin_cases a <;> decide) (fun a => by fin_cases a <;> decide) _
theorem Vm_eq (c : Dev nD) : Vm m ρ c = m ((c.tc : Thread nD τ).loc main_arg3) :=
  Memref.read_access_unit_zero (Elt Ideal) main_arg3 (show (fun a => (win0_3.index (0 : Fin 1)) a * main_arg3.ty.shape.size a) = fun _ => 0 from
    funext fun a => by fin_cases a <;> decide) (fun a => by fin_cases a <;> decide) _
theorem Om_eq (c : Dev nD) : Om m ρ c = m ((c.tc : Thread nD τ).loc main_arg4) :=
  Memref.read_access_unit_zero (Elt Ideal) main_arg4 (show (fun a => (win0_4.index (0 : Fin 1)) a * main_arg4.ty.shape.size a) = fun _ => 0 from
    funext fun a => by fin_cases a <;> decide) (fun a => by fin_cases a <;> decide) _
theorem result_eq (c : Dev nD) : finalA m ρ c (5 : Fin 6) = outm m ρ c :=
  (Memref.read_access_unit_zero (Elt Ideal) main_v1 (show (fun a => (win0_5.index (0 : Fin 1)) a * main_v1.ty.shape.size a) = fun _ => 0 from
    funext fun a => by fin_cases a <;> decide) (fun a => by fin_cases a <;> decide) _).symm.trans (finalA_out m ρ c)

/-- What every device stores is the reference's result. -/
theorem out_ref (x : Cert.ReferenceIdeal.S2048x1024.Idx → EReal) (w : Cert.ReferenceIdeal.S1024x1024.Idx → EReal)
    (k v : Cert.ReferenceIdeal.S8192x1024.Idx → EReal) (o : Cert.ReferenceIdeal.S1024x1024.Idx → EReal)
    (hx : ∀ c, Xm m ρ c = x) (hw : ∀ c, Wm m ρ c = w) (ho : ∀ c, Om m ρ c = o)
    (hk : ∀ c, Km m ρ c = Layout.block ⟨2, ![2048, 1024]⟩ ⟨2, ![8192, 1024]⟩ 0 4 c k) (hv : ∀ c, Vm m ρ c = Layout.block ⟨2, ![2048, 1024]⟩ ⟨2, ![8192, 1024]⟩ 0 4 c v)
    (fx : ∀ i, ∃ r : ℝ, x i = (r : EReal)) (fw : ∀ i, ∃ r : ℝ, w i = (r : EReal)) (fk : ∀ i, ∃ r : ℝ, k i = (r : EReal)) (c : Dev nD) :
    outm m ρ c = Ref.all (F := Ideal) x w k v o := by
  choose xr hxr using fx
  choose wr hwr using fw
  choose kr hkr using fk
  have hT : ∀ d, Tm m ρ d = packed (F := Ideal) x w (Km m ρ d) (Vm m ρ d) (koffOf d) := fun d => by
    unfold Tm; rw [hx d, hw d]
  funext y
  obtain ⟨i, n, rfl⟩ : ∃ (i : Fin 2048) (n : Fin 1024), y = ix2 i n := ⟨y 0, y 1, eq_ix2 y⟩
  unfold outm Ref.all
  refine (out_at c _ _ i n).trans (Eq.trans ?_ (Ref.res_at _ _ i n).symm)
  refine Finset.sum_congr rfl fun e _ => ?_
  rw [ho c]
  refine congrArg (· * mW o e n) ?_
  unfold Bm
  rw [hx 0, hw 0]
  refine (ctx_at x w (Km m ρ) (Vm m ρ) (Tm m ρ) hT i e).trans ?_
  exact ctx_match x w k v (fun i e => xr (ix2 i e)) (fun i e => wr (ix2 i e)) (fun i e => kr (ix2 i e)) (fun i e => hxr _) (fun i e => hwr _) (fun i e => hkr _)
    (fun c => mA (Km m ρ c)) (fun c => mA (Vm m ρ c)) (fun c j e => by show Km m ρ c (ix2 j e) = _; rw [hk c]; exact block_at k c j e)
    (fun c j e => by show Vm m ρ c (ix2 j e) = _; rw [hv c]; exact block_at v c j e) i e

theorem algebraic : Cert.algebraic_KernelIdeal_ReferenceIdeal_pre_finite_KernelIdeal := by
  intro m ρ m' ρ' hpre hag
  have hp := fun c => pre_real _ _ _ _ _ (hpre c)
  have hout := fun c => out_ref m ρ _ _ _ _ _ (fun c => (Xm_eq m ρ c).trans (hag c).1) (fun c => (Wm_eq m ρ c).trans (hag c).2.1)
    (fun c => (Om_eq m ρ c).trans (hag c).2.2.2.2) (fun c => (Km_eq m ρ c).trans (hag c).2.2.1) (fun c => (Vm_eq m ρ c).trans (hag c).2.2.2.1)
    (fun i => by obtain ⟨r, hr⟩ := (hp 0).1 i; exact ⟨r, (congrFun (hag 0).1 i).symm.trans hr⟩)
    (fun i => by obtain ⟨r, hr⟩ := (hp 0).2.1 i; exact ⟨r, (congrFun (hag 0).2.1 i).symm.trans hr⟩)
    (fun J => by
      obtain ⟨j, e, rfl⟩ : ∃ (j : Fin 8192) (e : Fin 1024), J = ix2 j e := ⟨J 0, J 1, eq_ix2 J⟩
      obtain ⟨r, hr⟩ := (hp ⟨j.val / 2048, by show j.val / 2048 < 4; omega⟩).2.2 (ix2 (⟨j.val % 2048, Nat.mod_lt _ (by decide)⟩ : Fin 2048) e)
      refine ⟨r, Eq.trans ?_ hr⟩
      rw [(hag _).2.2.1]
      refine Eq.trans ?_ (block_at _ _ _ e).symm
      exact congrArg (fun t => m' (((0 : Dev Cert.ReferenceIdeal.nD).tc : Thread Cert.ReferenceIdeal.nD Cert.ReferenceIdeal.τ).loc Cert.ReferenceIdeal.main_arg2) (ix2 t e))
        (Fin.ext (by show j.val = j.val / 2048 * 2048 + j.val % 2048; omega))) c
  refine ⟨Cert.ReferenceIdeal.Value.res_main_v49 m' 0, ?_, ?_⟩
  · exact (θ_run Cert.KernelIdeal.defs _ _).mono
      (fun _ h c => ⟨((h.1 c 5).trans (result_eq m ρ c)).trans ((hout c).trans (Ref.res_eq m' 0).symm), (h.1 c 0).trans (finalA_in m ρ c 0 rfl), (h.1 c 1).trans (finalA_in m ρ c 1 rfl),
        (h.1 c 2).trans (finalA_in m ρ c 2 rfl), (h.1 c 3).trans (finalA_in m ρ c 3 rfl), (h.1 c 4).trans (finalA_in m ρ c 4 rfl)⟩)
      (run_main m ρ)
  · exact (θ_run Cert.ReferenceIdeal.defs _ _).mono (fun _ h => h 0) (Cert.ReferenceIdeal.Value.run m' ρ')

theorem frame_ideal_pre : Cert.quiescent_KernelIdeal_pre_finite_KernelIdeal := fun m ρ _ => frame_any (F := Ideal) m ρ
theorem frame_ref_pre : Cert.quiescent_ReferenceIdeal_pre_finite_ReferenceIdeal := fun m ρ _ => frame_ref m ρ trivial

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Join
public import proofs.«01_k».proof.Proof.Gen.Pre_finite_KernelIdeal
public import proofs.«01_k».proof.Proof.Gen.Pre_finite_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Ring.frame_kernel, Cert.Ring.frame_ideal, Cert.Ring.frame_ideal_pre, Cert.Ring.frame_ref, Cert.Ring.frame_ref_pre, trivial,
  Cert.Ring.algebraic⟩

end Cert.Proof

end
